-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x1024 : Shape := ⟨2, ![1024, 1024]⟩
abbrev S3x1024x512 : Shape := ⟨3, ![3, 1024, 512]⟩
abbrev S512x1024 : Shape := ⟨2, ![512, 1024]⟩
abbrev S3x1024x1024 : Shape := ⟨3, ![3, 1024, 1024]⟩
abbrev S8 : Shape := ⟨1, ![8]⟩
abbrev S7 : Shape := ⟨1, ![7]⟩
abbrev S3x4 : Shape := ⟨2, ![3, 4]⟩
abbrev S_ : Shape := ⟨0, ![]⟩
abbrev S1 : Shape := ⟨1, ![1]⟩
abbrev S1x1 : Shape := ⟨2, ![1, 1]⟩
abbrev S1x256x512 : Shape := ⟨3, ![1, 256, 512]⟩
abbrev S256x512 : Shape := ⟨2, ![256, 512]⟩
abbrev S1x1024x512 : Shape := ⟨3, ![1, 1024, 512]⟩
abbrev S1024x512 : Shape := ⟨2, ![1024, 512]⟩
abbrev S1x1024x1024 : Shape := ⟨3, ![1, 1024, 1024]⟩
abbrev S256x1024 : Shape := ⟨2, ![256, 1024]⟩
abbrev S1x256x1024 : Shape := ⟨3, ![1, 256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .bf16⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4096x1024, .bf16⟩
  | .local _ .vmem, ⟨3, _⟩ => ⟨S3x1024x512, .bf16⟩
  | .local _ .vmem, ⟨4, _⟩ => ⟨S3x1024x512, .bf16⟩
  | .local _ .vmem, ⟨5, _⟩ => ⟨S512x1024, .f32⟩
  | .local _ .vmem, ⟨6, _⟩ => ⟨S512x1024, .f32⟩
  | .local _ .vmem, ⟨7, _⟩ => ⟨S3x1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 113 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | _ => false

abbrev sig : RefSig :=
  (ofTc nBuf bufTy 1 113 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_25 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_19 : BitVec 32 := 4#32
  let c0_i32_20 : BitVec 32 := 0#32
  let v30 : BitVec 1 := Scalar.cmpi .eq c4_i32_19 c0_i32_20
  let c1_i32_21 : BitVec 32 := 1#32
  let v31 : BitVec 32 := Scalar.select v30 c1_i32_21 c4_i32_19
  let v32 : BitVec 32 := Scalar.remsi v2 v31
  let c0_i32_23 : BitVec 32 := 0#32
  let v34 : BitVec 1 := Scalar.cmpi .slt v32 c0_i32_23
  let c0_i32_24 : BitVec 32 := 0#32
  let v35 : BitVec 1 := Scalar.cmpi .slt v31 c0_i32_24
  let v36 : BitVec 1 := Scalar.xori v34 v35
  let c0_i32_22 : BitVec 32 := 0#32
  let v33 : BitVec 1 := Scalar.cmpi .ne v32 c0_i32_22
  let v37 : BitVec 1 := Scalar.andi v36 v33
  let v38 : BitVec 32 := Scalar.addi v32 v31
  let v39 : BitVec 32 := Scalar.select v37 v38 v32
  let c1024_i32 : BitVec 32 := 1024#32
  let v40 : BitVec 32 := Scalar.muli v39 c1024_i32
  let v41 : BitVec 32 := Scalar.addi v40 c0_i32_25
  let c0_i32_27 : BitVec 32 := 0#32
  ![v41.toNat, 0]
def k0_off2 (d0 : Dev nD) (c0_i32_49 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_39 : BitVec 32 := 4#32
  let c0_i32_40 : BitVec 32 := 0#32
  let v63 : BitVec 1 := Scalar.cmpi .eq c4_i32_39 c0_i32_40
  let c1_i32_41 : BitVec 32 := 1#32
  let v64 : BitVec 32 := Scalar.select v63 c1_i32_41 c4_i32_39
  let v65 : BitVec 32 := Scalar.remsi v2 v64
  let c0_i32_43 : BitVec 32 := 0#32
  let v67 : BitVec 1 := Scalar.cmpi .slt v65 c0_i32_43
  let c0_i32_44 : BitVec 32 := 0#32
  let v68 : BitVec 1 := Scalar.cmpi .slt v64 c0_i32_44
  let v69 : BitVec 1 := Scalar.xori v67 v68
  let c0_i32_42 : BitVec 32 := 0#32
  let v66 : BitVec 1 := Scalar.cmpi .ne v65 c0_i32_42
  let v70 : BitVec 1 := Scalar.andi v69 v66
  let v71 : BitVec 32 := Scalar.addi v65 v64
  let v72 : BitVec 32 := Scalar.select v70 v71 v65
  let c1024_i32_48 : BitVec 32 := 1024#32
  let v79 : BitVec 32 := Scalar.muli v72 c1024_i32_48
  let v80 : BitVec 32 := Scalar.addi v79 c0_i32_49
  let v81 : Index := Scalar.indexCast v80
  let c0_50 : Index := 0#32
  ![v81.toNat, 0]
def k0_off3 (d0 : Dev nD) (c0_i32_52 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_51 : BitVec 32 := 1024#32
  let v85 : BitVec 32 := Scalar.muli v2 c1024_i32_51
  let v86 : BitVec 32 := Scalar.addi v85 c0_i32_52
  let c0_i32_62 : BitVec 32 := 0#32
  ![v86.toNat, 0]
def k0_dev3 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_58 : BitVec 32 := 1#32
  let v87 : BitVec 32 := Scalar.muli v24 c1_i32_58
  let v88 : BitVec 32 := Scalar.addi c0_i32_59 v87
  v88.toNat
def k0_dev4 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_69 : BitVec 32 := 1#32
  let v98 : BitVec 32 := Scalar.muli v24 c1_i32_69
  let v99 : BitVec 32 := Scalar.addi c0_i32_70 v98
  v99.toNat
def k0_off4 (d0 : Dev nD) (c0_i32_75 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_74 : BitVec 32 := 1024#32
  let v107 : BitVec 32 := Scalar.muli v2 c1024_i32_74
  let v108 : BitVec 32 := Scalar.addi v107 c0_i32_75
  let c512_i32_85 : BitVec 32 := 512#32
  ![v108.toNat, 512]
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_81 : BitVec 32 := 1#32
  let v109 : BitVec 32 := Scalar.muli v13 c1_i32_81
  let v110 : BitVec 32 := Scalar.addi c0_i32_82 v109
  v110.toNat
def k0_dev6 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_93 : BitVec 32 := 1#32
  let v120 : BitVec 32 := Scalar.muli v13 c1_i32_93
  let v121 : BitVec 32 := Scalar.addi c0_i32_94 v120
  v121.toNat
def k0_off5 (d0 : Dev nD) (c0_i32_106 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_98 : BitVec 32 := 1#32
  let v129 : BitVec 32 := Scalar.subi v2 c1_i32_98
  let c4_i32_99 : BitVec 32 := 4#32
  let c0_i32_100 : BitVec 32 := 0#32
  let v130 : BitVec 1 := Scalar.cmpi .eq c4_i32_99 c0_i32_100
  let c1_i32_101 : BitVec 32 := 1#32
  let v131 : BitVec 32 := Scalar.select v130 c1_i32_101 c4_i32_99
  let v132 : BitVec 32 := Scalar.remsi v129 v131
  let c0_i32_103 : BitVec 32 := 0#32
  let v134 : BitVec 1 := Scalar.cmpi .slt v132 c0_i32_103
  let c0_i32_104 : BitVec 32 := 0#32
  let v135 : BitVec 1 := Scalar.cmpi .slt v131 c0_i32_104
  let v136 : BitVec 1 := Scalar.xori v134 v135
  let c0_i32_102 : BitVec 32 := 0#32
  let v133 : BitVec 1 := Scalar.cmpi .ne v132 c0_i32_102
  let v137 : BitVec 1 := Scalar.andi v136 v133
  let v138 : BitVec 32 := Scalar.addi v132 v131
  let v139 : BitVec 32 := Scalar.select v137 v138 v132
  let c1024_i32_105 : BitVec 32 := 1024#32
  let v140 : BitVec 32 := Scalar.muli v139 c1024_i32_105
  let v141 : BitVec 32 := Scalar.addi v140 c0_i32_106
  let c0_i32_108 : BitVec 32 := 0#32
  ![v141.toNat, 0]
def k0_dev7 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_132 : BitVec 32 := 1#32
  let v172 : BitVec 32 := Scalar.muli v24 c1_i32_132
  let v173 : BitVec 32 := Scalar.addi c0_i32_133 v172
  v173.toNat
def k0_dev8 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_142 : BitVec 32 := 1#32
  let v183 : BitVec 32 := Scalar.muli v24 c1_i32_142
  let v184 : BitVec 32 := Scalar.addi c0_i32_143 v183
  v184.toNat
def k0_dev9 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_154 : BitVec 32 := 1#32
  let v194 : BitVec 32 := Scalar.muli v13 c1_i32_154
  let v195 : BitVec 32 := Scalar.addi c0_i32_155 v194
  v195.toNat
def k0_dev10 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_166 : BitVec 32 := 1#32
  let v205 : BitVec 32 := Scalar.muli v13 c1_i32_166
  let v206 : BitVec 32 := Scalar.addi c0_i32_167 v205
  v206.toNat
def k0_off6 (d0 : Dev nD) (c1_i32_171 : BitVec 32) (c0_i32_179 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v214 : BitVec 32 := Scalar.addi v2 c1_i32_171
  let c4_i32_172 : BitVec 32 := 4#32
  let c0_i32_173 : BitVec 32 := 0#32
  let v215 : BitVec 1 := Scalar.cmpi .eq c4_i32_172 c0_i32_173
  let c1_i32_174 : BitVec 32 := 1#32
  let v216 : BitVec 32 := Scalar.select v215 c1_i32_174 c4_i32_172
  let v217 : BitVec 32 := Scalar.remsi v214 v216
  let c0_i32_176 : BitVec 32 := 0#32
  let v219 : BitVec 1 := Scalar.cmpi .slt v217 c0_i32_176
  let c0_i32_177 : BitVec 32 := 0#32
  let v220 : BitVec 1 := Scalar.cmpi .slt v216 c0_i32_177
  let v221 : BitVec 1 := Scalar.xori v219 v220
  let c0_i32_175 : BitVec 32 := 0#32
  let v218 : BitVec 1 := Scalar.cmpi .ne v217 c0_i32_175
  let v222 : BitVec 1 := Scalar.andi v221 v218
  let v223 : BitVec 32 := Scalar.addi v217 v216
  let v224 : BitVec 32 := Scalar.select v222 v223 v217
  let c1024_i32_178 : BitVec 32 := 1024#32
  let v225 : BitVec 32 := Scalar.muli v224 c1024_i32_178
  let v226 : BitVec 32 := Scalar.addi v225 c0_i32_179
  let c0_i32_181 : BitVec 32 := 0#32
  ![v226.toNat, 0]
def k0_off7 (d0 : Dev nD) (c0_i32_197 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_184 : BitVec 32 := 1#32
  let v233 : BitVec 32 := Scalar.subi v2 c1_i32_184
  let c4_i32_185 : BitVec 32 := 4#32
  let c0_i32_186 : BitVec 32 := 0#32
  let v234 : BitVec 1 := Scalar.cmpi .eq c4_i32_185 c0_i32_186
  let c1_i32_187 : BitVec 32 := 1#32
  let v235 : BitVec 32 := Scalar.select v234 c1_i32_187 c4_i32_185
  let v236 : BitVec 32 := Scalar.remsi v233 v235
  let c0_i32_189 : BitVec 32 := 0#32
  let v238 : BitVec 1 := Scalar.cmpi .slt v236 c0_i32_189
  let c0_i32_190 : BitVec 32 := 0#32
  let v239 : BitVec 1 := Scalar.cmpi .slt v235 c0_i32_190
  let v240 : BitVec 1 := Scalar.xori v238 v239
  let c0_i32_188 : BitVec 32 := 0#32
  let v237 : BitVec 1 := Scalar.cmpi .ne v236 c0_i32_188
  let v241 : BitVec 1 := Scalar.andi v240 v237
  let v242 : BitVec 32 := Scalar.addi v236 v235
  let v243 : BitVec 32 := Scalar.select v241 v242 v236
  let c1024_i32_196 : BitVec 32 := 1024#32
  let v250 : BitVec 32 := Scalar.muli v243 c1024_i32_196
  let v251 : BitVec 32 := Scalar.addi v250 c0_i32_197
  let v252 : Index := Scalar.indexCast v251
  let c0_198 : Index := 0#32
  ![v252.toNat, 0]
def k0_off8 (d0 : Dev nD) (c1_i32_212 : BitVec 32) (c0_i32_225 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v275 : BitVec 32 := Scalar.addi v2 c1_i32_212
  let c4_i32_213 : BitVec 32 := 4#32
  let c0_i32_214 : BitVec 32 := 0#32
  let v276 : BitVec 1 := Scalar.cmpi .eq c4_i32_213 c0_i32_214
  let c1_i32_215 : BitVec 32 := 1#32
  let v277 : BitVec 32 := Scalar.select v276 c1_i32_215 c4_i32_213
  let v278 : BitVec 32 := Scalar.remsi v275 v277
  let c0_i32_217 : BitVec 32 := 0#32
  let v280 : BitVec 1 := Scalar.cmpi .slt v278 c0_i32_217
  let c0_i32_218 : BitVec 32 := 0#32
  let v281 : BitVec 1 := Scalar.cmpi .slt v277 c0_i32_218
  let v282 : BitVec 1 := Scalar.xori v280 v281
  let c0_i32_216 : BitVec 32 := 0#32
  let v279 : BitVec 1 := Scalar.cmpi .ne v278 c0_i32_216
  let v283 : BitVec 1 := Scalar.andi v282 v279
  let v284 : BitVec 32 := Scalar.addi v278 v277
  let v285 : BitVec 32 := Scalar.select v283 v284 v278
  let c1024_i32_224 : BitVec 32 := 1024#32
  let v292 : BitVec 32 := Scalar.muli v285 c1024_i32_224
  let v293 : BitVec 32 := Scalar.addi v292 c0_i32_225
  let v294 : Index := Scalar.indexCast v293
  let c0_226 : Index := 0#32
  ![v294.toNat, 0]
def k0_off9 (d0 : Dev nD) (c0_i32_344 : BitVec 32) (c0_i32_356 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v462 : BitVec 32 := Scalar.subi v2 c0_i32_344
  let c1_i32_345 : BitVec 32 := 1#32
  let v463 : BitVec 32 := Scalar.subi v462 c1_i32_345
  let c4_i32_346 : BitVec 32 := 4#32
  let c0_i32_347 : BitVec 32 := 0#32
  let v464 : BitVec 1 := Scalar.cmpi .eq c4_i32_346 c0_i32_347
  let c1_i32_348 : BitVec 32 := 1#32
  let v465 : BitVec 32 := Scalar.select v464 c1_i32_348 c4_i32_346
  let v466 : BitVec 32 := Scalar.remsi v463 v465
  let c0_i32_350 : BitVec 32 := 0#32
  let v468 : BitVec 1 := Scalar.cmpi .slt v466 c0_i32_350
  let c0_i32_351 : BitVec 32 := 0#32
  let v469 : BitVec 1 := Scalar.cmpi .slt v465 c0_i32_351
  let v470 : BitVec 1 := Scalar.xori v468 v469
  let c0_i32_349 : BitVec 32 := 0#32
  let v467 : BitVec 1 := Scalar.cmpi .ne v466 c0_i32_349
  let v471 : BitVec 1 := Scalar.andi v470 v467
  let v472 : BitVec 32 := Scalar.addi v466 v465
  let v473 : BitVec 32 := Scalar.select v471 v472 v466
  let c1024_i32_355 : BitVec 32 := 1024#32
  let v476 : BitVec 32 := Scalar.muli v473 c1024_i32_355
  let v477 : BitVec 32 := Scalar.addi v476 c0_i32_356
  let v478 : Index := Scalar.indexCast v477
  let c0_357 : Index := 0#32
  ![v478.toNat, 0]
def k0_dev11 (d0 : Dev nD) : Nat :=
  let c0_i32_368 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_367 : BitVec 32 := 1#32
  let v484 : BitVec 32 := Scalar.muli v24 c1_i32_367
  let v485 : BitVec 32 := Scalar.addi c0_i32_368 v484
  v485.toNat
def k0_off10 (d0 : Dev nD) (c0_i32_392 : BitVec 32) (c0_i32_404 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v506 : BitVec 32 := Scalar.addi v2 c0_i32_392
  let c1_i32_393 : BitVec 32 := 1#32
  let v507 : BitVec 32 := Scalar.addi v506 c1_i32_393
  let c4_i32_394 : BitVec 32 := 4#32
  let c0_i32_395 : BitVec 32 := 0#32
  let v508 : BitVec 1 := Scalar.cmpi .eq c4_i32_394 c0_i32_395
  let c1_i32_396 : BitVec 32 := 1#32
  let v509 : BitVec 32 := Scalar.select v508 c1_i32_396 c4_i32_394
  let v510 : BitVec 32 := Scalar.remsi v507 v509
  let c0_i32_398 : BitVec 32 := 0#32
  let v512 : BitVec 1 := Scalar.cmpi .slt v510 c0_i32_398
  let c0_i32_399 : BitVec 32 := 0#32
  let v513 : BitVec 1 := Scalar.cmpi .slt v509 c0_i32_399
  let v514 : BitVec 1 := Scalar.xori v512 v513
  let c0_i32_397 : BitVec 32 := 0#32
  let v511 : BitVec 1 := Scalar.cmpi .ne v510 c0_i32_397
  let v515 : BitVec 1 := Scalar.andi v514 v511
  let v516 : BitVec 32 := Scalar.addi v510 v509
  let v517 : BitVec 32 := Scalar.select v515 v516 v510
  let c1024_i32_403 : BitVec 32 := 1024#32
  let v520 : BitVec 32 := Scalar.muli v517 c1024_i32_403
  let v521 : BitVec 32 := Scalar.addi v520 c0_i32_404
  let v522 : Index := Scalar.indexCast v521
  let c512 : Index := 512#32
  ![v522.toNat, 512]
def k0_dev12 (d0 : Dev nD) : Nat :=
  let c0_i32_415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_414 : BitVec 32 := 1#32
  let v528 : BitVec 32 := Scalar.muli v13 c1_i32_414
  let v529 : BitVec 32 := Scalar.addi c0_i32_415 v528
  v529.toNat
def k0_dev13 (d0 : Dev nD) : Nat :=
  let c0_i32_462 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_461 : BitVec 32 := 1#32
  let v572 : BitVec 32 := Scalar.muli v24 c1_i32_461
  let v573 : BitVec 32 := Scalar.addi c0_i32_462 v572
  v573.toNat
def k0_dev14 (d0 : Dev nD) : Nat :=
  let c0_i32_510 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_509 : BitVec 32 := 1#32
  let v616 : BitVec 32 := Scalar.muli v13 c1_i32_509
  let v617 : BitVec 32 := Scalar.addi c0_i32_510 v616
  v617.toNat
def k0_dev15 (d0 : Dev nD) : Nat :=
  let c0_i32_558 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_557 : BitVec 32 := 1#32
  let v660 : BitVec 32 := Scalar.muli v24 c1_i32_557
  let v661 : BitVec 32 := Scalar.addi c0_i32_558 v660
  v661.toNat
def k0_dev16 (d0 : Dev nD) : Nat :=
  let c0_i32_606 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_605 : BitVec 32 := 1#32
  let v704 : BitVec 32 := Scalar.muli v13 c1_i32_605
  let v705 : BitVec 32 := Scalar.addi c0_i32_606 v704
  v705.toNat
def k0_dev17 (d0 : Dev nD) : Nat :=
  let c0_i32_653 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_652 : BitVec 32 := 1#32
  let v748 : BitVec 32 := Scalar.muli v24 c1_i32_652
  let v749 : BitVec 32 := Scalar.addi c0_i32_653 v748
  v749.toNat
def k0_dev18 (d0 : Dev nD) : Nat :=
  let c0_i32_701 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_700 : BitVec 32 := 1#32
  let v792 : BitVec 32 := Scalar.muli v13 c1_i32_700
  let v793 : BitVec 32 := Scalar.addi c0_i32_701 v792
  v793.toNat
def k0_dev19 (d0 : Dev nD) : Nat :=
  let c0_i32_752 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_751 : BitVec 32 := 1#32
  let v838 : BitVec 32 := Scalar.muli v24 c1_i32_751
  let v839 : BitVec 32 := Scalar.addi c0_i32_752 v838
  v839.toNat
def k0_dev20 (d0 : Dev nD) : Nat :=
  let c0_i32_804 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_803 : BitVec 32 := 1#32
  let v884 : BitVec 32 := Scalar.muli v13 c1_i32_803
  let v885 : BitVec 32 := Scalar.addi c0_i32_804 v884
  v885.toNat
def k0_dev21 (d0 : Dev nD) : Nat :=
  let c0_i32_856 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_855 : BitVec 32 := 1#32
  let v930 : BitVec 32 := Scalar.muli v24 c1_i32_855
  let v931 : BitVec 32 := Scalar.addi c0_i32_856 v930
  v931.toNat
def k0_dev22 (d0 : Dev nD) : Nat :=
  let c0_i32_908 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_907 : BitVec 32 := 1#32
  let v976 : BitVec 32 := Scalar.muli v13 c1_i32_907
  let v977 : BitVec 32 := Scalar.addi c0_i32_908 v976
  v977.toNat
def k0_dev23 (d0 : Dev nD) : Nat :=
  let c0_i32_960 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_959 : BitVec 32 := 1#32
  let v1022 : BitVec 32 := Scalar.muli v24 c1_i32_959
  let v1023 : BitVec 32 := Scalar.addi c0_i32_960 v1022
  v1023.toNat
def k0_dev24 (d0 : Dev nD) : Nat :=
  let c0_i32_1012 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1011 : BitVec 32 := 1#32
  let v1068 : BitVec 32 := Scalar.muli v13 c1_i32_1011
  let v1069 : BitVec 32 := Scalar.addi c0_i32_1012 v1068
  v1069.toNat
def k0_dev25 (d0 : Dev nD) : Nat :=
  let c0_i32_1064 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1063 : BitVec 32 := 1#32
  let v1114 : BitVec 32 := Scalar.muli v24 c1_i32_1063
  let v1115 : BitVec 32 := Scalar.addi c0_i32_1064 v1114
  v1115.toNat
def k0_dev26 (d0 : Dev nD) : Nat :=
  let c0_i32_1116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1115 : BitVec 32 := 1#32
  let v1160 : BitVec 32 := Scalar.muli v13 c1_i32_1115
  let v1161 : BitVec 32 := Scalar.addi c0_i32_1116 v1160
  v1161.toNat
def k0_off11 (d0 : Dev nD) (c0_i32_1168 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1160 : BitVec 32 := 1#32
  let v1206 : BitVec 32 := Scalar.addi v2 c1_i32_1160
  let c4_i32_1161 : BitVec 32 := 4#32
  let c0_i32_1162 : BitVec 32 := 0#32
  let v1207 : BitVec 1 := Scalar.cmpi .eq c4_i32_1161 c0_i32_1162
  let c1_i32_1163 : BitVec 32 := 1#32
  let v1208 : BitVec 32 := Scalar.select v1207 c1_i32_1163 c4_i32_1161
  let v1209 : BitVec 32 := Scalar.remsi v1206 v1208
  let c0_i32_1165 : BitVec 32 := 0#32
  let v1211 : BitVec 1 := Scalar.cmpi .slt v1209 c0_i32_1165
  let c0_i32_1166 : BitVec 32 := 0#32
  let v1212 : BitVec 1 := Scalar.cmpi .slt v1208 c0_i32_1166
  let v1213 : BitVec 1 := Scalar.xori v1211 v1212
  let c0_i32_1164 : BitVec 32 := 0#32
  let v1210 : BitVec 1 := Scalar.cmpi .ne v1209 c0_i32_1164
  let v1214 : BitVec 1 := Scalar.andi v1213 v1210
  let v1215 : BitVec 32 := Scalar.addi v1209 v1208
  let v1216 : BitVec 32 := Scalar.select v1214 v1215 v1209
  let c1024_i32_1167 : BitVec 32 := 1024#32
  let v1217 : BitVec 32 := Scalar.muli v1216 c1024_i32_1167
  let v1218 : BitVec 32 := Scalar.addi v1217 c0_i32_1168
  let c0_i32_1176 : BitVec 32 := 0#32
  ![v1218.toNat, 0]
def k0_dev27 (d0 : Dev nD) : Nat :=
  let c0_i32_1175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1174 : BitVec 32 := 1#32
  let v1219 : BitVec 32 := Scalar.muli v24 c1_i32_1174
  let v1220 : BitVec 32 := Scalar.addi c0_i32_1175 v1219
  v1220.toNat
def k0_off12 (d0 : Dev nD) (c0_i32_1227 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1219 : BitVec 32 := 1#32
  let v1264 : BitVec 32 := Scalar.subi v2 c1_i32_1219
  let c4_i32_1220 : BitVec 32 := 4#32
  let c0_i32_1221 : BitVec 32 := 0#32
  let v1265 : BitVec 1 := Scalar.cmpi .eq c4_i32_1220 c0_i32_1221
  let c1_i32_1222 : BitVec 32 := 1#32
  let v1266 : BitVec 32 := Scalar.select v1265 c1_i32_1222 c4_i32_1220
  let v1267 : BitVec 32 := Scalar.remsi v1264 v1266
  let c0_i32_1224 : BitVec 32 := 0#32
  let v1269 : BitVec 1 := Scalar.cmpi .slt v1267 c0_i32_1224
  let c0_i32_1225 : BitVec 32 := 0#32
  let v1270 : BitVec 1 := Scalar.cmpi .slt v1266 c0_i32_1225
  let v1271 : BitVec 1 := Scalar.xori v1269 v1270
  let c0_i32_1223 : BitVec 32 := 0#32
  let v1268 : BitVec 1 := Scalar.cmpi .ne v1267 c0_i32_1223
  let v1272 : BitVec 1 := Scalar.andi v1271 v1268
  let v1273 : BitVec 32 := Scalar.addi v1267 v1266
  let v1274 : BitVec 32 := Scalar.select v1272 v1273 v1267
  let c1024_i32_1226 : BitVec 32 := 1024#32
  let v1275 : BitVec 32 := Scalar.muli v1274 c1024_i32_1226
  let v1276 : BitVec 32 := Scalar.addi v1275 c0_i32_1227
  let c512_i32_1235 : BitVec 32 := 512#32
  ![v1276.toNat, 512]
def k0_dev28 (d0 : Dev nD) : Nat :=
  let c0_i32_1234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1233 : BitVec 32 := 1#32
  let v1277 : BitVec 32 := Scalar.muli v13 c1_i32_1233
  let v1278 : BitVec 32 := Scalar.addi c0_i32_1234 v1277
  v1278.toNat
def k0_dev29 (d0 : Dev nD) : Nat :=
  let c0_i32_1293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1292 : BitVec 32 := 1#32
  let v1335 : BitVec 32 := Scalar.muli v24 c1_i32_1292
  let v1336 : BitVec 32 := Scalar.addi c0_i32_1293 v1335
  v1336.toNat
def k0_dev30 (d0 : Dev nD) : Nat :=
  let c0_i32_1352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1351 : BitVec 32 := 1#32
  let v1393 : BitVec 32 := Scalar.muli v13 c1_i32_1351
  let v1394 : BitVec 32 := Scalar.addi c0_i32_1352 v1393
  v1394.toNat
def k0_dev31 (d0 : Dev nD) : Nat :=
  let c0_i32_1411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1410 : BitVec 32 := 1#32
  let v1451 : BitVec 32 := Scalar.muli v24 c1_i32_1410
  let v1452 : BitVec 32 := Scalar.addi c0_i32_1411 v1451
  v1452.toNat
def k0_dev32 (d0 : Dev nD) : Nat :=
  let c0_i32_1470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1469 : BitVec 32 := 1#32
  let v1509 : BitVec 32 := Scalar.muli v13 c1_i32_1469
  let v1510 : BitVec 32 := Scalar.addi c0_i32_1470 v1509
  v1510.toNat
def k0_dev33 (d0 : Dev nD) : Nat :=
  let c0_i32_1529 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1528 : BitVec 32 := 1#32
  let v1567 : BitVec 32 := Scalar.muli v24 c1_i32_1528
  let v1568 : BitVec 32 := Scalar.addi c0_i32_1529 v1567
  v1568.toNat
def k0_dev34 (d0 : Dev nD) : Nat :=
  let c0_i32_1588 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1587 : BitVec 32 := 1#32
  let v1625 : BitVec 32 := Scalar.muli v13 c1_i32_1587
  let v1626 : BitVec 32 := Scalar.addi c0_i32_1588 v1625
  v1626.toNat
def k0_off13 (d0 : Dev nD) (c0_i32_1657 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1648 : BitVec 32 := 4#32
  let c0_i32_1649 : BitVec 32 := 0#32
  let v1676 : BitVec 1 := Scalar.cmpi .eq c4_i32_1648 c0_i32_1649
  let c1_i32_1650 : BitVec 32 := 1#32
  let v1677 : BitVec 32 := Scalar.select v1676 c1_i32_1650 c4_i32_1648
  let v1678 : BitVec 32 := Scalar.remsi v2 v1677
  let c0_i32_1652 : BitVec 32 := 0#32
  let v1680 : BitVec 1 := Scalar.cmpi .slt v1678 c0_i32_1652
  let c0_i32_1653 : BitVec 32 := 0#32
  let v1681 : BitVec 1 := Scalar.cmpi .slt v1677 c0_i32_1653
  let v1682 : BitVec 1 := Scalar.xori v1680 v1681
  let c0_i32_1651 : BitVec 32 := 0#32
  let v1679 : BitVec 1 := Scalar.cmpi .ne v1678 c0_i32_1651
  let v1683 : BitVec 1 := Scalar.andi v1682 v1679
  let v1684 : BitVec 32 := Scalar.addi v1678 v1677
  let v1685 : BitVec 32 := Scalar.select v1683 v1684 v1678
  let c1024_i32_1656 : BitVec 32 := 1024#32
  let v1688 : BitVec 32 := Scalar.muli v1685 c1024_i32_1656
  let v1689 : BitVec 32 := Scalar.addi v1688 c0_i32_1657
  let c0_i32_1664 : BitVec 32 := 0#32
  ![v1689.toNat, 0]
def k0_dev35 (d0 : Dev nD) : Nat :=
  let c0_i32_1663 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1662 : BitVec 32 := 1#32
  let v1690 : BitVec 32 := Scalar.muli v24 c1_i32_1662
  let v1691 : BitVec 32 := Scalar.addi c0_i32_1663 v1690
  v1691.toNat
def k0_off14 (d0 : Dev nD) (c0_i32_1675 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1666 : BitVec 32 := 4#32
  let c0_i32_1667 : BitVec 32 := 0#32
  let v1698 : BitVec 1 := Scalar.cmpi .eq c4_i32_1666 c0_i32_1667
  let c1_i32_1668 : BitVec 32 := 1#32
  let v1699 : BitVec 32 := Scalar.select v1698 c1_i32_1668 c4_i32_1666
  let v1700 : BitVec 32 := Scalar.remsi v2 v1699
  let c0_i32_1670 : BitVec 32 := 0#32
  let v1702 : BitVec 1 := Scalar.cmpi .slt v1700 c0_i32_1670
  let c0_i32_1671 : BitVec 32 := 0#32
  let v1703 : BitVec 1 := Scalar.cmpi .slt v1699 c0_i32_1671
  let v1704 : BitVec 1 := Scalar.xori v1702 v1703
  let c0_i32_1669 : BitVec 32 := 0#32
  let v1701 : BitVec 1 := Scalar.cmpi .ne v1700 c0_i32_1669
  let v1705 : BitVec 1 := Scalar.andi v1704 v1701
  let v1706 : BitVec 32 := Scalar.addi v1700 v1699
  let v1707 : BitVec 32 := Scalar.select v1705 v1706 v1700
  let c1024_i32_1674 : BitVec 32 := 1024#32
  let v1710 : BitVec 32 := Scalar.muli v1707 c1024_i32_1674
  let v1711 : BitVec 32 := Scalar.addi v1710 c0_i32_1675
  let c512_i32_1682 : BitVec 32 := 512#32
  ![v1711.toNat, 512]
def k0_dev36 (d0 : Dev nD) : Nat :=
  let c0_i32_1681 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1680 : BitVec 32 := 1#32
  let v1712 : BitVec 32 := Scalar.muli v13 c1_i32_1680
  let v1713 : BitVec 32 := Scalar.addi c0_i32_1681 v1712
  v1713.toNat
def k0_dev37 (d0 : Dev nD) : Nat :=
  let c0_i32_1737 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1736 : BitVec 32 := 1#32
  let v1758 : BitVec 32 := Scalar.muli v24 c1_i32_1736
  let v1759 : BitVec 32 := Scalar.addi c0_i32_1737 v1758
  v1759.toNat
def k0_dev38 (d0 : Dev nD) : Nat :=
  let c0_i32_1755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1754 : BitVec 32 := 1#32
  let v1780 : BitVec 32 := Scalar.muli v13 c1_i32_1754
  let v1781 : BitVec 32 := Scalar.addi c0_i32_1755 v1780
  v1781.toNat
def k0_dev39 (d0 : Dev nD) : Nat :=
  let c0_i32_1811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1810 : BitVec 32 := 1#32
  let v1826 : BitVec 32 := Scalar.muli v24 c1_i32_1810
  let v1827 : BitVec 32 := Scalar.addi c0_i32_1811 v1826
  v1827.toNat
def k0_dev40 (d0 : Dev nD) : Nat :=
  let c0_i32_1829 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1828 : BitVec 32 := 1#32
  let v1848 : BitVec 32 := Scalar.muli v13 c1_i32_1828
  let v1849 : BitVec 32 := Scalar.addi c0_i32_1829 v1848
  v1849.toNat
def k0_dev41 (d0 : Dev nD) : Nat :=
  let c0_i32_1885 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1884 : BitVec 32 := 1#32
  let v1894 : BitVec 32 := Scalar.muli v24 c1_i32_1884
  let v1895 : BitVec 32 := Scalar.addi c0_i32_1885 v1894
  v1895.toNat
def k0_dev42 (d0 : Dev nD) : Nat :=
  let c0_i32_1903 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1902 : BitVec 32 := 1#32
  let v1916 : BitVec 32 := Scalar.muli v13 c1_i32_1902
  let v1917 : BitVec 32 := Scalar.addi c0_i32_1903 v1916
  v1917.toNat
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_1906 : BitVec 32 := 1024#32
  let v1924 : BitVec 32 := Scalar.muli v2 c1024_i32_1906
  let v1925 : Index := Scalar.indexCast v1924
  let c0_1907 : Index := 0#32
  ![v1925.toNat, 0]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_1909 : BitVec 32 := 1024#32
  let v1928 : BitVec 32 := Scalar.muli v2 c1024_i32_1909
  let v1929 : Index := Scalar.indexCast v1928
  let c512_1910 : Index := 512#32
  ![v1929.toNat, 512]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1915 : BitVec 32 := 4#32
  let c0_i32_1916 : BitVec 32 := 0#32
  let v1937 : BitVec 1 := Scalar.cmpi .eq c4_i32_1915 c0_i32_1916
  let c1_i32_1917 : BitVec 32 := 1#32
  let v1938 : BitVec 32 := Scalar.select v1937 c1_i32_1917 c4_i32_1915
  let v1939 : BitVec 32 := Scalar.remsi v2 v1938
  let c0_i32_1919 : BitVec 32 := 0#32
  let v1941 : BitVec 1 := Scalar.cmpi .slt v1939 c0_i32_1919
  let c0_i32_1920 : BitVec 32 := 0#32
  let v1942 : BitVec 1 := Scalar.cmpi .slt v1938 c0_i32_1920
  let v1943 : BitVec 1 := Scalar.xori v1941 v1942
  let c0_i32_1918 : BitVec 32 := 0#32
  let v1940 : BitVec 1 := Scalar.cmpi .ne v1939 c0_i32_1918
  let v1944 : BitVec 1 := Scalar.andi v1943 v1940
  let v1945 : BitVec 32 := Scalar.addi v1939 v1938
  let v1946 : BitVec 32 := Scalar.select v1944 v1945 v1939
  let c1024_i32_1921 : BitVec 32 := 1024#32
  let v1947 : BitVec 32 := Scalar.muli v1946 c1024_i32_1921
  let c0_i32_1924 : BitVec 32 := 0#32
  ![v1947.toNat, 0]
def k0_off18 (d0 : Dev nD) (c0_i32_1974 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1957 : BitVec 32 := 1#32
  let v1973 : BitVec 32 := Scalar.subi v2 c1_i32_1957
  let c4_i32_1958 : BitVec 32 := 4#32
  let c0_i32_1959 : BitVec 32 := 0#32
  let v1974 : BitVec 1 := Scalar.cmpi .eq c4_i32_1958 c0_i32_1959
  let c1_i32_1960 : BitVec 32 := 1#32
  let v1975 : BitVec 32 := Scalar.select v1974 c1_i32_1960 c4_i32_1958
  let v1976 : BitVec 32 := Scalar.remsi v1973 v1975
  let c0_i32_1962 : BitVec 32 := 0#32
  let v1978 : BitVec 1 := Scalar.cmpi .slt v1976 c0_i32_1962
  let c0_i32_1963 : BitVec 32 := 0#32
  let v1979 : BitVec 1 := Scalar.cmpi .slt v1975 c0_i32_1963
  let v1980 : BitVec 1 := Scalar.xori v1978 v1979
  let c0_i32_1961 : BitVec 32 := 0#32
  let v1977 : BitVec 1 := Scalar.cmpi .ne v1976 c0_i32_1961
  let v1981 : BitVec 1 := Scalar.andi v1980 v1977
  let v1982 : BitVec 32 := Scalar.addi v1976 v1975
  let v1983 : BitVec 32 := Scalar.select v1981 v1982 v1976
  let c1024_i32_1973 : BitVec 32 := 1024#32
  let v1997 : BitVec 32 := Scalar.muli v1983 c1024_i32_1973
  let v1998 : BitVec 32 := Scalar.addi v1997 c0_i32_1974
  let c0_i32_1981 : BitVec 32 := 0#32
  ![v1998.toNat, 0]
def k0_dev43 (d0 : Dev nD) : Nat :=
  let c0_i32_1980 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1979 : BitVec 32 := 1#32
  let v1999 : BitVec 32 := Scalar.muli v24 c1_i32_1979
  let v2000 : BitVec 32 := Scalar.addi c0_i32_1980 v1999
  v2000.toNat
def k0_off19 (d0 : Dev nD) (c0_i32_2000 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1983 : BitVec 32 := 1#32
  let v2007 : BitVec 32 := Scalar.addi v2 c1_i32_1983
  let c4_i32_1984 : BitVec 32 := 4#32
  let c0_i32_1985 : BitVec 32 := 0#32
  let v2008 : BitVec 1 := Scalar.cmpi .eq c4_i32_1984 c0_i32_1985
  let c1_i32_1986 : BitVec 32 := 1#32
  let v2009 : BitVec 32 := Scalar.select v2008 c1_i32_1986 c4_i32_1984
  let v2010 : BitVec 32 := Scalar.remsi v2007 v2009
  let c0_i32_1988 : BitVec 32 := 0#32
  let v2012 : BitVec 1 := Scalar.cmpi .slt v2010 c0_i32_1988
  let c0_i32_1989 : BitVec 32 := 0#32
  let v2013 : BitVec 1 := Scalar.cmpi .slt v2009 c0_i32_1989
  let v2014 : BitVec 1 := Scalar.xori v2012 v2013
  let c0_i32_1987 : BitVec 32 := 0#32
  let v2011 : BitVec 1 := Scalar.cmpi .ne v2010 c0_i32_1987
  let v2015 : BitVec 1 := Scalar.andi v2014 v2011
  let v2016 : BitVec 32 := Scalar.addi v2010 v2009
  let v2017 : BitVec 32 := Scalar.select v2015 v2016 v2010
  let c1024_i32_1999 : BitVec 32 := 1024#32
  let v2031 : BitVec 32 := Scalar.muli v2017 c1024_i32_1999
  let v2032 : BitVec 32 := Scalar.addi v2031 c0_i32_2000
  let c512_i32_2007 : BitVec 32 := 512#32
  ![v2032.toNat, 512]
def k0_dev44 (d0 : Dev nD) : Nat :=
  let c0_i32_2006 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2005 : BitVec 32 := 1#32
  let v2033 : BitVec 32 := Scalar.muli v13 c1_i32_2005
  let v2034 : BitVec 32 := Scalar.addi c0_i32_2006 v2033
  v2034.toNat
def k0_dev45 (d0 : Dev nD) : Nat :=
  let c0_i32_2062 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2061 : BitVec 32 := 1#32
  let v2087 : BitVec 32 := Scalar.muli v24 c1_i32_2061
  let v2088 : BitVec 32 := Scalar.addi c0_i32_2062 v2087
  v2088.toNat
def k0_dev46 (d0 : Dev nD) : Nat :=
  let c0_i32_2088 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2087 : BitVec 32 := 1#32
  let v2121 : BitVec 32 := Scalar.muli v13 c1_i32_2087
  let v2122 : BitVec 32 := Scalar.addi c0_i32_2088 v2121
  v2122.toNat
def k0_dev47 (d0 : Dev nD) : Nat :=
  let c0_i32_2144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2143 : BitVec 32 := 1#32
  let v2175 : BitVec 32 := Scalar.muli v24 c1_i32_2143
  let v2176 : BitVec 32 := Scalar.addi c0_i32_2144 v2175
  v2176.toNat
def k0_dev48 (d0 : Dev nD) : Nat :=
  let c0_i32_2170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2169 : BitVec 32 := 1#32
  let v2209 : BitVec 32 := Scalar.muli v13 c1_i32_2169
  let v2210 : BitVec 32 := Scalar.addi c0_i32_2170 v2209
  v2210.toNat
def k0_dev49 (d0 : Dev nD) : Nat :=
  let c0_i32_2226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2225 : BitVec 32 := 1#32
  let v2263 : BitVec 32 := Scalar.muli v24 c1_i32_2225
  let v2264 : BitVec 32 := Scalar.addi c0_i32_2226 v2263
  v2264.toNat
def k0_dev50 (d0 : Dev nD) : Nat :=
  let c0_i32_2252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2251 : BitVec 32 := 1#32
  let v2297 : BitVec 32 := Scalar.muli v13 c1_i32_2251
  let v2298 : BitVec 32 := Scalar.addi c0_i32_2252 v2297
  v2298.toNat
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2258 : BitVec 32 := 1#32
  let v2307 : BitVec 32 := Scalar.subi v2 c1_i32_2258
  let c4_i32_2259 : BitVec 32 := 4#32
  let c0_i32_2260 : BitVec 32 := 0#32
  let v2308 : BitVec 1 := Scalar.cmpi .eq c4_i32_2259 c0_i32_2260
  let c1_i32_2261 : BitVec 32 := 1#32
  let v2309 : BitVec 32 := Scalar.select v2308 c1_i32_2261 c4_i32_2259
  let v2310 : BitVec 32 := Scalar.remsi v2307 v2309
  let c0_i32_2263 : BitVec 32 := 0#32
  let v2312 : BitVec 1 := Scalar.cmpi .slt v2310 c0_i32_2263
  let c0_i32_2264 : BitVec 32 := 0#32
  let v2313 : BitVec 1 := Scalar.cmpi .slt v2309 c0_i32_2264
  let v2314 : BitVec 1 := Scalar.xori v2312 v2313
  let c0_i32_2262 : BitVec 32 := 0#32
  let v2311 : BitVec 1 := Scalar.cmpi .ne v2310 c0_i32_2262
  let v2315 : BitVec 1 := Scalar.andi v2314 v2311
  let v2316 : BitVec 32 := Scalar.addi v2310 v2309
  let v2317 : BitVec 32 := Scalar.select v2315 v2316 v2310
  let c1024_i32_2265 : BitVec 32 := 1024#32
  let v2318 : BitVec 32 := Scalar.muli v2317 c1024_i32_2265
  let v2319 : Index := Scalar.indexCast v2318
  let c0_2266 : Index := 0#32
  ![v2319.toNat, 0]
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2271 : BitVec 32 := 1#32
  let v2328 : BitVec 32 := Scalar.subi v2 c1_i32_2271
  let c4_i32_2272 : BitVec 32 := 4#32
  let c0_i32_2273 : BitVec 32 := 0#32
  let v2329 : BitVec 1 := Scalar.cmpi .eq c4_i32_2272 c0_i32_2273
  let c1_i32_2274 : BitVec 32 := 1#32
  let v2330 : BitVec 32 := Scalar.select v2329 c1_i32_2274 c4_i32_2272
  let v2331 : BitVec 32 := Scalar.remsi v2328 v2330
  let c0_i32_2276 : BitVec 32 := 0#32
  let v2333 : BitVec 1 := Scalar.cmpi .slt v2331 c0_i32_2276
  let c0_i32_2277 : BitVec 32 := 0#32
  let v2334 : BitVec 1 := Scalar.cmpi .slt v2330 c0_i32_2277
  let v2335 : BitVec 1 := Scalar.xori v2333 v2334
  let c0_i32_2275 : BitVec 32 := 0#32
  let v2332 : BitVec 1 := Scalar.cmpi .ne v2331 c0_i32_2275
  let v2336 : BitVec 1 := Scalar.andi v2335 v2332
  let v2337 : BitVec 32 := Scalar.addi v2331 v2330
  let v2338 : BitVec 32 := Scalar.select v2336 v2337 v2331
  let c1024_i32_2278 : BitVec 32 := 1024#32
  let v2339 : BitVec 32 := Scalar.muli v2338 c1024_i32_2278
  let c0_i32_2281 : BitVec 32 := 0#32
  ![v2339.toNat, 0]
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2287 : BitVec 32 := 1#32
  let v2347 : BitVec 32 := Scalar.addi v2 c1_i32_2287
  let c4_i32_2288 : BitVec 32 := 4#32
  let c0_i32_2289 : BitVec 32 := 0#32
  let v2348 : BitVec 1 := Scalar.cmpi .eq c4_i32_2288 c0_i32_2289
  let c1_i32_2290 : BitVec 32 := 1#32
  let v2349 : BitVec 32 := Scalar.select v2348 c1_i32_2290 c4_i32_2288
  let v2350 : BitVec 32 := Scalar.remsi v2347 v2349
  let c0_i32_2292 : BitVec 32 := 0#32
  let v2352 : BitVec 1 := Scalar.cmpi .slt v2350 c0_i32_2292
  let c0_i32_2293 : BitVec 32 := 0#32
  let v2353 : BitVec 1 := Scalar.cmpi .slt v2349 c0_i32_2293
  let v2354 : BitVec 1 := Scalar.xori v2352 v2353
  let c0_i32_2291 : BitVec 32 := 0#32
  let v2351 : BitVec 1 := Scalar.cmpi .ne v2350 c0_i32_2291
  let v2355 : BitVec 1 := Scalar.andi v2354 v2351
  let v2356 : BitVec 32 := Scalar.addi v2350 v2349
  let v2357 : BitVec 32 := Scalar.select v2355 v2356 v2350
  let c1024_i32_2294 : BitVec 32 := 1024#32
  let v2358 : BitVec 32 := Scalar.muli v2357 c1024_i32_2294
  let v2359 : Index := Scalar.indexCast v2358
  let c512_2295 : Index := 512#32
  ![v2359.toNat, 512]
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2300 : BitVec 32 := 1#32
  let v2368 : BitVec 32 := Scalar.addi v2 c1_i32_2300
  let c4_i32_2301 : BitVec 32 := 4#32
  let c0_i32_2302 : BitVec 32 := 0#32
  let v2369 : BitVec 1 := Scalar.cmpi .eq c4_i32_2301 c0_i32_2302
  let c1_i32_2303 : BitVec 32 := 1#32
  let v2370 : BitVec 32 := Scalar.select v2369 c1_i32_2303 c4_i32_2301
  let v2371 : BitVec 32 := Scalar.remsi v2368 v2370
  let c0_i32_2305 : BitVec 32 := 0#32
  let v2373 : BitVec 1 := Scalar.cmpi .slt v2371 c0_i32_2305
  let c0_i32_2306 : BitVec 32 := 0#32
  let v2374 : BitVec 1 := Scalar.cmpi .slt v2370 c0_i32_2306
  let v2375 : BitVec 1 := Scalar.xori v2373 v2374
  let c0_i32_2304 : BitVec 32 := 0#32
  let v2372 : BitVec 1 := Scalar.cmpi .ne v2371 c0_i32_2304
  let v2376 : BitVec 1 := Scalar.andi v2375 v2372
  let v2377 : BitVec 32 := Scalar.addi v2371 v2370
  let v2378 : BitVec 32 := Scalar.select v2376 v2377 v2371
  let c1024_i32_2307 : BitVec 32 := 1024#32
  let v2379 : BitVec 32 := Scalar.muli v2378 c1024_i32_2307
  let c0_i32_2310 : BitVec 32 := 0#32
  ![v2379.toNat, 0]
def k0_off24 (d0 : Dev nD) (c0_i32_2356 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2318 : BitVec 32 := 2#32
  let v2390 : BitVec 32 := Scalar.addi v2 c2_i32_2318
  let c4_i32_2319 : BitVec 32 := 4#32
  let c0_i32_2320 : BitVec 32 := 0#32
  let v2391 : BitVec 1 := Scalar.cmpi .eq c4_i32_2319 c0_i32_2320
  let c1_i32_2321 : BitVec 32 := 1#32
  let v2392 : BitVec 32 := Scalar.select v2391 c1_i32_2321 c4_i32_2319
  let v2393 : BitVec 32 := Scalar.remsi v2390 v2392
  let c0_i32_2323 : BitVec 32 := 0#32
  let v2395 : BitVec 1 := Scalar.cmpi .slt v2393 c0_i32_2323
  let c0_i32_2324 : BitVec 32 := 0#32
  let v2396 : BitVec 1 := Scalar.cmpi .slt v2392 c0_i32_2324
  let v2397 : BitVec 1 := Scalar.xori v2395 v2396
  let c0_i32_2322 : BitVec 32 := 0#32
  let v2394 : BitVec 1 := Scalar.cmpi .ne v2393 c0_i32_2322
  let v2398 : BitVec 1 := Scalar.andi v2397 v2394
  let v2399 : BitVec 32 := Scalar.addi v2393 v2392
  let v2400 : BitVec 32 := Scalar.select v2398 v2399 v2393
  let c1024_i32_2355 : BitVec 32 := 1024#32
  let v2421 : BitVec 32 := Scalar.muli v2400 c1024_i32_2355
  let v2422 : BitVec 32 := Scalar.addi v2421 c0_i32_2356
  let v2423 : Index := Scalar.indexCast v2422
  let c0_2357 : Index := 0#32
  ![v2423.toNat, 0]
def k0_off25 (d0 : Dev nD) (c0_i32_2360 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2318 : BitVec 32 := 2#32
  let v2390 : BitVec 32 := Scalar.addi v2 c2_i32_2318
  let c4_i32_2319 : BitVec 32 := 4#32
  let c0_i32_2320 : BitVec 32 := 0#32
  let v2391 : BitVec 1 := Scalar.cmpi .eq c4_i32_2319 c0_i32_2320
  let c1_i32_2321 : BitVec 32 := 1#32
  let v2392 : BitVec 32 := Scalar.select v2391 c1_i32_2321 c4_i32_2319
  let v2393 : BitVec 32 := Scalar.remsi v2390 v2392
  let c0_i32_2323 : BitVec 32 := 0#32
  let v2395 : BitVec 1 := Scalar.cmpi .slt v2393 c0_i32_2323
  let c0_i32_2324 : BitVec 32 := 0#32
  let v2396 : BitVec 1 := Scalar.cmpi .slt v2392 c0_i32_2324
  let v2397 : BitVec 1 := Scalar.xori v2395 v2396
  let c0_i32_2322 : BitVec 32 := 0#32
  let v2394 : BitVec 1 := Scalar.cmpi .ne v2393 c0_i32_2322
  let v2398 : BitVec 1 := Scalar.andi v2397 v2394
  let v2399 : BitVec 32 := Scalar.addi v2393 v2392
  let v2400 : BitVec 32 := Scalar.select v2398 v2399 v2393
  let c1024_i32_2359 : BitVec 32 := 1024#32
  let v2426 : BitVec 32 := Scalar.muli v2400 c1024_i32_2359
  let v2427 : BitVec 32 := Scalar.addi v2426 c0_i32_2360
  let v2428 : Index := Scalar.indexCast v2427
  let c512_2361 : Index := 512#32
  ![v2428.toNat, 512]
def k0_off26 (d0 : Dev nD) (c0_i32_2367 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2318 : BitVec 32 := 2#32
  let v2390 : BitVec 32 := Scalar.addi v2 c2_i32_2318
  let c4_i32_2319 : BitVec 32 := 4#32
  let c0_i32_2320 : BitVec 32 := 0#32
  let v2391 : BitVec 1 := Scalar.cmpi .eq c4_i32_2319 c0_i32_2320
  let c1_i32_2321 : BitVec 32 := 1#32
  let v2392 : BitVec 32 := Scalar.select v2391 c1_i32_2321 c4_i32_2319
  let v2393 : BitVec 32 := Scalar.remsi v2390 v2392
  let c0_i32_2323 : BitVec 32 := 0#32
  let v2395 : BitVec 1 := Scalar.cmpi .slt v2393 c0_i32_2323
  let c0_i32_2324 : BitVec 32 := 0#32
  let v2396 : BitVec 1 := Scalar.cmpi .slt v2392 c0_i32_2324
  let v2397 : BitVec 1 := Scalar.xori v2395 v2396
  let c0_i32_2322 : BitVec 32 := 0#32
  let v2394 : BitVec 1 := Scalar.cmpi .ne v2393 c0_i32_2322
  let v2398 : BitVec 1 := Scalar.andi v2397 v2394
  let v2399 : BitVec 32 := Scalar.addi v2393 v2392
  let v2400 : BitVec 32 := Scalar.select v2398 v2399 v2393
  let c1024_i32_2366 : BitVec 32 := 1024#32
  let v2436 : BitVec 32 := Scalar.muli v2400 c1024_i32_2366
  let v2437 : BitVec 32 := Scalar.addi v2436 c0_i32_2367
  let c0_i32_2370 : BitVec 32 := 0#32
  ![v2437.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S1024x4096, .bf16⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Ring.lean ====
/-
# The ring of four devices and the tiles of the buffers

Plain facts, nothing of the machine: the two directions round the ring, the chain of devices behind
a device, indices given by their coordinates, and the element sets (tiles) by which the kernel's
buffers are handed around.
-/
module

public import proofs.«01_k».proof.Proof.Gen.KernelIdeal
public import Idealize.ShloMosaic.Lib.Pipeline.Kit
public import Idealize.ShloMosaic.Lib.Tactic

@[expose] public section

noncomputable section

namespace Cert.Mlp

open Cert.KernelIdeal Cert.KernelIdeal.Gen
open Idealize.ShloMosaic

/-! ## Directions -/

set_option backward.proofsInPublic true in
/-- The neighbour in direction `d`: `true` is to the right (one up), `false` to the left (one down). -/
def nx (d : Bool) (c : Dev nD) : Dev nD :=
  if d then ⟨(c.val + 1) % 4, Nat.mod_lt _ (by decide)⟩ else ⟨(c.val + 3) % 4, Nat.mod_lt _ (by decide)⟩

/-- The device `j` steps behind `c` on the way of direction `d`. -/
def bk (d : Bool) : ℕ → Dev nD → Dev nD
  | 0, c => c
  | j + 1, c => nx (!d) (bk d j c)

theorem nx_back (d : Bool) (c : Dev nD) : nx d (nx (!d) c) = c := by revert c d; decide
theorem back_nx (d : Bool) (c : Dev nD) : nx (!d) (nx d c) = c := by revert c d; decide
theorem nx_left_right (c : Dev nD) : nx true (nx false c) = c := nx_back true c
theorem nx_right_left (c : Dev nD) : nx false (nx true c) = c := nx_back false c

/-- One step ahead, the chain behind is one longer. -/
theorem bk_nx (d : Bool) (j : ℕ) (c : Dev nD) : bk d (j + 1) (nx d c) = bk d j c := by
  induction j with
  | zero => exact back_nx d c
  | succ j ih => show nx (!d) (bk d (j + 1) (nx d c)) = nx (!d) (bk d j c); rw [ih]

theorem bk_four (d : Bool) (c : Dev nD) : bk d 4 c = c := by revert c d; decide
theorem bk_add_four (d : Bool) (j : ℕ) (c : Dev nD) : bk d (j + 4) c = bk d j c := by
  induction j with
  | zero => exact bk_four d c
  | succ j ih => show nx (!d) (bk d (j + 4) c) = nx (!d) (bk d j c); rw [ih]
theorem bk_three (d : Bool) (c : Dev nD) : bk d 3 c = nx d c := by revert c d; decide
theorem nx_inj {d : Bool} {a b : Dev nD} (h : nx d a = nx d b) : a = b := by
  rw [← back_nx d a, h, back_nx]
theorem bk_inj (d : Bool) (c : Dev nD) : ∀ j j' : Fin 4, bk d j c = bk d j' c → j = j' := by
  revert c d; decide
theorem bk_cover (d : Bool) (c q : Dev nD) : ∃ j : Fin 4, bk d j c = q := by revert c d q; decide

/-- The right chain's device `j` steps behind is the left chain's `4 - j` steps behind. -/
theorem bk_true_one (c : Dev nD) : bk true 1 c = bk false 3 c := by revert c; decide
theorem bk_true_two (c : Dev nD) : bk true 2 c = bk false 2 c := by revert c; decide
theorem bk_true_three (c : Dev nD) : bk true 3 c = bk false 1 c := by revert c; decide

/-! ## Indices by coordinates -/

/-- A shape none of whose axes is empty. -/
class Full (s : Shape) : Prop where
  pos : ∀ a, 0 < s.size a

instance : Full S4096x1024 := ⟨by decide⟩
instance : Full S3x1024x512 := ⟨by decide⟩
instance : Full S1x256x512 := ⟨by decide⟩
instance : Full S1x1024x512 := ⟨by decide⟩
instance : Full S256x512 := ⟨by decide⟩
instance : Full S512x1024 := ⟨by decide⟩
instance : Full S1024x1024 := ⟨by decide⟩
instance : Full S1024x512 := ⟨by decide⟩
instance : Full S3x1024x1024 := ⟨by decide⟩
instance : Full S1x1024x1024 := ⟨by decide⟩
instance : Full S1x256x1024 := ⟨by decide⟩
instance : Full S256x1024 := ⟨by decide⟩

/-- The index of the given coordinates, each taken modulo its axis. -/
def at_ (s : Shape) [Full s] (v : Fin s.rank → ℕ) : s.Idx := fun a => ⟨v a % s.size a, Nat.mod_lt _ (Full.pos a)⟩

theorem at_val (s : Shape) [Full s] (v : Fin s.rank → ℕ) (a : Fin s.rank) (h : v a < s.size a) :
    ((at_ s v) a : ℕ) = v a := Nat.mod_eq_of_lt h

theorem eq_at (s : Shape) [Full s] (i : s.Idx) (v : Fin s.rank → ℕ) (h : ∀ a, (i a : ℕ) = v a) : i = at_ s v :=
  funext fun a => Fin.ext (by rw [at_val s v a (by rw [← h a]; exact (i a).isLt)]; exact h a)

theorem lt0 {a b : ℕ} (i : (⟨2, ![a, b]⟩ : Shape).Idx) : (i 0 : ℕ) < a := (i 0).isLt
theorem lt1 {a b : ℕ} (i : (⟨2, ![a, b]⟩ : Shape).Idx) : (i 1 : ℕ) < b := (i 1).isLt
theorem lt0' {a b c : ℕ} (i : (⟨3, ![a, b, c]⟩ : Shape).Idx) : (i 0 : ℕ) < a := (i 0).isLt
theorem lt1' {a b c : ℕ} (i : (⟨3, ![a, b, c]⟩ : Shape).Idx) : (i 1 : ℕ) < b := (i 1).isLt
theorem lt2' {a b c : ℕ} (i : (⟨3, ![a, b, c]⟩ : Shape).Idx) : (i 2 : ℕ) < c := (i 2).isLt

/-! ## Tiles -/

/-- The first column of direction `d`'s half of the hidden columns: the right-going half first. -/
def colo (d : Bool) : ℕ := if d then 0 else 512

/-- Of a `4096 × 1024` buffer: rows of chunk `q`'s piece `p` (256 rows), columns of direction `d`. -/
def hS (d : Bool) (q p : ℕ) : Finset S4096x1024.Idx :=
  Finset.univ.filter fun i => (i 0 : ℕ) / 256 = 4 * q + p ∧ (i 1 : ℕ) / 512 = (if d then 0 else 1)
/-- Of a `4096 × 1024` buffer: the rows of chunk `q`'s half `u` (512 rows). -/
def hH (q u : ℕ) : Finset S4096x1024.Idx := Finset.univ.filter fun i => (i 0 : ℕ) / 512 = 2 * q + u
/-- Of a `4096 × 1024` buffer: the rows of chunk `q`'s piece `p`. -/
def oS (q p : ℕ) : Finset S4096x1024.Idx := Finset.univ.filter fun i => (i 0 : ℕ) / 256 = 4 * q + p
/-- Of a `4096 × 1024` buffer: the rows of chunk `q`. -/
def oC (q : ℕ) : Finset S4096x1024.Idx := Finset.univ.filter fun i => (i 0 : ℕ) / 1024 = q
/-- Of a `4096 × 1024` buffer: rows of chunk `q`, columns of direction `d`. -/
def hC (d : Bool) (q : ℕ) : Finset S4096x1024.Idx :=
  Finset.univ.filter fun i => (i 0 : ℕ) / 1024 = q ∧ (i 1 : ℕ) / 512 = (if d then 0 else 1)
/-- Of a `3 × 1024 × 512` landing buffer: slot `k`'s piece `p`. -/
def rS (k p : ℕ) : Finset S3x1024x512.Idx := Finset.univ.filter fun i => (i 0 : ℕ) = k ∧ (i 1 : ℕ) / 256 = p
/-- Of a `3 × 1024 × 512` landing buffer: slot `k`. -/
def rK (k : ℕ) : Finset S3x1024x512.Idx := Finset.univ.filter fun i => (i 0 : ℕ) = k
/-- Of the `3 × 1024 × 1024` output staging: slot `k`. -/
def sK (k : ℕ) : Finset S3x1024x1024.Idx := Finset.univ.filter fun i => (i 0 : ℕ) = k
/-- Of the `3 × 1024 × 1024` output staging: the last slot's piece `p`. -/
def sP (p : ℕ) : Finset S3x1024x1024.Idx := Finset.univ.filter fun i => (i 0 : ℕ) = 2 ∧ (i 1 : ℕ) / 256 = p

theorem dev_lt (c : Dev nD) : c.val < 4 := c.isLt

/-- Two filters no element passes both of are disjoint. -/
theorem disjoint_filters {α : Type} [Fintype α] {P Q : α → Prop} [DecidablePred P] [DecidablePred Q]
    (h : ∀ i, P i → Q i → False) : Disjoint (Finset.univ.filter P) (Finset.univ.filter Q) :=
  Finset.disjoint_left.mpr fun i hi hj => h i (Finset.mem_filter.mp hi).2 (Finset.mem_filter.mp hj).2

/-- A half of a chunk is its two pieces in both directions. -/
theorem hH_pieces (q u : ℕ) :
    Finset.univ.biUnion (fun b : Bool × Fin 2 => hS b.1 q (2 * u + b.2)) = hH q u := by
  ext i
  have h0 := lt0 i; have h1 := lt1 i
  simp only [Finset.mem_biUnion, Finset.mem_univ, true_and, hS, hH, Finset.mem_filter]
  constructor
  · rintro ⟨⟨d, p⟩, h, -⟩; have := p.isLt; dsimp only at h; omega
  · intro h
    refine ⟨⟨decide ((i 1 : ℕ) < 512), ⟨((i 0 : ℕ) / 256) % 2, Nat.mod_lt _ (by decide)⟩⟩, ?_, ?_⟩
    · dsimp only; omega
    · by_cases hc : (i 1 : ℕ) < 512
      · simp only [hc, decide_true, if_true]; omega
      · simp only [hc, decide_false, Bool.false_eq_true, if_false]; omega

theorem hS_disjoint {d d' : Bool} {q q' p p' : ℕ} (hp : p < 4) (hp' : p' < 4) (h : (d, q, p) ≠ (d', q', p')) :
    Disjoint (hS d q p) (hS d' q' p') :=
  disjoint_filters fun i h1 h2 => h (by
    have e : d = d' := by
      rcases d with _ | _ <;> rcases d' with _ | _ <;> simp_all
    rw [e, show q = q' by omega, show p = p' by omega])

/-- A direction's half of a chunk is its four pieces. -/
theorem hC_pieces (d : Bool) (q : ℕ) : Finset.univ.biUnion (fun p : Fin 4 => hS d q p) = hC d q := by
  ext i
  simp only [Finset.mem_biUnion, Finset.mem_univ, true_and, hS, hC, Finset.mem_filter]
  constructor
  · rintro ⟨p, h, h'⟩; have := p.isLt; exact ⟨by omega, h'⟩
  · intro ⟨h, h'⟩
    exact ⟨⟨((i 0 : ℕ) / 256) % 4, Nat.mod_lt _ (by decide)⟩, by dsimp only; omega, h'⟩

/-- A landing slot is its four pieces. -/
theorem rK_pieces (k : ℕ) : Finset.univ.biUnion (fun p : Fin 4 => rS k p) = rK k := by
  ext i
  have h1 := lt1' i
  simp only [Finset.mem_biUnion, Finset.mem_univ, true_and, rS, rK, Finset.mem_filter]
  constructor
  · rintro ⟨p, h, -⟩; exact h
  · intro h
    exact ⟨⟨(i 1 : ℕ) / 256, by omega⟩, h, rfl⟩

theorem rS_disjoint {k k' p p' : ℕ} (h : (k, p) ≠ (k', p')) : Disjoint (rS k p) (rS k' p') :=
  disjoint_filters fun i h1 h2 => h (by rw [← h1.1, ← h1.2, ← h2.1, ← h2.2])

/-- A landing buffer is its three slots' pieces. -/
theorem r_all : Finset.univ.biUnion (fun b : Fin 3 × Fin 4 => rS b.1 b.2) = Finset.univ := by
  ext i
  have h0 := lt0' i; have h1 := lt1' i
  simp only [Finset.mem_biUnion, Finset.mem_univ, true_and, rS, Finset.mem_filter, iff_true]
  exact ⟨⟨i 0, ⟨(i 1 : ℕ) / 256, by omega⟩⟩, rfl, rfl⟩

/-- The buffer's rows are the halves of the chunks of a chain. -/
theorem h_all (c : Dev nD) :
    Finset.univ.biUnion (fun b : Fin 4 × Fin 2 => hH (bk true b.1 c).val b.2) = Finset.univ := by
  ext i
  have h0 := lt0 i
  simp only [Finset.mem_biUnion, Finset.mem_univ, true_and, hH, Finset.mem_filter, iff_true]
  obtain ⟨j, hj⟩ := bk_cover true c ⟨(i 0 : ℕ) / 1024, by show _ < 4; omega⟩
  refine ⟨⟨j, ⟨((i 0 : ℕ) / 512) % 2, Nat.mod_lt _ (by decide)⟩⟩, ?_⟩
  dsimp only; rw [hj]; dsimp only; omega

theorem h_all_disjoint (c : Dev nD) (b b' : Fin 4 × Fin 2) (h : b ≠ b') :
    Disjoint (hH (bk true b.1 c).val b.2) (hH (bk true b'.1 c).val b'.2) :=
  disjoint_filters fun i h1 h2 => h (by
    have hb := b.2.isLt; have hb' := b'.2.isLt
    have e : bk true b.1 c = bk true b'.1 c := Fin.ext (by omega)
    exact Prod.ext (bk_inj true c _ _ e) (Fin.ext (by omega)))

/-- The pieces, of both directions, of all the chunks of a chain are the whole buffer. -/
theorem p_all (d : Bool) (c : Dev nD) :
    Finset.univ.biUnion (fun b : Fin 4 × Fin 4 => oS (bk d b.1 c).val b.2) = Finset.univ := by
  ext i
  have h0 := lt0 i
  simp only [Finset.mem_biUnion, Finset.mem_univ, true_and, oS, Finset.mem_filter, iff_true]
  obtain ⟨j, hj⟩ := bk_cover d c ⟨(i 0 : ℕ) / 1024, by show _ < 4; omega⟩
  refine ⟨⟨j, ⟨((i 0 : ℕ) / 256) % 4, Nat.mod_lt _ (by decide)⟩⟩, ?_⟩
  dsimp only; rw [hj]; dsimp only; omega

/-- The output's rows are the chunks of a chain. -/
theorem o_all (c : Dev nD) : Finset.univ.biUnion (fun b : Fin 4 => oC (bk true b c).val) = Finset.univ := by
  ext i
  have h0 := lt0 i
  simp only [Finset.mem_biUnion, Finset.mem_univ, true_and, oC, Finset.mem_filter, iff_true]
  obtain ⟨j, hj⟩ := bk_cover true c ⟨(i 0 : ℕ) / 1024, by show _ < 4; omega⟩
  exact ⟨j, by rw [hj]⟩

theorem o_all_disjoint (c : Dev nD) (b b' : Fin 4) (h : b ≠ b') : Disjoint (oC (bk true b c).val) (oC (bk true b' c).val) :=
  disjoint_filters fun i h1 h2 => h (bk_inj true c _ _ (Fin.ext (by omega)))

theorem oC_pieces (q : ℕ) : Finset.univ.biUnion (fun p : Fin 4 => oS q p) = oC q := by
  ext i
  simp only [Finset.mem_biUnion, Finset.mem_univ, true_and, oS, oC, Finset.mem_filter]
  constructor
  · rintro ⟨p, h⟩; have := p.isLt; omega
  · intro h; exact ⟨⟨((i 0 : ℕ) / 256) % 4, Nat.mod_lt _ (by decide)⟩, by dsimp only; omega⟩

theorem oS_disjoint (q : ℕ) (p p' : Fin 4) (h : p ≠ p') : Disjoint (oS q p) (oS q p') :=
  disjoint_filters fun i h1 h2 => h (Fin.ext (by omega))

theorem s_all : Finset.univ.biUnion (fun k : Fin 3 => sK k) = Finset.univ := by
  ext i
  simp only [Finset.mem_biUnion, Finset.mem_univ, true_and, sK, Finset.mem_filter, iff_true]
  exact ⟨i 0, rfl⟩

theorem sK_disjoint (k k' : Fin 3) (h : k ≠ k') : Disjoint (sK k) (sK k') :=
  disjoint_filters fun i h1 h2 => h (Fin.ext (h1.symm.trans h2))

theorem sK_pieces : Finset.univ.biUnion (fun p : Fin 4 => sP p) = sK 2 := by
  ext i
  have h1 := lt1' i
  simp only [Finset.mem_biUnion, Finset.mem_univ, true_and, sP, sK, Finset.mem_filter]
  constructor
  · rintro ⟨p, h, -⟩; exact h
  · intro h; exact ⟨⟨(i 1 : ℕ) / 256, by omega⟩, h, rfl⟩

theorem sP_disjoint (p p' : Fin 4) (h : p ≠ p') : Disjoint (sP p) (sP p') :=
  disjoint_filters fun i h1 h2 => h (Fin.ext (h1.2.symm.trans h2.2))

/-! ## The rectangles of the printed accesses are these tiles -/

theorem rect2_mem {a b : ℕ} (off : Fin 2 → ℕ) (sz : Fin 2 → ℕ) (inb) (i : (⟨2, ![a, b]⟩ : Shape).Idx) :
    i ∈ (Rect.unit (s := ⟨2, ![a, b]⟩) off sz inb).set
      ↔ (off 0 ≤ i 0 ∧ (i 0 : ℕ) < off 0 + sz 0) ∧ (off 1 ≤ i 1 ∧ (i 1 : ℕ) < off 1 + sz 1) := by
  rw [Rect.mem_set_unit]
  exact Fin.forall_fin_two

theorem rect3_mem {a b e : ℕ} (off : Fin 3 → ℕ) (sz : Fin 3 → ℕ) (inb) (i : (⟨3, ![a, b, e]⟩ : Shape).Idx) :
    i ∈ (Rect.unit (s := ⟨3, ![a, b, e]⟩) off sz inb).set
      ↔ (off 0 ≤ i 0 ∧ (i 0 : ℕ) < off 0 + sz 0) ∧ (off 1 ≤ i 1 ∧ (i 1 : ℕ) < off 1 + sz 1) ∧ (off 2 ≤ i 2 ∧ (i 2 : ℕ) < off 2 + sz 2) := by
  rw [Rect.mem_set_unit]
  exact ⟨fun h => ⟨h 0, h 1, h 2⟩, fun h a => by fin_cases a; exacts [h.1, h.2.1, h.2.2]⟩

theorem rect_piece (d : Bool) (q p : ℕ) (off : Fin 2 → ℕ) (inb) (hp : p < 4) (h : off = ![1024 * q + 256 * p, colo d]) :
    (Rect.unit (s := S4096x1024) off S256x512.size inb).set = hS d q p := by
  subst h
  ext i
  have h1 := lt1 i
  simp only [hS, Finset.mem_filter, Finset.mem_univ, true_and]
  refine (rect2_mem _ _ _ _).trans ?_
  show (1024 * q + 256 * p ≤ (i 0 : ℕ) ∧ (i 0 : ℕ) < 1024 * q + 256 * p + 256) ∧ (colo d ≤ (i 1 : ℕ) ∧ (i 1 : ℕ) < colo d + 512) ↔ _
  cases d <;> simp only [colo, if_true, if_false, Bool.false_eq_true] <;> omega

theorem rect_half (q u : ℕ) (off : Fin 2 → ℕ) (inb) (h : off = ![1024 * q + 512 * u, 0]) :
    (Rect.unit (s := S4096x1024) off S512x1024.size inb).set = hH q u := by
  subst h
  ext i
  have h1 := lt1 i
  simp only [hH, Finset.mem_filter, Finset.mem_univ, true_and]
  refine (rect2_mem _ _ _ _).trans ?_
  show (1024 * q + 512 * u ≤ (i 0 : ℕ) ∧ (i 0 : ℕ) < 1024 * q + 512 * u + 512) ∧ (0 ≤ (i 1 : ℕ) ∧ (i 1 : ℕ) < 0 + 1024) ↔ _
  omega

theorem rect_cols (d : Bool) (q : ℕ) (off : Fin 2 → ℕ) (inb) (h : off = ![1024 * q, colo d]) :
    (Rect.unit (s := S4096x1024) off S1024x512.size inb).set = hC d q := by
  subst h
  ext i
  have h1 := lt1 i
  simp only [hC, Finset.mem_filter, Finset.mem_univ, true_and]
  refine (rect2_mem _ _ _ _).trans ?_
  show (1024 * q ≤ (i 0 : ℕ) ∧ (i 0 : ℕ) < 1024 * q + 1024) ∧ (colo d ≤ (i 1 : ℕ) ∧ (i 1 : ℕ) < colo d + 512) ↔ _
  cases d <;> simp only [colo, if_true, if_false, Bool.false_eq_true] <;> omega

theorem rect_out_chunk (q : ℕ) (off : Fin 2 → ℕ) (inb) (h : off = ![1024 * q, 0]) :
    (Rect.unit (s := S4096x1024) off S1024x1024.size inb).set = oC q := by
  subst h
  ext i
  have h1 := lt1 i
  simp only [oC, Finset.mem_filter, Finset.mem_univ, true_and]
  refine (rect2_mem _ _ _ _).trans ?_
  show (1024 * q ≤ (i 0 : ℕ) ∧ (i 0 : ℕ) < 1024 * q + 1024) ∧ (0 ≤ (i 1 : ℕ) ∧ (i 1 : ℕ) < 0 + 1024) ↔ _
  omega

theorem rect_out_piece (q p : ℕ) (off : Fin 2 → ℕ) (inb) (hp : p < 4) (h : off = ![1024 * q + 256 * p, 0]) :
    (Rect.unit (s := S4096x1024) off S256x1024.size inb).set = oS q p := by
  subst h
  ext i
  have h1 := lt1 i
  simp only [oS, Finset.mem_filter, Finset.mem_univ, true_and]
  refine (rect2_mem _ _ _ _).trans ?_
  show (1024 * q + 256 * p ≤ (i 0 : ℕ) ∧ (i 0 : ℕ) < 1024 * q + 256 * p + 256) ∧ (0 ≤ (i 1 : ℕ) ∧ (i 1 : ℕ) < 0 + 1024) ↔ _
  omega

theorem rect_land (k p : ℕ) (inb) : (Rect.unit (s := S3x1024x512) ![k, 256 * p, 0] S1x256x512.size inb).set = rS k p := by
  ext i
  have h2 := lt2' i
  simp only [rS, Finset.mem_filter, Finset.mem_univ, true_and]
  refine (rect3_mem _ _ _ _).trans ?_
  show (k ≤ (i 0 : ℕ) ∧ (i 0 : ℕ) < k + 1) ∧ (256 * p ≤ (i 1 : ℕ) ∧ (i 1 : ℕ) < 256 * p + 256) ∧ (0 ≤ (i 2 : ℕ) ∧ (i 2 : ℕ) < 0 + 512) ↔ _
  omega

theorem rect_slot (k : ℕ) (inb) : (Rect.unit (s := S3x1024x512) ![k, 0, 0] S1x1024x512.size inb).set = rK k := by
  ext i
  have h1 := lt1' i
  have h2 := lt2' i
  simp only [rK, Finset.mem_filter, Finset.mem_univ, true_and]
  refine (rect3_mem _ _ _ _).trans ?_
  show (k ≤ (i 0 : ℕ) ∧ (i 0 : ℕ) < k + 1) ∧ (0 ≤ (i 1 : ℕ) ∧ (i 1 : ℕ) < 0 + 1024) ∧ (0 ≤ (i 2 : ℕ) ∧ (i 2 : ℕ) < 0 + 512) ↔ _
  omega

theorem rect_stage (k : ℕ) (inb) : (Rect.unit (s := S3x1024x1024) ![k, 0, 0] S1x1024x1024.size inb).set = sK k := by
  ext i
  have h1 := lt1' i
  have h2 := lt2' i
  simp only [sK, Finset.mem_filter, Finset.mem_univ, true_and]
  refine (rect3_mem _ _ _ _).trans ?_
  show (k ≤ (i 0 : ℕ) ∧ (i 0 : ℕ) < k + 1) ∧ (0 ≤ (i 1 : ℕ) ∧ (i 1 : ℕ) < 0 + 1024) ∧ (0 ≤ (i 2 : ℕ) ∧ (i 2 : ℕ) < 0 + 1024) ↔ _
  omega

theorem rect_stage_piece (p : ℕ) (inb) : (Rect.unit (s := S3x1024x1024) ![2, 256 * p, 0] S1x256x1024.size inb).set = sP p := by
  ext i
  have h2 := lt2' i
  simp only [sP, Finset.mem_filter, Finset.mem_univ, true_and]
  refine (rect3_mem _ _ _ _).trans ?_
  show (2 ≤ (i 0 : ℕ) ∧ (i 0 : ℕ) < 2 + 1) ∧ (256 * p ≤ (i 1 : ℕ) ∧ (i 1 : ℕ) < 256 * p + 256) ∧ (0 ≤ (i 2 : ℕ) ∧ (i 2 : ℕ) < 0 + 1024) ↔ _
  omega

end Cert.Mlp

end
-- ==== Proof.Vals.lean ====
/-
# What the buffers hold

The contents of every buffer at every stage as functions of the devices' arguments, over any float
values. A device multiplies its columns of `x` with its rows of `W1` (`hP`); the four devices'
products are summed round the ring, half of the columns to the right and half to the left (`pre` is
what lands in a slot, `post` what stands there after the device's own part is added); the finished
sums, the same wherever they lie, are `hT`; and a block of the output is `outC`.
-/
module

public import proofs.«01_k».proof.Proof.Ring
public import proofs.«01_k».proof.Proof.Gen.KernelIdeal.Skeleton
public import Idealize.ShloMosaic.Lib.ValueLayout
public import Idealize.ShloMosaic.Lib.Pipeline.Value

@[expose] public section

noncomputable section

namespace Cert.Mlp

open Cert.KernelIdeal Cert.KernelIdeal.Gen
open Idealize.ShloMosaic

variable {F : FTy → Type} [FloatOps F]

/-- The devices' arguments: the columns of `x`, the rows of `W1`, the columns of `W2`. -/
structure Inp (F : FTy → Type) where
  X : Dev nD → Vec F S4096x1024 .f32
  W1 : Dev nD → Vec F S1024x1024 .bf16
  W2 : Dev nD → Vec F S1024x1024 .bf16

variable (I : Inp F)

/-- Rows `512 b` and on of device `c`'s `x`. -/
def xb (c : Dev nD) (b : ℕ) : Vec F S512x1024 .f32 := fun j => I.X c (at_ S4096x1024 ![512 * b + (j 0).val, (j 1).val])

/-- Device `c`'s own product, a part of the sum. -/
def hP (c : Dev nD) : Vec F S4096x1024 .bf16 := fun i =>
  k0_pay1 (xb I c ((i 0).val / 512)) (I.W1 c) (at_ S512x1024 ![(i 0).val % 512, (i 1).val])

/-- Of it the rows of chunk `q` and the columns of direction `d`. -/
def hblk (d : Bool) (c : Dev nD) (q : ℕ) : Vec F S1024x512 .bf16 := fun j =>
  hP I c (at_ S4096x1024 ![1024 * q + (j 0).val, colo d + (j 1).val])

/-- What stands in slot `k` of device `c` after its own part is added. -/
def post (d : Bool) : ℕ → Dev nD → Vec F S1024x512 .bf16
  | 0, c => addf (hblk I d (bk d 1 c) (bk d 1 c).val) (hblk I d c (bk d 1 c).val)
  | k + 1, c => addf (post d k (bk d 1 c)) (hblk I d c (bk d (k + 2) c).val)

/-- What lands in slot `k` of device `c`. -/
def pre (d : Bool) : ℕ → Dev nD → Vec F S1024x512 .bf16
  | 0, c => hblk I d (bk d 1 c) (bk d 1 c).val
  | k + 1, c => post I d k (bk d 1 c)

theorem post_eq (d : Bool) (k : ℕ) (c : Dev nD) :
    post I d k c = addf (pre I d k c) (hblk I d c (bk d (k + 1) c).val) := by cases k <;> rfl

/-- The landing buffer, as it is filled. -/
def preB (d : Bool) (c : Dev nD) : Vec F S3x1024x512 .bf16 := fun i => pre I d (i 0).val c (at_ S1024x512 ![(i 1).val, (i 2).val])
/-- The landing buffer, the device's parts added. -/
def postB (d : Bool) (c : Dev nD) : Vec F S3x1024x512 .bf16 := fun i => post I d (i 0).val c (at_ S1024x512 ![(i 1).val, (i 2).val])

/-- The device a chunk's number names. -/
def devOf (q : ℕ) : Dev nD := ⟨q % 4, Nat.mod_lt _ (by decide)⟩

theorem devOf_val (c : Dev nD) : devOf c.val = c := Fin.ext (Nat.mod_eq_of_lt c.isLt)

/-- The finished sum: chunk `q` of direction `d` is finished on the device one ahead of `q`'s own. -/
def hT : Vec F S4096x1024 .bf16 := fun i =>
  post I (decide ((i 1).val < 512)) 2 (bk (decide ((i 1).val < 512)) 1 (devOf ((i 0).val / 1024)))
    (at_ S1024x512 ![(i 0).val % 1024, (i 1).val % 512])

/-- The columns of direction `d` of chunk `q` of the finished sum. -/
def hcols (d : Bool) (q : ℕ) : Vec F S1024x512 .bf16 := fun j => hT I (at_ S4096x1024 ![1024 * q + (j 0).val, colo d + (j 1).val])
/-- Of these piece `p`. -/
def hpc (d : Bool) (q p : ℕ) : Vec F S256x512 .bf16 := fun j =>
  hT I (at_ S4096x1024 ![1024 * q + 256 * p + (j 0).val, colo d + (j 1).val])

/-- The upper half of the rows of `W2`, as loaded. -/
def w2u (c : Dev nD) : Vec F S512x1024 .bf16 := fun j => I.W2 c (at_ S1024x1024 ![(j 0).val, (j 1).val])
/-- The lower half of the rows of `W2`, as loaded. -/
def w2l (c : Dev nD) : Vec F S512x1024 .bf16 := fun j => I.W2 c (at_ S1024x1024 ![512 + (j 0).val, (j 1).val])
def w2t (c : Dev nD) : Vec F S512x1024 .bf16 := k0_pay37 (w2u I c)
def w2b (c : Dev nD) : Vec F S512x1024 .bf16 := k0_pay38 (w2l I c)

/-- The last landing slot, all of it. -/
def rsl (d : Bool) (c : Dev nD) : Vec F S1x1024x512 .bf16 := fun j => postB I d c (at_ S3x1024x512 ![2, (j 1).val, (j 2).val])

/-- The output's own chunk. -/
def vOwn (c : Dev nD) : Vec F S1x1024x1024 .bf16 :=
  k0_pay42 (w2b I c) (k0_pay41 (w2t I c) (hcols I true c.val)) (hcols I false c.val)
/-- The output's chunk one ahead: its right-going half was finished here. -/
def vUp (c : Dev nD) : Vec F S1x1024x1024 .bf16 :=
  k0_pay46 (w2b I c) (k0_pay45 (k0_pay39 (w2u I c) (rsl I true c))) (hcols I false (bk true 3 c).val)
/-- The output's chunk one behind: its left-going half was finished here. -/
def vDn (c : Dev nD) : Vec F S1x1024x1024 .bf16 :=
  k0_pay44 (k0_pay43 (w2t I c) (k0_pay40 (w2l I c) (rsl I false c)) (hcols I true (bk true 1 c).val))
/-- The output's chunk two away, piece `p`. -/
def vOpp (c : Dev nD) (p : ℕ) : Vec F S1x256x1024 .bf16 :=
  k0_pay47 (w2t I c) (w2b I c) (hpc I true (bk true 2 c).val p) (hpc I false (bk true 2 c).val p)

/-- A chunk of the output, by the number of steps it lies behind. -/
def vChunk (j : ℕ) (c : Dev nD) : Vec F S1x1024x1024 .bf16 :=
  if j = 0 then vOwn I c else if j = 1 then vDn I c else vUp I c

/-- The output of device `c`. -/
def outC (c : Dev nD) : Vec F S4096x1024 .bf16 := fun i =>
  if (i 0).val / 1024 = (bk true 2 c).val then vOpp I c ((i 0).val / 256 % 4) (at_ S1x256x1024 ![0, (i 0).val % 256, (i 1).val])
  else vChunk I (if (i 0).val / 1024 = c.val then 0 else if (i 0).val / 1024 = (bk true 1 c).val then 1 else 3) c
    (at_ S1x1024x1024 ![0, (i 0).val % 1024, (i 1).val])

/-- Every slot of the output staging holding `w`. -/
def sto (w : Vec F S1x1024x1024 .bf16) : Vec F S3x1024x1024 .bf16 := fun i => w (at_ S1x1024x1024 ![0, (i 1).val, (i 2).val])
/-- Every piece of the output staging holding `w`. -/
def stoP (w : Vec F S1x256x1024 .bf16) : Vec F S3x1024x1024 .bf16 := fun i => w (at_ S1x256x1024 ![0, (i 1).val % 256, (i 2).val])

/-! ## Equal coordinates, equal entries -/

theorem at_congr (s : Shape) [Full s] {v w : Fin s.rank → ℕ} (h : ∀ a, v a % s.size a = w a % s.size a) : at_ s v = at_ s w :=
  funext fun a => Fin.ext (h a)

theorem at2_congr {a b : ℕ} [Full ⟨2, ![a, b]⟩] {x y x' y' : ℕ} (h0 : x = x') (h1 : y = y') :
    at_ ⟨2, ![a, b]⟩ ![x, y] = at_ ⟨2, ![a, b]⟩ ![x', y'] := by rw [h0, h1]

theorem at2_0 {a b : ℕ} [Full ⟨2, ![a, b]⟩] {x y : ℕ} (h : x < a) : ((at_ ⟨2, ![a, b]⟩ ![x, y]) 0 : ℕ) = x := Nat.mod_eq_of_lt h
theorem at2_1 {a b : ℕ} [Full ⟨2, ![a, b]⟩] {x y : ℕ} (h : y < b) : ((at_ ⟨2, ![a, b]⟩ ![x, y]) 1 : ℕ) = y := Nat.mod_eq_of_lt h
theorem at3_0 {a b e : ℕ} [Full ⟨3, ![a, b, e]⟩] {x y z : ℕ} (h : x < a) : ((at_ ⟨3, ![a, b, e]⟩ ![x, y, z]) 0 : ℕ) = x := Nat.mod_eq_of_lt h
theorem at3_1 {a b e : ℕ} [Full ⟨3, ![a, b, e]⟩] {x y z : ℕ} (h : y < b) : ((at_ ⟨3, ![a, b, e]⟩ ![x, y, z]) 1 : ℕ) = y := Nat.mod_eq_of_lt h
theorem at3_2 {a b e : ℕ} [Full ⟨3, ![a, b, e]⟩] {x y z : ℕ} (h : z < e) : ((at_ ⟨3, ![a, b, e]⟩ ![x, y, z]) 2 : ℕ) = z := Nat.mod_eq_of_lt h

theorem eq_at2 {a b : ℕ} [Full ⟨2, ![a, b]⟩] (i : (⟨2, ![a, b]⟩ : Shape).Idx) (x y : ℕ) (h0 : (i 0 : ℕ) = x) (h1 : (i 1 : ℕ) = y) :
    i = at_ ⟨2, ![a, b]⟩ ![x, y] := eq_at _ i _ (Fin.forall_fin_two.mpr ⟨h0, h1⟩)
theorem eq_at3 {a b e : ℕ} [Full ⟨3, ![a, b, e]⟩] (i : (⟨3, ![a, b, e]⟩ : Shape).Idx) (x y z : ℕ)
    (h0 : (i 0 : ℕ) = x) (h1 : (i 1 : ℕ) = y) (h2 : (i 2 : ℕ) = z) :
    i = at_ ⟨3, ![a, b, e]⟩ ![x, y, z] := eq_at _ i _ fun k => by fin_cases k; exacts [h0, h1, h2]

/-- An index of a matrix, a unit axis put in front. -/
theorem squeeze_at {a b : ℕ} [Full ⟨3, ![1, a, b]⟩] (h : (⟨2, ![a, b]⟩ : Shape).numel = (⟨3, ![1, a, b]⟩ : Shape).numel) (j : (⟨2, ![a, b]⟩ : Shape).Idx) :
    Shape.reshapeEquiv h j = at_ ⟨3, ![1, a, b]⟩ ![0, (j 0).val, (j 1).val] := by
  obtain ⟨x, y, rfl⟩ : ∃ (x : Fin a) (y : Fin b), j = ValueIdx.ix2 x y := ⟨j 0, j 1, ValueIdx.eq_ix2 j⟩
  rw [ValueIdx.reshapeEquiv_ix2_1ab h]
  exact eq_at3 _ _ _ _ rfl rfl rfl

theorem cast_drop {α : Type} {a b : ℕ} [Full ⟨3, ![1, a, b]⟩] (x : (⟨3, ![1, a, b]⟩ : Shape).Idx → α) (h) (j : (⟨2, ![a, b]⟩ : Shape).Idx) :
    shapeCast ⟨2, ![a, b]⟩ x h j = x (at_ ⟨3, ![1, a, b]⟩ ![0, (j 0).val, (j 1).val]) := by
  obtain ⟨y, z, rfl⟩ : ∃ (y : Fin a) (z : Fin b), j = ValueIdx.ix2 y z := ⟨j 0, j 1, ValueIdx.eq_ix2 j⟩
  rw [ValueIdx.shapeCast_1ab_ab_apply]
  exact congrArg x (eq_at3 _ _ _ _ rfl rfl rfl)

theorem cast_add {α : Type} {a b : ℕ} [Full ⟨2, ![a, b]⟩] (x : (⟨2, ![a, b]⟩ : Shape).Idx → α) (h) (j : (⟨3, ![1, a, b]⟩ : Shape).Idx) :
    shapeCast ⟨3, ![1, a, b]⟩ x h j = x (at_ ⟨2, ![a, b]⟩ ![(j 1).val, (j 2).val]) := by
  obtain ⟨u, y, z, rfl⟩ : ∃ (u : Fin 1) (y : Fin a) (z : Fin b), j = ValueIdx.ix3 u y z := ⟨j 0, j 1, j 2, ValueIdx.eq_ix3 j⟩
  rw [ValueIdx.shapeCast_ab_1ab_apply]
  exact congrArg x (eq_at2 _ _ _ rfl rfl)

/-- Adding a device's own part to what has landed in a piece gives the piece's next contents. -/
theorem add_piece (d : Bool) (c : Dev nD) (k p : ℕ) (hk : k < 3) (hp : p < 4) (j : S1x256x512.Idx) :
    k0_pay10 (F := F) (fun j => preB I d c (at_ S3x1024x512 ![k, 256 * p + (j 1).val, (j 2).val]))
        (fun j => hP I c (at_ S4096x1024 ![1024 * (bk d (k + 1) c).val + 256 * p + (j 0).val, colo d + (j 1).val])) j
      = postB I d c (at_ S3x1024x512 ![k, 256 * p + (j 1).val, (j 2).val]) := by
  have h1 := lt1' j; have h2 := lt2' j
  have hq := dev_lt (bk d (k + 1) c)
  have ec : colo d + (j 2).val < 1024 := by cases d <;> simp only [colo, if_true, if_false, Bool.false_eq_true] <;> omega
  unfold k0_pay10
  rw [cast_add]
  unfold postB
  rw [at3_0 hk, at3_1 (show 256 * p + (j 1).val < 1024 by omega), at3_2 h2, post_eq]
  unfold addf
  rw [cast_drop]
  have e1 : ((at_ S256x512 ![(j 1).val, (j 2).val]) 0 : ℕ) = (j 1).val := at2_0 h1
  have e2 : ((at_ S256x512 ![(j 1).val, (j 2).val]) 1 : ℕ) = (j 2).val := at2_1 h2
  rw [e1, e2]
  have e3 : ((at_ S1x256x512 ![0, (j 1).val, (j 2).val]) 1 : ℕ) = (j 1).val := at3_1 h1
  have e4 : ((at_ S1x256x512 ![0, (j 1).val, (j 2).val]) 2 : ℕ) = (j 2).val := at3_2 h2
  rw [e3, e4]
  unfold preB hblk
  rw [at3_0 hk, at3_1 (show 256 * p + (j 1).val < 1024 by omega), at3_2 h2]
  have e5 : ((at_ S1024x512 ![256 * p + (j 1).val, (j 2).val]) 0 : ℕ) = 256 * p + (j 1).val := at2_0 (by omega)
  have e6 : ((at_ S1024x512 ![256 * p + (j 1).val, (j 2).val]) 1 : ℕ) = (j 2).val := at2_1 h2
  rw [e5, e6]
  refine congrArg (FloatOps.addf _) (congrArg (hP I c) (at2_congr ?_ (congrArg (colo d + ·) e2)))
  show 1024 * (bk d (k + 1) c).val + 256 * p + ((at_ S256x512 ![(j 1).val, (j 2).val]) 0 : ℕ) = _
  rw [e1, Nat.add_assoc]

/-- The finished sum on a piece is what the finishing device's last slot holds. -/
theorem hT_piece (d : Bool) (c : Dev nD) (p a b : ℕ) (hp : p < 4) (ha : a < 256) (hb : b < 512) :
    hT I (at_ S4096x1024 ![1024 * (nx d c).val + 256 * p + a, colo d + b]) = postB I d c (at_ S3x1024x512 ![2, 256 * p + a, b]) := by
  have hq := dev_lt (nx d c)
  have ec : colo d + b < 1024 := by cases d <;> simp only [colo, if_true, if_false, Bool.false_eq_true] <;> omega
  unfold hT postB
  rw [at3_0 (by decide), at3_1 (show 256 * p + a < 1024 by omega), at3_2 hb]
  have e0 : ((at_ S4096x1024 ![1024 * (nx d c).val + 256 * p + a, colo d + b]) 0 : ℕ) = 1024 * (nx d c).val + 256 * p + a := at2_0 (by omega)
  have e1 : ((at_ S4096x1024 ![1024 * (nx d c).val + 256 * p + a, colo d + b]) 1 : ℕ) = colo d + b := at2_1 ec
  rw [e0, e1, show (1024 * (nx d c).val + 256 * p + a) / 1024 = (nx d c).val by omega, devOf_val,
    show (1024 * (nx d c).val + 256 * p + a) % 1024 = 256 * p + a by omega]
  have e2 : decide (colo d + b < 512) = d := by
    cases d <;> simp only [colo, if_true, if_false, Bool.false_eq_true, decide_eq_true_eq, decide_eq_false_iff_not] <;> omega
  have e3 : (colo d + b) % 512 = b := by cases d <;> simp only [colo, if_true, if_false, Bool.false_eq_true] <;> omega
  rw [e2, e3, show bk d 1 (nx d c) = c from bk_nx d 0 c]

end Cert.Mlp

end
-- ==== Proof.Sched.lean ====
/-
# The protocol of the copies

Every semaphore of the kernel is used for one round. This module names the semaphores, states what
each of them hands over when its round is complete (its payload), what every device owes at the
start, and the order in which the waits are allowed.

A message `k` of direction `d`, piece `p` carries a sum on its way round the ring (`k < 3`) or a
finished sum (`k ≥ 3`). With the data it carries the right to write tiles of the buffers of products:
a tile's product is read for the last time when it is added, and the finished sum may then be written
over it (`rid`).
-/
module

public import proofs.«01_k».proof.Proof.Vals
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Mathlib.Algebra.Order.BigOperators.Group.LocallyFinite

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB
local notation "𝕄" => MT nD τ sig Unit (Elt F) ℕ UU ℕ
abbrev 𝒱₀ : Variants := Variants.none
abbrev EP : Emb (UR sig nD τ) (MT nD τ sig Unit (Elt F) ℕ UU ℕ) := embL
abbrev ER : Emb UB (MT nD τ sig Unit (Elt F) ℕ UU ℕ) := embR

/-! ## The buffers -/

abbrev xM : Memref sig .tc .hbm S4096x1024 .f32 := Memref.whole main_arg0
abbrev w1M : Memref sig .tc .vmem S1024x1024 .bf16 := Memref.whole cc0_stg0_0
abbrev w2M : Memref sig .tc .vmem S1024x1024 .bf16 := Memref.whole cc0_stg1_0
abbrev outM : Memref sig .tc .hbm S4096x1024 .bf16 := Memref.whole main_v1
abbrev hM : Memref sig .tc .vmem S4096x1024 .bf16 := Memref.whole cc0_scratch0
abbrev rrM : Memref sig .tc .vmem S3x1024x512 .bf16 := Memref.whole cc0_scratch1
abbrev rlM : Memref sig .tc .vmem S3x1024x512 .bf16 := Memref.whole cc0_scratch2
abbrev xaM : Memref sig .tc .vmem S512x1024 .f32 := Memref.whole cc0_scratch3
abbrev xbM : Memref sig .tc .vmem S512x1024 .f32 := Memref.whole cc0_scratch4
abbrev osM : Memref sig .tc .vmem S3x1024x1024 .bf16 := Memref.whole cc0_scratch5

/-- The landing buffer of direction `d`. -/
abbrev rsM (d : Bool) : Memref sig .tc .vmem S3x1024x512 .bf16 := match d with | true => rrM | false => rlM
/-- The staging buffer of `x` number `b`. -/
abbrev stgM (b : Bool) : Memref sig .tc .vmem S512x1024 .f32 := match b with | true => xbM | false => xaM

/-- Device `c`'s tile `S` of a buffer, held at share `q` with contents `f`. -/
abbrev hA (c : Dev nD) (S : Finset S4096x1024.Idx) (q : PosShare TreeShare) (f : Vec F S4096x1024 .bf16) : sProp 𝕄 :=
  (c : Thread nD τ).loc cc0_scratch0 ↦[S]{q} f
abbrev rA (d : Bool) (c : Dev nD) (S : Finset S3x1024x512.Idx) (q : PosShare TreeShare) (f : Vec F S3x1024x512 .bf16) : sProp 𝕄 :=
  match d with
  | true => (c : Thread nD τ).loc cc0_scratch1 ↦[S]{q} f
  | false => (c : Thread nD τ).loc cc0_scratch2 ↦[S]{q} f
abbrev xA (c : Dev nD) (S : Finset S4096x1024.Idx) (f : Vec F S4096x1024 .f32) : sProp 𝕄 :=
  (c : Thread nD τ).loc main_arg0 ↦[S]{fullShare} f
abbrev oA (c : Dev nD) (S : Finset S4096x1024.Idx) (f : Vec F S4096x1024 .bf16) : sProp 𝕄 :=
  (c : Thread nD τ).loc main_v1 ↦[S]{fullShare} f
abbrev sA (c : Dev nD) (S : Finset S3x1024x1024.Idx) (f : Vec F S3x1024x1024 .bf16) : sProp 𝕄 :=
  (c : Thread nD τ).loc cc0_scratch5 ↦[S]{fullShare} f
abbrev gA (b : Bool) (c : Dev nD) (f : Vec F S512x1024 .f32) : sProp 𝕄 :=
  match b with
  | false => (c : Thread nD τ).loc cc0_scratch3 ↦{fullShare} f
  | true => (c : Thread nD τ).loc cc0_scratch4 ↦{fullShare} f

/-! ## The semaphores -/

/-- The kernel's own semaphores: the loads', the stores', and per message one for its source (`true`)
    and one for its landing (`false`). -/
abbrev OK : Type := Fin 8 ⊕ Fin 7 ⊕ (Bool × Bool × Fin 6 × Fin 4)

/-- The number of the semaphore of message `k`, piece `p`. -/
def msgNum (s d : Bool) (k p : ℕ) : ℕ :=
  17 + (if k < 3 then 0 else 48) + (if d then 0 else 24) + (if s then 0 else 12) + (4 * (k % 3) + p)

def onum : OK → ℕ
  | .inl i => 2 + i.val
  | .inr (.inl i) => 10 + i.val
  | .inr (.inr (s, d, k, p)) => msgNum s d k.val p.val

theorem onum_lt (k : OK) : onum k < 113 := by
  rcases k with i | i | ⟨s, d, k, p⟩
  · show 2 + i.val < 113; omega
  · show 10 + i.val < 113; omega
  · revert s d k p; decide +kernel

def osem (k : OK) : SemLoc sig := .dma (⟨onum k, onum_lt k⟩ : Fin 113)

abbrev barS : Sem sig := (SemArray.scalar (sig.barrier 0 rfl) : Sems sig S_).sem

/-- All the semaphores of the protocol: the barrier and the kernel's own. -/
abbrev CK : Type := Option OK
def csem : CK → SemLoc sig
  | none => .reg barS
  | some k => osem k

/-- Which semaphore a number is. -/
def decNum (n : ℕ) : Option OK :=
  if n < 2 then none
  else if h : n < 10 then some (.inl ⟨n - 2, by omega⟩)
  else if h : n < 17 then some (.inr (.inl ⟨n - 10, by omega⟩))
  else some (.inr (.inr (decide ((n - 17) / 12 % 2 = 0), decide ((n - 17) / 24 % 2 = 0),
    ⟨((n - 17) % 12 / 4 + 3 * ((n - 17) / 48)) % 6, Nat.mod_lt _ (by decide)⟩, ⟨(n - 17) % 4, Nat.mod_lt _ (by decide)⟩)))

def ckOf : SemLoc sig → Option CK
  | .reg _ => some none
  | .dma s => (decNum s.val).map some

theorem decNum_onum (k : OK) : decNum (onum k) = some k := by
  rcases k with i | i | ⟨s, d, k, p⟩
  · have := i.isLt
    show decNum (2 + i.val) = _
    unfold decNum
    rw [if_neg (by omega), dif_pos (by omega)]
    exact congrArg (fun j => some (Sum.inl j)) (Fin.ext (Nat.add_sub_cancel_left ..))
  · have := i.isLt
    show decNum (10 + i.val) = _
    unfold decNum
    rw [if_neg (by omega), dif_neg (by omega), dif_pos (by omega)]
    exact congrArg (fun j => some (Sum.inr (Sum.inl j))) (Fin.ext (Nat.add_sub_cancel_left ..))
  · have h : ∀ (s d : Bool) (k : Fin 6) (p : Fin 4), 17 ≤ msgNum s d k.val p.val
        ∧ decide ((msgNum s d k.val p.val - 17) / 12 % 2 = 0) = s ∧ decide ((msgNum s d k.val p.val - 17) / 24 % 2 = 0) = d
        ∧ ((msgNum s d k.val p.val - 17) % 12 / 4 + 3 * ((msgNum s d k.val p.val - 17) / 48)) % 6 = k.val
        ∧ (msgNum s d k.val p.val - 17) % 4 = p.val := by decide +kernel
    obtain ⟨h0, h1, h2, h3, h4⟩ := h s d k p
    show decNum (msgNum s d k.val p.val) = _
    unfold decNum
    rw [if_neg (by omega), dif_neg (by omega), dif_neg (by omega), h1, h2]
    exact congrArg (fun x => some (Sum.inr (Sum.inr x))) (Prod.ext rfl (Prod.ext rfl (Prod.ext (Fin.ext h3) (Fin.ext h4))))

theorem ckOf_csem (k : CK) : ckOf (csem k) = some k := by
  cases k with
  | none => rfl
  | some k => exact congrArg (Option.map some) (decNum_onum k)

theorem csem_inj {k k' : CK} (h : csem k = csem k') : k = k' :=
  Option.some.inj (by rw [← ckOf_csem k, h, ckOf_csem k'])

abbrev kcell (ck : Dev nD × CK) : GSem nD τ sig := ((ck.1 : Thread nD τ), csem ck.2)

theorem kcell_inj : Function.Injective kcell := fun a b h => by
  have h1 : (a.1 : Thread nD τ) = (b.1 : Thread nD τ) := congrArg Prod.fst h
  exact Prod.ext (by simpa using congrArg Prod.fst h1) (csem_inj (congrArg Prod.snd h))

abbrev ldK (i : Fin 8) : CK := some (.inl i)
abbrev stK (i : Fin 7) : CK := some (.inr (.inl i))
abbrev sndK (d : Bool) (k : Fin 6) (p : Fin 4) : CK := some (.inr (.inr (true, d, k, p)))
abbrev rcvK (d : Bool) (k : Fin 6) (p : Fin 4) : CK := some (.inr (.inr (false, d, k, p)))
abbrev barCell (c : Dev nD) : GSem nD τ sig := kcell (c, none)
abbrev ldCell (c : Dev nD) (i : Fin 8) : GSem nD τ sig := kcell (c, ldK i)
abbrev stCell (c : Dev nD) (i : Fin 7) : GSem nD τ sig := kcell (c, stK i)
abbrev sndCell (c : Dev nD) (d : Bool) (k : Fin 6) (p : Fin 4) : GSem nD τ sig := kcell (c, sndK d k p)
abbrev rcvCell (c : Dev nD) (d : Bool) (k : Fin 6) (p : Fin 4) : GSem nD τ sig := kcell (c, rcvK d k p)

/-! ## Amounts -/

/-- What a copy of a piece of a message counts. -/
def nMsg : ℕ := RefSig.tileCredit S256x512 .bf16
/-- What a copy of a half of a chunk of `x` counts. -/
def nLd : ℕ := RefSig.tileCredit S512x1024 .f32
/-- What a copy of a chunk of the output counts. -/
def nSt : ℕ := RefSig.tileCredit S1024x1024 .bf16
/-- What a copy of a piece of the output counts. -/
def nStP : ℕ := RefSig.tileCredit S256x1024 .bf16

def amt : CK → ℕ
  | none => 1
  | some (.inl _) => nLd
  | some (.inr (.inl i)) => if i.val < 3 then nSt else nStP
  | some (.inr (.inr _)) => nMsg

theorem numel_pos (s : Shape) [Full s] : 0 < s.numel := Nat.pos_of_ne_zero fun h => by
  obtain ⟨a, -, ha⟩ := Finset.prod_eq_zero_iff.mp h
  exact absurd ha (Full.pos a).ne'

theorem nMsg_pos : 0 < nMsg := RefSig.tileCredit_pos S256x512 .bf16 (numel_pos _)
theorem nLd_pos : 0 < nLd := RefSig.tileCredit_pos S512x1024 .f32 (numel_pos _)
theorem nSt_pos : 0 < nSt := RefSig.tileCredit_pos S1024x1024 .bf16 (numel_pos _)
theorem nStP_pos : 0 < nStP := RefSig.tileCredit_pos S256x1024 .bf16 (numel_pos _)

theorem amt_pos (k : CK) : 0 < amt k := by
  unfold amt
  split
  · exact Nat.one_pos
  · exact nLd_pos
  · split
    · exact nSt_pos
    · exact nStP_pos
  · exact nMsg_pos

/-! ## What is handed over -/

variable (I : Inp F)

/-- Device `e`'s tile of chunk `q`, piece `p`, with the device's product in it. -/
abbrev own (d : Bool) (p : ℕ) (e q : Dev nD) : sProp 𝕄 := hA e (hS d q.val p) fullShare (hP I e)

/-- The tiles whose products are done with, that travel with message `k` to the device whose chain
    of devices behind is `e`. -/
def rid (d : Bool) (p : ℕ) (e : ℕ → Dev nD) : ℕ → sProp 𝕄
  | 0 => own I d p (e 1) (e 1)
  | 1 => iprop(own I d p (e 1) (e 2) ∗ own I d p (e 2) (e 2))
  | 2 => iprop(own I d p (e 1) (e 3) ∗ own I d p (e 2) (e 3) ∗ own I d p (e 3) (e 3))
  | 3 => iprop(own I d p (e 2) (e 4) ∗ own I d p (e 3) (e 4))
  | 4 => own I d p (e 3) (e 5)
  | _ => iprop(emp)

/-- The data of message `k`, landed on `c`. -/
def land (d : Bool) (k p : ℕ) (c : Dev nD) : sProp 𝕄 :=
  if k < 3 then rA d c (rS k p) fullShare (preB I d c) else hA c (hS d (bk d (k + 1) c).val p) fullShare (hT I)

/-- What comes back of the source of message `k` of `c`. -/
def back (d : Bool) (k p : ℕ) (c : Dev nD) : sProp 𝕄 :=
  match k with
  | 0 => iprop(emp)
  | 1 => rA d c (rS 0 p) fullShare (postB I d c)
  | 2 => rA d c (rS 1 p) fullShare (postB I d c)
  | 3 => rA d c (rS 2 p) fullShare.left (postB I d c)
  | k + 4 => hA c (hS d (bk d (k + 4) c).val p) fullShare.left (hT I)

/-- The chunk (as a number of steps behind) and the half of it that load `i` fetches. -/
def ldJ (i : ℕ) : ℕ := if i < 2 then 0 else if i = 2 ∨ i = 4 then 1 else if i = 3 ∨ i = 5 then 3 else 2
def ldU (i : ℕ) : ℕ := if i = 0 ∨ i = 2 ∨ i = 3 ∨ i = 6 then 0 else 1
/-- The staging buffer load `i` fills. -/
def ldB (i : ℕ) : Bool := decide (i % 2 = 1)

def ldPay (i : ℕ) (c : Dev nD) : sProp 𝕄 :=
  iprop(gA (ldB i) c (xb I c (2 * (bk true (ldJ i) c).val + ldU i)) ∗ xA c (hH (bk true (ldJ i) c).val (ldU i)) (I.X c))

/-- Of the staging and of the output what store `i` copies. -/
def stSrc (i : ℕ) : Finset S3x1024x1024.Idx := if i < 3 then sK i else sP (i - 3)
def stDst (i : ℕ) (c : Dev nD) : Finset S4096x1024.Idx :=
  if i = 0 then oC (bk true 3 c).val else if i = 1 then oC (bk true 1 c).val else if i = 2 then oC c.val else oS (bk true 2 c).val (i - 3)

def stPay (i : ℕ) (c : Dev nD) : sProp 𝕄 := iprop((∃ f, sA c (stSrc i) f) ∗ oA c (stDst i c) (outC I c))

/-- The neighbour `nx d a` hands its landing buffer of direction `d` to `a`. -/
def barPay (d : Bool) (a : Dev nD) : sProp 𝕄 := iprop(∃ f, rA d (nx d a) Finset.univ fullShare f)

def pay (k : CK) (c : Dev nD) (b : Bool) : sProp 𝕄 :=
  match k with
  | none => barPay (F := F) b c
  | some (.inl i) => ldPay I i.val c
  | some (.inr (.inl i)) => stPay I i.val c
  | some (.inr (.inr (true, d, k, p))) => back I d k.val p.val c
  | some (.inr (.inr (false, d, k, p))) => iprop(land I d k.val p.val c ∗ rid I d p.val (fun j => bk d j c) k.val)

omit [FloatOps F] in
instance rA_storable (d : Bool) (c : Dev nD) (S q f) : BI.Storable (upEmb : UEmb _ 𝕄) (rA (F := F) d c S q f) := by cases d <;> infer_instance
omit [FloatOps F] in
instance gA_storable (b : Bool) (c : Dev nD) (f) : BI.Storable (upEmb : UEmb _ 𝕄) (gA (F := F) b c f) := by cases b <;> infer_instance
instance rid_storable (d : Bool) (p : ℕ) (e : ℕ → Dev nD) (k : ℕ) : BI.Storable (upEmb : UEmb _ 𝕄) (rid I d p e k) := by
  unfold rid; split <;> infer_instance
instance land_storable (d : Bool) (k p : ℕ) (c : Dev nD) : BI.Storable (upEmb : UEmb _ 𝕄) (land I d k p c) := by
  unfold land; split <;> infer_instance
instance back_storable (d : Bool) (k p : ℕ) (c : Dev nD) : BI.Storable (upEmb : UEmb _ 𝕄) (back I d k p c) := by
  unfold back; split <;> infer_instance
instance pay_storable (k : CK) (c : Dev nD) (b : Bool) : BI.Storable (upEmb : UEmb _ 𝕄) (pay I k c b) := by
  unfold pay ldPay stPay barPay; split <;> infer_instance

/-! ## The schedule -/

def Rd : Rounds.Schedule (GSem nD τ sig) Bool 𝕄 where
  duties g r := if r = 0 ∧ g.1.2 = .tc then (match ckOf g.2 with | none => ∅ | some none => Finset.univ | some (some _) => {false}) else ∅
  unitless _ := False
  amount g _ _ := match ckOf g.2 with | none => 1 | some k => amt k
  payload g _ b := match ckOf g.2 with | none => iprop(emp) | some k => pay I k g.1.1 b
  amount_pos g _ _ _ := by
    show 0 < (match ckOf g.2 with | none => 1 | some k => amt k)
    split
    · exact Nat.one_pos
    · exact amt_pos _

instance Rd_storable (g : GSem nD τ sig) (r : ℕ) (b : Bool) : BI.Storable (upEmb : UEmb _ 𝕄) ((Rd I).payload g r b) := by
  show BI.Storable upEmb (match ckOf g.2 with | none => iprop(emp) | some k => pay I k g.1.1 b)
  split <;> infer_instance

section Facts
variable (c : Dev nD)

theorem duties_bar : (Rd I).duties (barCell c) 0 = Finset.univ := by
  show (if (0 : ℕ) = 0 ∧ (c : Thread nD τ).2 = .tc then (match ckOf (csem none) with | none => ∅ | some none => Finset.univ | some (some _) => {false}) else ∅) = _
  rw [if_pos ⟨rfl, rfl⟩, ckOf_csem]
theorem duties_own (k : OK) : (Rd I).duties (kcell (c, some k)) 0 = {false} := by
  show (if (0 : ℕ) = 0 ∧ (c : Thread nD τ).2 = .tc then (match ckOf (csem (some k)) with | none => ∅ | some none => Finset.univ | some (some _) => {false}) else ∅) = _
  rw [if_pos ⟨rfl, rfl⟩, ckOf_csem]
theorem duties_later (g : GSem nD τ sig) : ∀ r, 1 ≤ r → (Rd I).duties g r = ∅ :=
  fun r hr => by dsimp only [Rd]; rw [if_neg fun h => by omega]
theorem amount_eq (k : CK) (b : Bool) : (Rd I).amount (kcell (c, k)) 0 b = amt k := by
  show (match ckOf (csem k) with | none => 1 | some k => amt k) = _
  rw [ckOf_csem]
theorem payload_eq (k : CK) (b : Bool) : (Rd I).payload (kcell (c, k)) 0 b = pay I k c b := by
  show (match ckOf (csem k) with | none => iprop(emp) | some k => pay I k c b) = _
  rw [ckOf_csem]
theorem expect_bar : (Rd I).expect (barCell c) 0 = 2 := by
  unfold Schedule.expect Schedule.amountOf
  rw [duties_bar, Finset.sum_congr rfl fun d _ => amount_eq I c none d, Finset.sum_const, Finset.card_univ, Fintype.card_bool]; rfl
theorem expect_own (k : OK) : (Rd I).expect (kcell (c, some k)) 0 = amt (some k) := by
  unfold Schedule.expect Schedule.amountOf; rw [duties_own, Finset.sum_singleton, amount_eq]
theorem rest_bar : bigSep ((Rd I).duties (barCell c) 0 \ ∅) (fun d => (Rd I).payload (barCell c) 0 d)
    = iprop(barPay (F := F) false c ∗ barPay true c) := by
  rw [Finset.sdiff_empty, duties_bar, bigSep_univ_eq_bigSepL [false, true] (by decide) (by decide), bigSepL_cons_cons, bigSepL_singleton,
    payload_eq, payload_eq]
  rfl
theorem rest_own (k : OK) : bigSep ((Rd I).duties (kcell (c, some k)) 0 \ ∅) (fun d => (Rd I).payload (kcell (c, some k)) 0 d)
    = pay I (some k) c false := by
  rw [Finset.sdiff_empty, duties_own, bigSep_singleton, payload_eq]

end Facts

/-! ## What a device owes, and the order of the waits -/

/-- Message number `n` (`4 k + p`) of a direction. -/
def msgK (n : ℕ) : Fin 6 := ⟨n / 4 % 6, Nat.mod_lt _ (by decide)⟩
def msgP (n : ℕ) : Fin 4 := ⟨n % 4, Nat.mod_lt _ (by decide)⟩

/-- The landings of direction `d` that device `c` owes its neighbour, from number `i` on. -/
def remO (c : Dev nD) (d : Bool) (i : ℕ) : CellTallies nD τ sig Unit :=
  ∑ n ∈ Finset.Ico i 24, tallyAt (rcvCell (nx d c) d (msgK n) (msgP n)) () nMsg

theorem remO_pop (c : Dev nD) (d : Bool) (i : ℕ) (h : i < 24) :
    remO c d i = remO c d (i + 1) + tallyAt (rcvCell (nx d c) d (msgK i) (msgP i)) () nMsg := by
  unfold remO; rw [Finset.sum_eq_sum_Ico_succ_bot h, add_comm]

theorem remO_end (c : Dev nD) (d : Bool) : remO c d 24 = 0 := by unfold remO; rw [Finset.Ico_self, Finset.sum_empty]

/-- What a device owes when its next messages are `i` to the right and `j` to the left. -/
abbrev rem2 (c : Dev nD) (i j : ℕ) : CellTallies nD τ sig Unit := remO c true i + remO c false j

def O₀ (c : Dev nD) : CellTallies nD τ sig Unit :=
  (rem2 c 0 0 + tallyAt (barCell (nx true c)) () 1) + tallyAt (barCell (nx false c)) () 1

def L (g : GSem nD τ sig) : Finset Unit := if g.1.2 = .tc then {()} else ∅

def ckLv : CK → ℕ
  | none => 1
  | some (.inr (.inr (false, _, k, _))) => 2 + k.val
  | _ => 0

def lv (g : GSem nD τ sig) (_ : Unit) : ℕ := match ckOf g.2 with | none => 0 | some k => ckLv k

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : CK) (u : Unit) : lv (kcell (c, k)) u = ckLv k := by
  show (match ckOf (csem k) with | none => 0 | some k => ckLv k) = _
  rw [ckOf_csem]

theorem remO_pos {c : Dev nD} {d : Bool} {i : ℕ} {g : GSem nD τ sig} {u : Unit} (h : 0 < remO c d i g u) :
    ∃ n, i ≤ n ∧ n < 24 ∧ g = rcvCell (nx d c) d (msgK n) (msgP n) := by
  unfold remO at h
  rw [Finset.sum_apply, Finsupp.finset_sum_apply] at h
  obtain ⟨n, hn, hp⟩ := Finset.exists_ne_zero_of_sum_ne_zero (Nat.pos_iff_ne_zero.mp h)
  rw [tallyAt_apply] at hp
  have hn := Finset.mem_Ico.mp hn
  refine ⟨n, hn.1, hn.2, ?_⟩
  by_contra hg
  exact hp (if_neg fun h => hg h.1)

theorem add_pos_cases {a b : CellTallies nD τ sig Unit} {g : GSem nD τ sig} {u : Unit} (h : 0 < (a + b) g u) :
    0 < a g u ∨ 0 < b g u := by
  rw [Pi.add_apply, Finsupp.add_apply] at h
  exact Nat.add_pos_iff_pos_or_pos.mp h

theorem tally_pos {g g' : GSem nD τ sig} {n : ℕ} {u : Unit} (h : 0 < tallyAt g' () n g u) : g = g' := by
  rw [tallyAt_apply] at h
  by_contra hg
  rw [if_neg (fun h => hg h.1)] at h
  exact Nat.lt_irrefl 0 h

theorem rem2_pos {c : Dev nD} {i j : ℕ} {g : GSem nD τ sig} {u : Unit} (h : 0 < rem2 c i j g u) :
    ∃ d n, (if d then i else j) ≤ n ∧ n < 24 ∧ g = rcvCell (nx d c) d (msgK n) (msgP n) := by
  rcases add_pos_cases h with h | h
  · obtain ⟨n, h⟩ := remO_pos h; exact ⟨true, n, h⟩
  · obtain ⟨n, h⟩ := remO_pos h; exact ⟨false, n, h⟩

/-- A wait on a semaphore of level `n` is allowed when everything owed is above `n`. -/
theorem mayWait_rem (c : Dev nD) (sm : SemLoc sig) (n i j : ℕ) (hs : lv ((c : Thread nD τ), sm) () ≤ n)
    (hi : n < 2 + i / 4) (hj : n < 2 + j / 4) :
    (levAts L lv : sProp 𝕄) ⊢ MayWait (c : Thread nD τ) sm () (rem2 c i j) :=
  MayOwe.of_cut (L := L) (lev := lv) n (fun p hp => by rw [Finset.mem_singleton.mp hp, L_tc]; exact Finset.mem_singleton_self _)
    (fun g u hg => by obtain ⟨d, n, -, -, rfl⟩ := rem2_pos hg; exact Finset.mem_singleton_self _)
    (fun p hp => by rw [Finset.mem_singleton.mp hp]; exact hs)
    (fun g u hg => by
      obtain ⟨d, m, h1, h2, rfl⟩ := rem2_pos hg
      rw [lv_kcell]
      show n < 2 + m / 4 % 6
      cases d <;> simp only [if_true, if_false, Bool.false_eq_true] at h1 <;> omega)

theorem O₀_pos {c : Dev nD} {g : GSem nD τ sig} {u : Unit} (h : 0 < O₀ c g u) :
    g = barCell (nx true c) ∨ g = barCell (nx false c) ∨ 0 < rem2 c 0 0 g u := by
  unfold O₀ at h
  rcases add_pos_cases h with h | h
  · rcases add_pos_cases h with h | h
    · exact Or.inr (Or.inr h)
    · exact Or.inl (tally_pos h)
  · exact Or.inr (Or.inl (tally_pos h))

/-- A wait for the pipeline's own staging is allowed from the start. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  have hlv : lv ((c : Thread nD τ), .dma q) () = 0 := by
    show (match (decNum q.val).map some with | none => 0 | some k => ckLv k) = 0
    unfold decNum; rw [if_pos hq]; rfl
  rcases hO with rfl | rfl
  · refine MayOwe.of_cut (L := L) (lev := lv) 0 (fun p hp => by rw [Finset.mem_singleton.mp hp, L_tc]; exact Finset.mem_singleton_self _)
      (fun g u hg => by
        rcases O₀_pos hg with rfl | rfl | hg
        · exact Finset.mem_singleton_self _
        · exact Finset.mem_singleton_self _
        · obtain ⟨d, n, -, -, rfl⟩ := rem2_pos hg; exact Finset.mem_singleton_self _)
      (fun p hp => by rw [Finset.mem_singleton.mp hp, hlv])
      (fun g u hg => by
        rcases O₀_pos hg with rfl | rfl | hg
        · rw [lv_kcell]; exact Nat.one_pos
        · rw [lv_kcell]; exact Nat.one_pos
        · obtain ⟨d, n, -, -, rfl⟩ := rem2_pos hg; rw [lv_kcell]; show 0 < 2 + n / 4 % 6; omega)
  · rw [MayWait_zero]; iintro -; iempintro

end Cert.Mlp

end
-- ==== Proof.Steps.lean ====
/-
# One step of the protocol

The rules of a copy to a neighbour, of a copy on the device, and of a wait, at the semaphores of this
kernel. Each takes the tokens of the semaphores it uses and hands on what the schedule says.
-/
module

public import proofs.«01_k».proof.Proof.Sched

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

instance : DecidableEq CK := Classical.decEq _

variable (I : Inp F) (K : Dev nD × CK → ℕ)

/-- Every semaphore's invariant, and that its one round is reached. -/
def recs : sProp 𝕄 :=
  iprop(bigSep Finset.univ (fun ck : Dev nD × CK => iprop(cellInv ER (Rd I) (K ck) (kcell ck) ∗ reached ER (kcell ck) 0)) ∗ levAts L lv)

instance recs_persistent : BI.Persistent (recs I K) := by unfold recs; infer_instance

theorem recs_at (ck : Dev nD × CK) : recs I K ⊢ iprop(cellInv ER (Rd I) (K ck) (kcell ck) ∗ reached ER (kcell ck) 0) := by
  unfold recs
  exact sep_elim_left.trans (bigSep_elim (Finset.mem_univ ck))

theorem recs_lev : recs I K ⊢ (levAts L lv : sProp 𝕄) := by
  unfold recs; iintro ⟨-, H⟩; iexact H

/-- The programs of the kernel's body, and what holds after it. -/
abbrev WP (c : Dev nD) {α : Type} (t : Prog (TpuEff nD τ sig (Elt F) Λ₀ .tc) α) (Q : α → sProp 𝕄) : sProp 𝕄 :=
  wp frame (wpE (defs₀ (F := F)) 𝒱₀ (c : Thread nD τ) none) Set.univ t Q

/-- What the device owes when its next messages are number `i` to the right and `j` to the left. -/
def ow (c : Dev nD) (i j : ℕ) : sProp 𝕄 := iprop(∃ W, owes (c : Thread nD τ) (rem2 c i j) W)

/-- The tokens of a semaphore of this device that it both pays and waits on. -/
def tok (c : Dev nD) (k : CK) : sProp 𝕄 := iprop(dutyTok ER (kcell (c, k)) 0 false ∗ atPos ER (kcell (c, k)) 0 ∅ 0)
/-- The same while the copy is under way. -/
def flying (c : Dev nD) (k : CK) (n : ℕ) : sProp 𝕄 := iprop(cred (tallyAt (kcell (c, k)) () n) ∗ atPos ER (kcell (c, k)) 0 ∅ 0)

/-- A copy on the device: the payload of its semaphore is made of the destination, written, and of the source. -/
theorem copy_core (c : Dev nD) (k : OK) {sp sp' : Space} {s : Shape} {e : EltTy} {src : Memref sig .tc sp s e} {dst : Memref sig .tc sp' s e}
    {sm : SemLoc sig} (hs : sm = csem (some k)) {hsrc : src.view.WordExact} {hdst : dst.view.WordExact}
    {hsem : DmaTarget.Typed (nD := nD) (τ := τ) (p := (c : Thread nD τ).2) sp sm (.here dst)}
    {α : Type} {Q : α → sProp 𝕄} {t : PUnit → Prog (TpuEff nD τ sig (Elt F) Λ₀ .tc) α}
    {q : PosShare TreeShare} {fs : Buf (Elt F) (src.view.loc (c : Thread nD τ))} {fd : Buf (Elt F) (dst.view.loc (c : Thread nD τ))}
    (hN : dst.view.amount sm = amt (some k))
    (hpay : iprop((dst.view.loc (c : Thread nD τ) ↦[dst.view.set]{fullShare} (dst.view.write (Elt F) fd (src.view.read (Elt F) fs) Finset.univ))
              ∗ (src.view.loc (c : Thread nD τ) ↦[src.view.set]{q} fs)) ⊢ pay I (some k) c false) :
    iprop(recs I K ∗ (src.view.loc (c : Thread nD τ) ↦[src.view.set]{q} fs) ∗ (dst.view.loc (c : Thread nD τ) ↦[dst.view.set]{fullShare} fd) ∗ tok c (some k))
      ⊢ iprop((flying c (some k) (amt (some k)) -∗ WP c (t ⟨⟩) Q) -∗ WP c (.op (.enqueueDma src (.here dst) sm hsrc hdst hsem) t) Q) := by
  subst hs
  unfold tok flying
  iintro ⟨#HR, Hs, Hd, Ht, Hat⟩ Hk
  ihave #Hr := (recs_at I K (c, some k)) $$ HR
  icases Hr with ⟨#Hi, #Hr⟩
  iapply (Rounds.wp_copy_pointsTo 𝒱₀ ER (Rd I) (c : Thread nD τ) none (κ := K (c, some k)) (r := 0) (d := false)
    (by rw [show ((c : Thread nD τ), csem (some k)) = kcell (c, some k) from rfl, duties_own]; exact Finset.mem_singleton_self _)
    () (amt (some k)) hN (amount_eq I c (some k) false)
    (hpay.trans (Entails.of_eq (payload_eq I c (some k) false).symm))) $$ [Hs Hd Ht]
  · isplitr; · iexact Hi
    isplitl [Hs]; · iexact Hs
    isplitl [Hd]; · iexact Hd
    isplitl [Ht]; · iexact Ht
    iexact Hr
  iintro Hc
  iapply Hk
  isplitl [Hc]; · iexact Hc
  iexact Hat

/-- A wait on one of the device's own semaphores for all that it counts: the payload, and the semaphore is done with. -/
theorem wait_core (c : Dev nD) (k : OK) {sp sp' : Space} {s s' : Shape} {e e' : EltTy} {src : Memref sig .tc sp s e} {dst : Memref sig .tc sp' s' e'}
    {sm : DmaSem sig} (hs : SemLoc.dma sm = csem (some k)) {hsrc : src.view.WordExact} {hdst : dst.view.WordExact}
    {α : Type} {Q : α → sProp 𝕄} {t : PUnit → Prog (TpuEff nD τ sig (Elt F) Λ₀ .tc) α}
    (hN : dst.view.dmaCredit = amt (some k)) (i j : ℕ) (hi : ckLv (some k) < 2 + i / 4) (hj : ckLv (some k) < 2 + j / 4) :
    iprop(recs I K ∗ flying c (some k) (amt (some k)) ∗ ow c i j)
      ⊢ iprop((pay I (some k) c false ∗ ow c i j ∗ semVal (kcell (c, some k)) 0 -∗ WP c (t ⟨⟩) Q)
          -∗ WP c (.op (.waitDma2 sm src dst hsrc hdst) t) Q) := by
  obtain rfl : sm = (⟨onum k, onum_lt k⟩ : Fin 113) := SemLoc.dma.inj hs
  unfold flying ow
  iintro ⟨#HR, ⟨Hc, Hat⟩, ⟨%W, HO⟩⟩ Hk
  ihave #Hr := (recs_at I K (c, some k)) $$ HR
  icases Hr with ⟨#Hi, -⟩
  iapply (Rounds.wp_wait_rest_token 𝒱₀ ER (Rd I) (c : Thread nD τ) none (κ := K (c, some k)) (sm := csem (some k)) (k' := amt (some k))
      (fun X => by rw [← hN]; exact wpE_waitDma2_eq 𝒱₀ (c : Thread nD τ) none Set.univ X) (Set.mem_univ _) () (O := rem2 c i j) (W := W) (R := 0) (m := 0) (T := ∅)
      (by rw [Nat.zero_add]; exact (expect_own I c k).symm)) $$ [Hc HO Hat]
  · isplitr; · iexact Hi
    isplitl [Hc]; · iexact Hc
    isplitl [HO]; · iexact HO
    isplitr
    · iapply (mayWait_rem c (csem (some k)) (ckLv (some k)) i j (le_of_eq (lv_kcell c (some k) ())) hi hj)
      iapply (recs_lev I K) $$ HR
    iexact Hat
  iintro ⟨HO, Hat, -, Hp⟩
  imod (Rounds.cell_close ER (Rd I) (Set.mem_univ (K (c, some k))) (fun h => h) (R := 0 + 1) (duties_later I (kcell (c, some k)))) $$ [Hat] with Hz
  · isplitr; · iexact Hi
    iexact Hat
  ihave Hp := (Entails.of_eq (rest_own I c k)) $$ Hp
  iapply Hk
  isplitl [Hp]; · iexact Hp
  isplitl [HO]; · iexists _; iexact HO
  iexact Hz

/-- The tokens of message `k`, `p` of direction `d` that device `c` needs: it pays its own source semaphore and its
    neighbour's landing semaphore, and waits on its own two. -/
def tick (d : Bool) (p : Fin 4) (c : Dev nD) (k : Fin 6) : sProp 𝕄 :=
  iprop(tok c (sndK d k p) ∗ dutyTok ER (rcvCell (nx d c) d k p) 0 false ∗ flying c (rcvK d k p) nMsg)
/-- The same while the message is under way. -/
def pend (d : Bool) (p : Fin 4) (c : Dev nD) (k : Fin 6) : sProp 𝕄 :=
  iprop(flying c (sndK d k p) nMsg ∗ flying c (rcvK d k p) nMsg)

/-- A copy to the neighbour: the source's return is `back`, and the neighbour gets `land` and `rid`. -/
theorem send_core (c n : Dev nD) (d : Bool) (k : Fin 6) (p : Fin 4) (hn : n = nx d c)
    {src : Memref sig .tc .vmem S256x512 .bf16} {dst : Memref sig (Dev.tc n : Thread nD τ).2.kind .vmem S256x512 .bf16}
    {hsc : dst.view.ref.isScScratch = false} {sS sR : SemLoc sig} (hS : sS = csem (sndK d k p)) (hR : sR = csem (rcvK d k p))
    {hsrc : src.view.WordExact} {hdst : dst.view.WordExact} {hsem : DmaTarget.Typed .vmem sR (.remote (Dev.tc n : Thread nD τ) dst sS hsc)}
    {α : Type} {Q : α → sProp 𝕄} {t : PUnit → Prog (TpuEff nD τ sig (Elt F) Λ₀ .tc) α}
    {q : PosShare TreeShare} {fs : Buf (Elt F) (src.view.loc (c : Thread nD τ))} {fd : Buf (Elt F) (dst.view.loc (Dev.tc n : Thread nD τ))}
    {X : sProp 𝕄} {i j i' j' : ℕ} (hN : dst.view.amount sR = nMsg)
    (hO : rem2 c i j = rem2 c i' j' + tallyAt (rcvCell (nx d c) d k p) () nMsg)
    (h₁ : (src.view.loc (c : Thread nD τ) ↦[src.view.set]{q} fs) ⊢ back I d k.val p.val c)
    (h₂ : iprop((dst.view.loc (Dev.tc n : Thread nD τ) ↦[dst.view.set]{fullShare} (dst.view.write (Elt F) fd (src.view.read (Elt F) fs) Finset.univ)) ∗ X)
      ⊢ iprop(land I d k.val p.val n ∗ rid I d p.val (fun j => bk d j n) k.val)) :
    iprop(recs I K ∗ (src.view.loc (c : Thread nD τ) ↦[src.view.set]{q} fs) ∗ ((dst.view.loc (Dev.tc n : Thread nD τ) ↦[dst.view.set]{fullShare} fd) ∗ X)
        ∗ ow c i j ∗ tick d p c k)
      ⊢ iprop((pend d p c k ∗ ow c i' j' -∗ WP c (t ⟨⟩) Q)
          -∗ WP c (.op (.enqueueDma src (.remote (Dev.tc n : Thread nD τ) dst sS hsc) sR hsrc hdst hsem) t) Q) := by
  subst hn; subst hS; subst hR
  unfold tick tok flying ow pend flying
  iintro ⟨#HR, Hs, Hd, ⟨%W, HO⟩, ⟨Ht, Hat⟩, Ht', Hf⟩ Hk
  ihave #Hr := (recs_at I K (c, sndK d k p)) $$ HR
  icases Hr with ⟨#Hi, #Hr⟩
  ihave #Hr' := (recs_at I K (nx d c, rcvK d k p)) $$ HR
  icases Hr' with ⟨#Hi', #Hr'⟩
  iapply (Rounds.wp_send_pointsTo_with 𝒱₀ ER (Rd I) (c : Thread nD τ) none (κ₁ := K (c, sndK d k p)) (κ₂ := K (nx d c, rcvK d k p))
    (r₁ := 0) (r₂ := 0) (d₁ := false) (d₂ := false) (F := X)
    (by rw [show ((c : Thread nD τ), csem (sndK d k p)) = kcell (c, sndK d k p) from rfl, duties_own]; exact Finset.mem_singleton_self _)
    (by rw [show ((Dev.tc (nx d c) : Thread nD τ), csem (rcvK d k p)) = kcell (nx d c, rcvK d k p) from rfl, duties_own]; exact Finset.mem_singleton_self _)
    () () nMsg hN (amount_eq I c (sndK d k p) false) (amount_eq I (nx d c) (rcvK d k p) false) (rem2 c i' j') hO (W := W)
    (h₁.trans (Entails.of_eq (payload_eq I c (sndK d k p) false).symm))
    (h₂.trans (Entails.of_eq (payload_eq I (nx d c) (rcvK d k p) false).symm))) $$ [Hs Hd HO Ht Ht']
  · isplitr; · iexact Hi
    isplitr; · iexact Hi'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitr [HO]
  · isplitl [Hc Hat]
    · isplitl [Hc]; · iexact Hc
      iexact Hat
    iexact Hf
  iexists W; iexact HO

/-- The same where the source, too, is handed to the neighbour: the first message of a chain. -/
theorem send_landing_core (c n : Dev nD) (d : Bool) (p : Fin 4) (hn : n = nx d c)
    {src : Memref sig .tc .vmem S256x512 .bf16} {dst : Memref sig (Dev.tc n : Thread nD τ).2.kind .vmem S256x512 .bf16}
    {hsc : dst.view.ref.isScScratch = false} {sS sR : SemLoc sig} (hS : sS = csem (sndK d 0 p)) (hR : sR = csem (rcvK d 0 p))
    {hsrc : src.view.WordExact} {hdst : dst.view.WordExact} {hsem : DmaTarget.Typed .vmem sR (.remote (Dev.tc n : Thread nD τ) dst sS hsc)}
    {α : Type} {Q : α → sProp 𝕄} {t : PUnit → Prog (TpuEff nD τ sig (Elt F) Λ₀ .tc) α}
    {q : PosShare TreeShare} {fs : Buf (Elt F) (src.view.loc (c : Thread nD τ))} {fd : Buf (Elt F) (dst.view.loc (Dev.tc n : Thread nD τ))}
    {i j i' j' : ℕ} (hN : dst.view.amount sR = nMsg)
    (hO : rem2 c i j = rem2 c i' j' + tallyAt (rcvCell (nx d c) d 0 p) () nMsg)
    (h₂ : iprop(((dst.view.loc (Dev.tc n : Thread nD τ) ↦[dst.view.set]{fullShare} (dst.view.write (Elt F) fd (src.view.read (Elt F) fs) Finset.univ)) ∗ emp)
        ∗ (src.view.loc (c : Thread nD τ) ↦[src.view.set]{q} fs))
      ⊢ iprop(land I d 0 p.val n ∗ rid I d p.val (fun j => bk d j n) 0)) :
    iprop(recs I K ∗ (src.view.loc (c : Thread nD τ) ↦[src.view.set]{q} fs) ∗ (dst.view.loc (Dev.tc n : Thread nD τ) ↦[dst.view.set]{fullShare} fd)
        ∗ ow c i j ∗ tick d p c 0)
      ⊢ iprop((pend d p c 0 ∗ ow c i' j' -∗ WP c (t ⟨⟩) Q)
          -∗ WP c (.op (.enqueueDma src (.remote (Dev.tc n : Thread nD τ) dst sS hsc) sR hsrc hdst hsem) t) Q) := by
  subst hn; subst hS; subst hR
  unfold tick tok flying ow pend flying
  iintro ⟨#HR, Hs, Hd, ⟨%W, HO⟩, ⟨Ht, Hat⟩, Ht', Hf⟩ Hk
  ihave #Hr := (recs_at I K (c, sndK d 0 p)) $$ HR
  icases Hr with ⟨#Hi, #Hr⟩
  ihave #Hr' := (recs_at I K (nx d c, rcvK d 0 p)) $$ HR
  icases Hr' with ⟨#Hi', #Hr'⟩
  iapply (Rounds.wp_send_landing_pointsTo_with 𝒱₀ ER (Rd I) (c : Thread nD τ) none (κ₁ := K (c, sndK d 0 p)) (κ₂ := K (nx d c, rcvK d 0 p))
    (r₁ := 0) (r₂ := 0) (d₁ := false) (d₂ := false) (F := iprop(emp))
    (by rw [show ((c : Thread nD τ), csem (sndK d 0 p)) = kcell (c, sndK d 0 p) from rfl, duties_own]; exact Finset.mem_singleton_self _)
    (by rw [show ((Dev.tc (nx d c) : Thread nD τ), csem (rcvK d 0 p)) = kcell (nx d c, rcvK d 0 p) from rfl, duties_own]; exact Finset.mem_singleton_self _)
    () () nMsg hN (amount_eq I c (sndK d 0 p) false) (amount_eq I (nx d c) (rcvK d 0 p) false) (rem2 c i' j') hO (W := W)
    (Entails.of_eq (payload_eq I c (sndK d 0 p) false).symm)
    (h₂.trans (Entails.of_eq (payload_eq I (nx d c) (rcvK d 0 p) false).symm))) $$ [Hs Hd HO Ht Ht']
  · isplitr; · iexact Hi
    isplitr; · iexact Hi'
    isplitl [Hs]; · iexact Hs
    isplitl [Hd]
    · isplitl [Hd]; · iexact Hd
      iempintro
    isplitl [HO]; · iexact HO
    isplitl [Ht]; · iexact Ht
    isplitr; · iexact Hr
    isplitl [Ht']; · iexact Ht'
    iexact Hr'
  iintro ⟨Hc, HO⟩
  iapply Hk
  isplitr [HO]
  · isplitl [Hc Hat]
    · isplitl [Hc]; · iexact Hc
      iexact Hat
    iexact Hf
  iexists W; iexact HO

/-- The two waits for a message: for its source and for what lands here. -/
theorem wait_pair (c : Dev nD) (d : Bool) (k : Fin 6) (p : Fin 4) {m₁ m₂ m₃ m₄ : Memref sig .tc .vmem S256x512 .bf16}
    {s₁ s₂ : DmaSem sig} (h₁ : SemLoc.dma s₁ = csem (sndK d k p)) (h₂ : SemLoc.dma s₂ = csem (rcvK d k p))
    {w₁ : m₁.view.WordExact} {w₂ : m₂.view.WordExact} {w₃ : m₃.view.WordExact} {w₄ : m₄.view.WordExact}
    {α : Type} {Q : α → sProp 𝕄} {t : PUnit → Prog (TpuEff nD τ sig (Elt F) Λ₀ .tc) α}
    (hN₁ : m₂.view.dmaCredit = nMsg) (hN₂ : m₄.view.dmaCredit = nMsg) (i j : ℕ) (hi : k.val < i / 4) (hj : k.val < j / 4) :
    iprop(recs I K ∗ pend d p c k ∗ ow c i j)
      ⊢ iprop((back I d k.val p.val c ∗ land I d k.val p.val c ∗ rid I d p.val (fun j => bk d j c) k.val ∗ ow c i j
            ∗ (semVal (sndCell c d k p) 0 ∗ semVal (rcvCell c d k p) 0) -∗ WP c (t ⟨⟩) Q)
          -∗ WP c (.op (.waitDma2 s₁ m₁ m₂ w₁ w₂) fun _ => .op (.waitDma2 s₂ m₃ m₄ w₃ w₄) t) Q) := by
  unfold pend
  iintro ⟨#HR, ⟨Hf, Hf'⟩, HO⟩ Hk
  iapply (wait_core I K c (.inr (.inr (true, d, k, p))) h₁ hN₁ i j (show 0 < 2 + i / 4 by omega) (show 0 < 2 + j / 4 by omega)) $$ [Hf HO]
  · isplitr; · iexact HR
    isplitl [Hf]; · iexact Hf
    iexact HO
  iintro ⟨Hb, HO, Hz⟩
  ihave Hb := (Entails.of_eq (show pay I (sndK d k p) c false = back I d k.val p.val c from rfl)) $$ Hb
  iapply (wait_core I K c (.inr (.inr (false, d, k, p))) h₂ hN₂ i j (show 2 + k.val < 2 + i / 4 by omega) (show 2 + k.val < 2 + j / 4 by omega)) $$ [Hf' HO]
  · isplitr; · iexact HR
    isplitl [Hf']; · iexact Hf'
    iexact HO
  iintro ⟨Hp, HO, Hz'⟩
  ihave Hp := (Entails.of_eq (show pay I (rcvK d k p) c false = iprop(land I d k.val p.val c ∗ rid I d p.val (fun j => bk d j c) k.val) from rfl)) $$ Hp
  icases Hp with ⟨Hl, Hr⟩
  iapply Hk
  isplitl [Hb]; · iexact Hb
  isplitl [Hl]; · iexact Hl
  isplitl [Hr]; · iexact Hr
  isplitl [HO]; · iexact HO
  isplitl [Hz]; · iexact Hz
  iexact Hz'

end Cert.Mlp

end
-- ==== Proof.Mem.lean ====
/-
# Tiles, by what a view reads of them

A copy, a load or a store goes through a view of a buffer. `mat v c q w` says that device `c` holds
the view `v`'s elements at share `q` and reads `w` there. The tiles of the buffers, with their
contents, are stated here in that form, and the rules of loads, stores and copies with them.
-/
module

public import proofs.«01_k».proof.Proof.Steps

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {sp sp' : Space} {s s' : Shape} {e : EltTy}

/-- Device `c` holds the elements of `v` at share `q` and reads `w` there. -/
def mat (v : View sig .tc sp s e) (c : Dev nD) (q : PosShare TreeShare) (w : s.Idx → Elt F e) : sProp 𝕄 :=
  iprop(∃ f, ⌜v.read (Elt F) f = w⌝ ∗ (v.loc (c : Thread nD τ) ↦[v.set]{q} f))

omit [FloatOps F] in
theorem mat_eq (v : View sig .tc sp s e) (c : Dev nD) (q : PosShare TreeShare) (f : Buf (Elt F) (v.loc (c : Thread nD τ))) :
    (v.loc (c : Thread nD τ) ↦[v.set]{q} f : sProp 𝕄) = mat v c q (v.read (Elt F) f) := by
  have h1 : (v.loc (c : Thread nD τ) ↦[v.set]{q} f : sProp 𝕄) ⊢ mat v c q (v.read (Elt F) f) := by
    unfold mat
    iintro H
    iexists f
    isplitr
    · ipureintro; rfl
    iexact H
  have h2 : mat v c q (v.read (Elt F) f) ⊢ (v.loc (c : Thread nD τ) ↦[v.set]{q} f : sProp 𝕄) := by
    unfold mat
    iintro ⟨%g, %hg, H⟩
    have e : (v.loc (c : Thread nD τ) ↦[v.set]{q} g : sProp 𝕄) = (v.loc (c : Thread nD τ) ↦[v.set]{q} f) :=
      pointsTo_congr fun i hi => by
        obtain ⟨z, -, rfl⟩ := Finset.mem_map.mp hi
        have := congrFun hg z
        rw [View.read_apply, View.read_apply] at this
        exact (cast_inj _).mp this
    ihave H := (Entails.of_eq e) $$ H
    iexact H
  exact Entails.antisymm h1 h2

omit [FloatOps F] in
theorem mat_write (v : View sig .tc sp s e) (c : Dev nD) (q : PosShare TreeShare) (f : Buf (Elt F) (v.loc (c : Thread nD τ))) (w : s.Idx → Elt F e) :
    (v.loc (c : Thread nD τ) ↦[v.set]{q} v.write (Elt F) f w Finset.univ : sProp 𝕄) = mat v c q w := by
  rw [mat_eq, View.read_write_univ]

omit [FloatOps F] in
theorem slice_mat (b : Ref sig .tc) (r : Rect b.ty.shape) (c : Dev nD) (q : PosShare TreeShare) (f : Buf (Elt F) ((c : Thread nD τ).loc b)) :
    ((c : Thread nD τ).loc b ↦[r.set]{q} f : sProp 𝕄) = mat ((View.whole b).slice r) c q (fun j => f (r.emb j)) := by
  rw [← View.set_slice_whole b r]; exact mat_eq ((View.whole b).slice r) c q f

omit [FloatOps F] in
theorem squeeze_mat (b : Ref sig .tc) (r : Rect b.ty.shape) (s' : Shape) (h : s'.numel = r.shape.numel) (c : Dev nD) (q : PosShare TreeShare)
    (f : Buf (Elt F) ((c : Thread nD τ).loc b)) :
    ((c : Thread nD τ).loc b ↦[r.set]{q} f : sProp 𝕄)
      = mat (((View.whole b).slice r).reshape s' h) c q (fun j => f (r.emb (Shape.reshapeEquiv h j))) := by
  rw [← View.set_slice_whole b r, ← View.set_reshape ((View.whole b).slice r) h]
  exact mat_eq (((View.whole b).slice r).reshape s' h) c q f

omit [FloatOps F] in
theorem whole_mat (b : Ref sig .tc) (c : Dev nD) (q : PosShare TreeShare) (f : Buf (Elt F) ((c : Thread nD τ).loc b)) :
    ((c : Thread nD τ).loc b ↦{q} f : sProp 𝕄) = mat (View.whole b) c q f := by
  refine Eq.trans ?_ ((mat_eq (View.whole b) c q f).trans (by rw [View.read_whole]))
  rw [View.set_whole]

/-! ## Where a rectangle's elements lie -/

theorem emb2 {A B : ℕ} [Full ⟨2, ![A, B]⟩] (off sz : Fin 2 → ℕ) (inb) (j : (Rect.unit (s := ⟨2, ![A, B]⟩) off sz inb).shape.Idx) :
    (Rect.unit (s := ⟨2, ![A, B]⟩) off sz inb).emb j = at_ ⟨2, ![A, B]⟩ ![off 0 + (j (0 : Fin 2)).val, off 1 + (j (1 : Fin 2)).val] :=
  eq_at2 _ _ _ ((Rect.emb_apply _ _ _).trans (by rw [show (Rect.unit (s := ⟨2, ![A, B]⟩) off sz inb).stride 0 = 1 from rfl, Nat.one_mul]; rfl))
    ((Rect.emb_apply _ _ _).trans (by rw [show (Rect.unit (s := ⟨2, ![A, B]⟩) off sz inb).stride 1 = 1 from rfl, Nat.one_mul]; rfl))

theorem emb3 {A B C : ℕ} [Full ⟨3, ![A, B, C]⟩] (off sz : Fin 3 → ℕ) (inb) (j : (Rect.unit (s := ⟨3, ![A, B, C]⟩) off sz inb).shape.Idx) :
    (Rect.unit (s := ⟨3, ![A, B, C]⟩) off sz inb).emb j
      = at_ ⟨3, ![A, B, C]⟩ ![off 0 + (j (0 : Fin 3)).val, off 1 + (j (1 : Fin 3)).val, off 2 + (j (2 : Fin 3)).val] :=
  eq_at3 _ _ _ _ ((Rect.emb_apply _ _ _).trans (by rw [show (Rect.unit (s := ⟨3, ![A, B, C]⟩) off sz inb).stride 0 = 1 from rfl, Nat.one_mul]; rfl))
    ((Rect.emb_apply _ _ _).trans (by rw [show (Rect.unit (s := ⟨3, ![A, B, C]⟩) off sz inb).stride 1 = 1 from rfl, Nat.one_mul]; rfl))
    ((Rect.emb_apply _ _ _).trans (by rw [show (Rect.unit (s := ⟨3, ![A, B, C]⟩) off sz inb).stride 2 = 1 from rfl, Nat.one_mul]; rfl))

/-! ## The views of the kernel -/

/-- `v` is chunk `q`, piece `p`, direction `d` of the buffer of products. -/
def HP (d : Bool) (q p : ℕ) (v : View sig .tc .vmem S256x512 .bf16) : Prop :=
  ∃ off inb, off = ![1024 * q + 256 * p, colo d] ∧ v = hM.view.slice (Rect.unit (s := S4096x1024) off S256x512.size inb)
/-- `v` is chunk `q`, half `u` of the buffer of products. -/
def HH (q u : ℕ) (v : View sig .tc .vmem S512x1024 .bf16) : Prop :=
  ∃ off inb, off = ![1024 * q + 512 * u, 0] ∧ v = hM.view.slice (Rect.unit (s := S4096x1024) off S512x1024.size inb)
/-- `v` is chunk `q`, direction `d` of the buffer of products. -/
def HC (d : Bool) (q : ℕ) (v : View sig .tc .vmem S1024x512 .bf16) : Prop :=
  ∃ off inb, off = ![1024 * q, colo d] ∧ v = hM.view.slice (Rect.unit (s := S4096x1024) off S1024x512.size inb)
/-- `v` is slot `k`, piece `p` of direction `d`'s landing buffer. -/
def RP (d : Bool) (k p : ℕ) (v : View sig .tc .vmem S256x512 .bf16) : Prop :=
  ∃ inb h, v = ((rsM d).view.slice (Rect.unit (s := S3x1024x512) ![k, 256 * p, 0] S1x256x512.size inb)).reshape S256x512 h
/-- The same with the slot's axis kept. -/
def RU (d : Bool) (k p : ℕ) (v : View sig .tc .vmem S1x256x512 .bf16) : Prop :=
  ∃ inb, v = (rsM d).view.slice (Rect.unit (s := S3x1024x512) ![k, 256 * p, 0] S1x256x512.size inb)
/-- `v` is slot `k` of direction `d`'s landing buffer. -/
def RK (d : Bool) (k : ℕ) (v : View sig .tc .vmem S1x1024x512 .bf16) : Prop :=
  ∃ inb, v = (rsM d).view.slice (Rect.unit (s := S3x1024x512) ![k, 0, 0] S1x1024x512.size inb)
/-- `v` is chunk `q`, half `u` of `x`. -/
def XH (q u : ℕ) (v : View sig .tc .hbm S512x1024 .f32) : Prop :=
  ∃ off inb, off = ![1024 * q + 512 * u, 0] ∧ v = xM.view.slice (Rect.unit (s := S4096x1024) off S512x1024.size inb)
/-- `v` is slot `k` of the output staging. -/
def SU (k : ℕ) (v : View sig .tc .vmem S1x1024x1024 .bf16) : Prop :=
  ∃ inb, v = osM.view.slice (Rect.unit (s := S3x1024x1024) ![k, 0, 0] S1x1024x1024.size inb)
def SQ (k : ℕ) (v : View sig .tc .vmem S1024x1024 .bf16) : Prop :=
  ∃ inb h, v = (osM.view.slice (Rect.unit (s := S3x1024x1024) ![k, 0, 0] S1x1024x1024.size inb)).reshape S1024x1024 h
/-- `v` is piece `p` of the last slot of the output staging. -/
def SPU (p : ℕ) (v : View sig .tc .vmem S1x256x1024 .bf16) : Prop :=
  ∃ inb, v = osM.view.slice (Rect.unit (s := S3x1024x1024) ![2, 256 * p, 0] S1x256x1024.size inb)
def SPQ (p : ℕ) (v : View sig .tc .vmem S256x1024 .bf16) : Prop :=
  ∃ inb h, v = (osM.view.slice (Rect.unit (s := S3x1024x1024) ![2, 256 * p, 0] S1x256x1024.size inb)).reshape S256x1024 h
/-- `v` is chunk `q` of the output. -/
def OC (q : ℕ) (v : View sig .tc .hbm S1024x1024 .bf16) : Prop :=
  ∃ off inb, off = ![1024 * q, 0] ∧ v = outM.view.slice (Rect.unit (s := S4096x1024) off S1024x1024.size inb)
/-- `v` is chunk `q`, piece `p` of the output. -/
def OP (q p : ℕ) (v : View sig .tc .hbm S256x1024 .bf16) : Prop :=
  ∃ off inb, off = ![1024 * q + 256 * p, 0] ∧ v = outM.view.slice (Rect.unit (s := S4096x1024) off S256x1024.size inb)

omit [FloatOps F] in
theorem h_mat {d : Bool} {q p : ℕ} {v} (h : HP d q p v) (hp : p < 4) (c : Dev nD) (t : PosShare TreeShare) (f : Vec F S4096x1024 .bf16) :
    hA c (hS d q p) t f = mat v c t (fun j : S256x512.Idx => f (at_ S4096x1024 ![1024 * q + 256 * p + (j 0).val, colo d + (j 1).val])) := by
  obtain ⟨off, inb, ho, rfl⟩ := h
  rw [← rect_piece d q p off inb hp ho]
  subst ho
  exact (slice_mat cc0_scratch0 _ c t f).trans (congrArg (mat _ c t) (funext fun j => congrArg f (emb2 _ _ _ j)))

omit [FloatOps F] in
theorem hh_mat {q u : ℕ} {v} (h : HH q u v) (c : Dev nD) (t : PosShare TreeShare) (f : Vec F S4096x1024 .bf16) :
    hA c (hH q u) t f = mat v c t (fun j : S512x1024.Idx => f (at_ S4096x1024 ![1024 * q + 512 * u + (j 0).val, 0 + (j 1).val])) := by
  obtain ⟨off, inb, ho, rfl⟩ := h
  rw [← rect_half q u off inb ho]
  subst ho
  exact (slice_mat cc0_scratch0 _ c t f).trans (congrArg (mat _ c t) (funext fun j => congrArg f (emb2 _ _ _ j)))

omit [FloatOps F] in
theorem hc_mat {d : Bool} {q : ℕ} {v} (h : HC d q v) (c : Dev nD) (t : PosShare TreeShare) (f : Vec F S4096x1024 .bf16) :
    hA c (hC d q) t f = mat v c t (fun j : S1024x512.Idx => f (at_ S4096x1024 ![1024 * q + (j 0).val, colo d + (j 1).val])) := by
  obtain ⟨off, inb, ho, rfl⟩ := h
  rw [← rect_cols d q off inb ho]
  subst ho
  exact (slice_mat cc0_scratch0 _ c t f).trans (congrArg (mat _ c t) (funext fun j => congrArg f (emb2 _ _ _ j)))

omit [FloatOps F] in
theorem x_mat {q u : ℕ} {v} (h : XH q u v) (c : Dev nD) (f : Vec F S4096x1024 .f32) :
    xA c (hH q u) f = mat v c fullShare (fun j : S512x1024.Idx => f (at_ S4096x1024 ![1024 * q + 512 * u + (j 0).val, 0 + (j 1).val])) := by
  obtain ⟨off, inb, ho, rfl⟩ := h
  rw [← rect_half q u off inb ho]
  subst ho
  exact (slice_mat main_arg0 _ c fullShare f).trans (congrArg (mat _ c fullShare) (funext fun j => congrArg f (emb2 _ _ _ j)))

omit [FloatOps F] in
theorem oc_mat {q : ℕ} {v} (h : OC q v) (c : Dev nD) (f : Vec F S4096x1024 .bf16) :
    oA c (oC q) f = mat v c fullShare (fun j : S1024x1024.Idx => f (at_ S4096x1024 ![1024 * q + (j 0).val, 0 + (j 1).val])) := by
  obtain ⟨off, inb, ho, rfl⟩ := h
  rw [← rect_out_chunk q off inb ho]
  subst ho
  exact (slice_mat main_v1 _ c fullShare f).trans (congrArg (mat _ c fullShare) (funext fun j => congrArg f (emb2 _ _ _ j)))

omit [FloatOps F] in
theorem op_mat {q p : ℕ} {v} (h : OP q p v) (hp : p < 4) (c : Dev nD) (f : Vec F S4096x1024 .bf16) :
    oA c (oS q p) f = mat v c fullShare (fun j : S256x1024.Idx => f (at_ S4096x1024 ![1024 * q + 256 * p + (j 0).val, 0 + (j 1).val])) := by
  obtain ⟨off, inb, ho, rfl⟩ := h
  rw [← rect_out_piece q p off inb hp ho]
  subst ho
  exact (slice_mat main_v1 _ c fullShare f).trans (congrArg (mat _ c fullShare) (funext fun j => congrArg f (emb2 _ _ _ j)))

theorem at3_unit {A B C k : ℕ} [Full ⟨3, ![A, B, C]⟩] {x u y z : ℕ} (hu : u < 1) (h : k + 0 = x := by rfl) :
    at_ ⟨3, ![A, B, C]⟩ ![k + u, y, 0 + z] = at_ ⟨3, ![A, B, C]⟩ ![x, y, z] := by
  rw [show u = 0 by omega, h, Nat.zero_add]

omit [FloatOps F] in
theorem ru_mat {d : Bool} {k p : ℕ} {v} (h : RU d k p v) (c : Dev nD) (t : PosShare TreeShare) (f : Vec F S3x1024x512 .bf16) :
    rA d c (rS k p) t f = mat v c t (fun j : S1x256x512.Idx => f (at_ S3x1024x512 ![k, 256 * p + (j 1).val, (j 2).val])) := by
  obtain ⟨inb, rfl⟩ := h
  rw [← rect_land k p inb]
  have hj (j : S1x256x512.Idx) : f ((Rect.unit (s := S3x1024x512) ![k, 256 * p, 0] S1x256x512.size inb).emb j)
      = f (at_ S3x1024x512 ![k, 256 * p + (j 1).val, (j 2).val]) :=
    congrArg f ((emb3 _ _ _ j).trans (at3_unit (lt0' j)))
  cases d
  · exact (slice_mat cc0_scratch2 _ c t f).trans (congrArg (mat _ c t) (funext hj))
  · exact (slice_mat cc0_scratch1 _ c t f).trans (congrArg (mat _ c t) (funext hj))

omit [FloatOps F] in
theorem rp_mat {d : Bool} {k p : ℕ} {v} (h : RP d k p v) (c : Dev nD) (t : PosShare TreeShare) (f : Vec F S3x1024x512 .bf16) :
    rA d c (rS k p) t f = mat v c t (fun j : S256x512.Idx => f (at_ S3x1024x512 ![k, 256 * p + (j 0).val, (j 1).val])) := by
  obtain ⟨inb, hn, rfl⟩ := h
  rw [← rect_land k p inb]
  have hj (j : S256x512.Idx) : f ((Rect.unit (s := S3x1024x512) ![k, 256 * p, 0] S1x256x512.size inb).emb (Shape.reshapeEquiv hn j))
      = f (at_ S3x1024x512 ![k, 256 * p + (j 0).val, (j 1).val]) := by
    have e := squeeze_at (a := 256) (b := 512) hn j
    refine congrArg f ((congrArg _ e).trans ((emb3 _ _ _ _).trans ?_))
    have h1 : ((at_ S1x256x512 ![0, (j 0).val, (j 1).val]) 0 : ℕ) = 0 := at3_0 (by decide)
    have h2 : ((at_ S1x256x512 ![0, (j 0).val, (j 1).val]) 1 : ℕ) = (j 0).val := at3_1 (lt0 j)
    have h3 : ((at_ S1x256x512 ![0, (j 0).val, (j 1).val]) 2 : ℕ) = (j 1).val := at3_2 (lt1 j)
    show at_ S3x1024x512 ![k + ((at_ S1x256x512 ![0, (j 0).val, (j 1).val]) 0 : ℕ), 256 * p + ((at_ S1x256x512 ![0, (j 0).val, (j 1).val]) 1 : ℕ),
      0 + ((at_ S1x256x512 ![0, (j 0).val, (j 1).val]) 2 : ℕ)] = _
    rw [h1, h2, h3]
    exact at3_unit (by decide)
  cases d
  · exact (squeeze_mat cc0_scratch2 _ S256x512 hn c t f).trans (congrArg (mat _ c t) (funext hj))
  · exact (squeeze_mat cc0_scratch1 _ S256x512 hn c t f).trans (congrArg (mat _ c t) (funext hj))

omit [FloatOps F] in
theorem rk_mat {d : Bool} {k : ℕ} {v} (h : RK d k v) (c : Dev nD) (t : PosShare TreeShare) (f : Vec F S3x1024x512 .bf16) :
    rA d c (rK k) t f = mat v c t (fun j : S1x1024x512.Idx => f (at_ S3x1024x512 ![k, (j 1).val, (j 2).val])) := by
  obtain ⟨inb, rfl⟩ := h
  rw [← rect_slot k inb]
  have hj (j : S1x1024x512.Idx) : f ((Rect.unit (s := S3x1024x512) ![k, 0, 0] S1x1024x512.size inb).emb j)
      = f (at_ S3x1024x512 ![k, (j 1).val, (j 2).val]) := by
    refine congrArg f ((emb3 _ _ _ j).trans ((at3_unit (lt0' j)).trans ?_))
    show at_ S3x1024x512 ![k, 0 + (j 1).val, (j 2).val] = _
    rw [Nat.zero_add]
  cases d
  · exact (slice_mat cc0_scratch2 _ c t f).trans (congrArg (mat _ c t) (funext hj))
  · exact (slice_mat cc0_scratch1 _ c t f).trans (congrArg (mat _ c t) (funext hj))

omit [FloatOps F] in
theorem su_mat {k : ℕ} {v} (h : SU k v) (c : Dev nD) (f : Vec F S3x1024x1024 .bf16) :
    sA c (sK k) f = mat v c fullShare (fun j : S1x1024x1024.Idx => f (at_ S3x1024x1024 ![k, (j 1).val, (j 2).val])) := by
  obtain ⟨inb, rfl⟩ := h
  rw [← rect_stage k inb]
  refine (slice_mat cc0_scratch5 _ c fullShare f).trans (congrArg (mat _ c fullShare) (funext fun j : S1x1024x1024.Idx => congrArg f ((emb3 _ _ _ j).trans ((at3_unit (lt0' j)).trans ?_))))
  show at_ S3x1024x1024 ![k, 0 + (j 1).val, (j 2).val] = _
  rw [Nat.zero_add]

omit [FloatOps F] in
theorem spu_mat {p : ℕ} {v} (h : SPU p v) (c : Dev nD) (f : Vec F S3x1024x1024 .bf16) :
    sA c (sP p) f = mat v c fullShare (fun j : S1x256x1024.Idx => f (at_ S3x1024x1024 ![2, 256 * p + (j 1).val, (j 2).val])) := by
  obtain ⟨inb, rfl⟩ := h
  rw [← rect_stage_piece p inb]
  exact (slice_mat cc0_scratch5 _ c fullShare f).trans (congrArg (mat _ c fullShare) (funext fun j : S1x256x1024.Idx => congrArg f ((emb3 _ _ _ j).trans (at3_unit (lt0' j)))))

omit [FloatOps F] in
theorem sq_mat {k : ℕ} {v} (h : SQ k v) (c : Dev nD) (f : Vec F S3x1024x1024 .bf16) :
    sA c (sK k) f = mat v c fullShare (fun j : S1024x1024.Idx => f (at_ S3x1024x1024 ![k, (j 0).val, (j 1).val])) := by
  obtain ⟨inb, hn, rfl⟩ := h
  rw [← rect_stage k inb]
  refine (squeeze_mat cc0_scratch5 _ S1024x1024 hn c fullShare f).trans (congrArg (mat _ c fullShare) (funext fun j : S1024x1024.Idx => congrArg f ?_))
  refine (congrArg _ (squeeze_at (a := 1024) (b := 1024) hn j)).trans ((emb3 _ _ _ _).trans ?_)
  have h1 : ((at_ S1x1024x1024 ![0, (j 0).val, (j 1).val]) 0 : ℕ) = 0 := at3_0 (by decide)
  have h2 : ((at_ S1x1024x1024 ![0, (j 0).val, (j 1).val]) 1 : ℕ) = (j 0).val := at3_1 (lt0 j)
  have h3 : ((at_ S1x1024x1024 ![0, (j 0).val, (j 1).val]) 2 : ℕ) = (j 1).val := at3_2 (lt1 j)
  show at_ S3x1024x1024 ![k + ((at_ S1x1024x1024 ![0, (j 0).val, (j 1).val]) 0 : ℕ), 0 + ((at_ S1x1024x1024 ![0, (j 0).val, (j 1).val]) 1 : ℕ),
    0 + ((at_ S1x1024x1024 ![0, (j 0).val, (j 1).val]) 2 : ℕ)] = _
  rw [h1, h2, h3, Nat.zero_add (j 0).val]
  exact at3_unit (by decide)

omit [FloatOps F] in
theorem spq_mat {p : ℕ} {v} (h : SPQ p v) (c : Dev nD) (f : Vec F S3x1024x1024 .bf16) :
    sA c (sP p) f = mat v c fullShare (fun j : S256x1024.Idx => f (at_ S3x1024x1024 ![2, 256 * p + (j 0).val, (j 1).val])) := by
  obtain ⟨inb, hn, rfl⟩ := h
  rw [← rect_stage_piece p inb]
  refine (squeeze_mat cc0_scratch5 _ S256x1024 hn c fullShare f).trans (congrArg (mat _ c fullShare) (funext fun j : S256x1024.Idx => congrArg f ?_))
  refine (congrArg _ (squeeze_at (a := 256) (b := 1024) hn j)).trans ((emb3 _ _ _ _).trans ?_)
  have h1 : ((at_ S1x256x1024 ![0, (j 0).val, (j 1).val]) 0 : ℕ) = 0 := at3_0 (by decide)
  have h2 : ((at_ S1x256x1024 ![0, (j 0).val, (j 1).val]) 1 : ℕ) = (j 0).val := at3_1 (lt0 j)
  have h3 : ((at_ S1x256x1024 ![0, (j 0).val, (j 1).val]) 2 : ℕ) = (j 1).val := at3_2 (lt1 j)
  show at_ S3x1024x1024 ![2 + ((at_ S1x256x1024 ![0, (j 0).val, (j 1).val]) 0 : ℕ), 256 * p + ((at_ S1x256x1024 ![0, (j 0).val, (j 1).val]) 1 : ℕ),
    0 + ((at_ S1x256x1024 ![0, (j 0).val, (j 1).val]) 2 : ℕ)] = _
  rw [h1, h2, h3]
  exact at3_unit (by decide)

/-! ## Loads, stores and copies -/

section Rules
variable (I : Inp F) (K : Dev nD × CK → ℕ)
theorem mat_load {α : Type} {Q : α → sProp 𝕄} {cs : CoreSpace} {m : Memref sig .tc cs s e} {r : Rect s} {hl : m.view.LoadsAt r} (c : Dev nD) {q : PosShare TreeShare}
    {w : r.shape.Idx → Elt F e} {t : (r.shape.Idx → Elt F e) → Prog (TpuEff nD τ sig (Elt F) Λ₀ .tc) α} :
    mat (m.access r) c q w ⊢ iprop((mat (m.access r) c q w -∗ WP c (t w) Q) -∗ WP c (.op (.load m r hl) t) Q) := by
  unfold mat
  iintro ⟨%f, %hf, H⟩ Hk
  iapply (wp_load_rect 𝒱₀ (c : Thread nD τ) none Set.univ (m := m) (r := r) (S := (m.access r).set) (f := f) subset_rfl) $$ H
  iintro H
  rw [hf]
  iapply Hk
  iexists f
  isplitr
  · ipureintro; exact hf
  iexact H

theorem mat_store {α : Type} {Q : α → sProp 𝕄} {cs : CoreSpace} {m : Memref sig .tc cs s e} {r : Rect s} {w w' : r.shape.Idx → Elt F e}
    {hx : (m.access r).Stores Finset.univ} {hm : (Finset.univ : Finset r.shape.Idx) = Finset.univ ∨ ∀ a, r.stride a = 1} (c : Dev nD)
    {t : PUnit → Prog (TpuEff nD τ sig (Elt F) Λ₀ .tc) α} :
    mat (m.access r) c fullShare w'
      ⊢ iprop((mat (m.access r) c fullShare w -∗ WP c (t ⟨⟩) Q) -∗ WP c (.op (.store m r w Finset.univ hx hm) t) Q) := by
  unfold mat
  iintro ⟨%f, %hf, H⟩ Hk
  iapply (wp_store 𝒱₀ (c : Thread nD τ) none Set.univ (m := m) (r := r) (Mk := Finset.univ) (S := (m.access r).set) (f := f) (Finset.map_subset_map.mpr (Finset.subset_univ _))) $$ H
  iintro H
  iapply Hk
  iexists (m.access r).write (Elt F) f w Finset.univ
  isplitr [H]
  · ipureintro; exact View.read_write_univ _ _
  iexact H

theorem mat_copy {α : Type} {Q : α → sProp 𝕄} (c : Dev nD) (k : OK) {src : Memref sig .tc sp s e} {dst : Memref sig .tc sp' s e}
    {sm : SemLoc sig} (hs : sm = csem (some k)) {hsrc : src.view.WordExact} {hdst : dst.view.WordExact}
    {hsem : DmaTarget.Typed (nD := nD) (τ := τ) (p := (c : Thread nD τ).2) sp sm (.here dst)}
    {t : PUnit → Prog (TpuEff nD τ sig (Elt F) Λ₀ .tc) α} {q : PosShare TreeShare} {w w' : s.Idx → Elt F e}
    (hN : dst.view.amount sm = amt (some k))
    (hpay : iprop(mat dst.view c fullShare w ∗ mat src.view c q w) ⊢ pay I (some k) c false) :
    iprop(recs I K ∗ mat src.view c q w ∗ mat dst.view c fullShare w' ∗ tok c (some k))
      ⊢ iprop((flying c (some k) (amt (some k)) -∗ WP c (t ⟨⟩) Q) -∗ WP c (.op (.enqueueDma src (.here dst) sm hsrc hdst hsem) t) Q) := by
  have h : ∀ fs fd, src.view.read (Elt F) fs = w → iprop((dst.view.loc (c : Thread nD τ) ↦[dst.view.set]{fullShare} (dst.view.write (Elt F) fd (src.view.read (Elt F) fs) Finset.univ))
              ∗ (src.view.loc (c : Thread nD τ) ↦[src.view.set]{q} fs)) ⊢ pay I (some k) c false := fun fs fd hf => by
    rw [mat_write dst.view c fullShare fd _, mat_eq src.view c q fs, hf]; exact hpay
  unfold mat
  iintro ⟨#HR, ⟨%fs, %hf, Hs⟩, ⟨%fd, -, Hd⟩, Ht⟩ Hk
  iapply (copy_core I K c k hs hN (h fs fd hf)) $$ [Hs Hd Ht]
  · isplitr; · iexact HR
    isplitl [Hs]; · iexact Hs
    isplitl [Hd]; · iexact Hd
    iexact Ht
  iexact Hk

theorem mat_send {α : Type} {Q : α → sProp 𝕄} (c n : Dev nD) (d : Bool) (k : Fin 6) (p : Fin 4) (hn : n = nx d c)
    {src : Memref sig .tc .vmem S256x512 .bf16} {dst : Memref sig .tc .vmem S256x512 .bf16}
    {hsc : dst.view.ref.isScScratch = false} {sS sR : SemLoc sig} (hS : sS = csem (sndK d k p)) (hR : sR = csem (rcvK d k p))
    {hsrc : src.view.WordExact} {hdst : dst.view.WordExact} {hsem : DmaTarget.Typed .vmem sR (.remote (Dev.tc n : Thread nD τ) dst sS hsc)}
    {t : PUnit → Prog (TpuEff nD τ sig (Elt F) Λ₀ .tc) α} {q : PosShare TreeShare} {w w' : S256x512.Idx → Elt F .bf16}
    {X : sProp 𝕄} {i j i' j' : ℕ} (hN : dst.view.amount sR = nMsg)
    (hO : rem2 c i j = rem2 c i' j' + tallyAt (rcvCell (nx d c) d k p) () nMsg)
    (h₁ : mat src.view c q w ⊢ back I d k.val p.val c)
    (h₂ : iprop(mat dst.view n fullShare w ∗ X) ⊢ iprop(land I d k.val p.val n ∗ rid I d p.val (fun j => bk d j n) k.val)) :
    iprop(recs I K ∗ mat src.view c q w ∗ mat dst.view n fullShare w' ∗ X ∗ ow c i j ∗ tick d p c k)
      ⊢ iprop((pend d p c k ∗ ow c i' j' -∗ WP c (t ⟨⟩) Q)
          -∗ WP c (.op (.enqueueDma src (.remote (Dev.tc n : Thread nD τ) dst sS hsc) sR hsrc hdst hsem) t) Q) := by
  have h1 : ∀ fs, src.view.read (Elt F) fs = w → (src.view.loc (c : Thread nD τ) ↦[src.view.set]{q} fs) ⊢ back I d k.val p.val c := fun fs hf => by
    rw [mat_eq src.view c q fs, hf]; exact h₁
  have h2 : ∀ fs fd, src.view.read (Elt F) fs = w → iprop((dst.view.loc (Dev.tc n : Thread nD τ) ↦[dst.view.set]{fullShare} (dst.view.write (Elt F) fd (src.view.read (Elt F) fs) Finset.univ)) ∗ X)
      ⊢ iprop(land I d k.val p.val n ∗ rid I d p.val (fun j => bk d j n) k.val) := fun fs fd hf => by
    rw [hf]
    exact (sep_mono_left (Entails.of_eq (mat_write dst.view n fullShare fd w))).trans h₂
  unfold mat
  iintro ⟨#HR, ⟨%fs, %hf, Hs⟩, ⟨%fd, -, Hd⟩, HX, HO, Ht⟩ Hk
  iapply (send_core I K c n d k p hn hS hR (X := X) (i := i) (j := j) hN hO (h1 fs hf) (h2 fs fd hf)) $$ [Hs Hd HX HO Ht]
  · isplitr; · iexact HR
    isplitl [Hs]; · iexact Hs
    isplitl [Hd HX]
    · isplitl [Hd]; · iexact Hd
      iexact HX
    isplitl [HO]; · iexact HO
    iexact Ht
  iexact Hk

theorem mat_send_landing {α : Type} {Q : α → sProp 𝕄} (c n : Dev nD) (d : Bool) (p : Fin 4) (hn : n = nx d c)
    {src : Memref sig .tc .vmem S256x512 .bf16} {dst : Memref sig .tc .vmem S256x512 .bf16}
    {hsc : dst.view.ref.isScScratch = false} {sS sR : SemLoc sig} (hS : sS = csem (sndK d 0 p)) (hR : sR = csem (rcvK d 0 p))
    {hsrc : src.view.WordExact} {hdst : dst.view.WordExact} {hsem : DmaTarget.Typed .vmem sR (.remote (Dev.tc n : Thread nD τ) dst sS hsc)}
    {t : PUnit → Prog (TpuEff nD τ sig (Elt F) Λ₀ .tc) α} {q : PosShare TreeShare} {w w' : S256x512.Idx → Elt F .bf16}
    {i j i' j' : ℕ} (hN : dst.view.amount sR = nMsg)
    (hO : rem2 c i j = rem2 c i' j' + tallyAt (rcvCell (nx d c) d 0 p) () nMsg)
    (h₂ : iprop(mat dst.view n fullShare w ∗ mat src.view c q w) ⊢ iprop(land I d 0 p.val n ∗ rid I d p.val (fun j => bk d j n) 0)) :
    iprop(recs I K ∗ mat src.view c q w ∗ mat dst.view n fullShare w' ∗ ow c i j ∗ tick d p c 0)
      ⊢ iprop((pend d p c 0 ∗ ow c i' j' -∗ WP c (t ⟨⟩) Q)
          -∗ WP c (.op (.enqueueDma src (.remote (Dev.tc n : Thread nD τ) dst sS hsc) sR hsrc hdst hsem) t) Q) := by
  have h2 : ∀ fs fd, src.view.read (Elt F) fs = w → iprop(((dst.view.loc (Dev.tc n : Thread nD τ) ↦[dst.view.set]{fullShare} (dst.view.write (Elt F) fd (src.view.read (Elt F) fs) Finset.univ)) ∗ emp)
        ∗ (src.view.loc (c : Thread nD τ) ↦[src.view.set]{q} fs))
      ⊢ iprop(land I d 0 p.val n ∗ rid I d p.val (fun j => bk d j n) 0) := fun fs fd hf => by
    rw [mat_eq src.view c q fs, hf]
    refine (sep_mono_left ((Entails.of_eq ?_).trans (Entails.of_eq (mat_write dst.view n fullShare fd w)))).trans h₂
    exact Entails.antisymm sep_emp.1 sep_emp.2
  unfold mat
  iintro ⟨#HR, ⟨%fs, %hf, Hs⟩, ⟨%fd, -, Hd⟩, HO, Ht⟩ Hk
  iapply (send_landing_core I K c n d p hn hS hR (i := i) (j := j) hN hO (h2 fs fd hf)) $$ [Hs Hd HO Ht]
  · isplitr; · iexact HR
    isplitl [Hs]; · iexact Hs
    isplitl [Hd]; · iexact Hd
    isplitl [HO]; · iexact HO
    iexact Ht
  iexact Hk

end Rules

end Cert.Mlp

end
-- ==== Proof.Chain.lean ====
/-
# One chain of messages

The six messages of direction `d`, piece `p` that device `c` sends one after another, and the six that
land on it. `cA k M` is the chain before message `k` is sent, `cB k M` while message `k` is under way,
`M` what it holds besides.
-/
module

public import proofs.«01_k».proof.Proof.Mem

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def f6 (k : ℕ) : Fin 6 := ⟨k % 6, Nat.mod_lt _ (by decide)⟩
theorem f6_val (k : Fin 6) : f6 k.val = k := Fin.ext (Nat.mod_eq_of_lt k.isLt)

/-- The tokens of the messages from `k` on. -/
def tks (d : Bool) (p : Fin 4) (c : Dev nD) (k : ℕ) : sProp 𝕄 := bigSep (Finset.Ico k 6) fun n => tick d p c (f6 n)
/-- The semaphores of the messages before `k`, done with. -/
def dns (d : Bool) (p : Fin 4) (c : Dev nD) (k : ℕ) : sProp 𝕄 :=
  bigSep (Finset.range k) fun n => iprop(semVal (sndCell c d (f6 n) p) 0 ∗ semVal (rcvCell c d (f6 n) p) 0)
/-- The neighbour's landing slots for the messages from `k` on. -/
def dst (d : Bool) (p : Fin 4) (c : Dev nD) (k : ℕ) : sProp 𝕄 :=
  bigSep (Finset.Ico k 3) fun n => iprop(∃ f, rA d (nx d c) (rS n p.val) fullShare f)

omit [FloatOps F] in
theorem Ico_pop (Φ : ℕ → sProp 𝕄) {k m : ℕ} (h : k < m) : bigSep (Finset.Ico k m) Φ = iprop(Φ k ∗ bigSep (Finset.Ico (k + 1) m) Φ) := by
  rw [← Finset.insert_Ico_add_one_left_eq_Ico h]
  exact bigSep_insert (by rw [Finset.mem_Ico]; omega)
omit [FloatOps F] in
theorem range_push (Φ : ℕ → sProp 𝕄) (k : ℕ) : bigSep (Finset.range (k + 1)) Φ = iprop(Φ k ∗ bigSep (Finset.range k) Φ) := by
  rw [Finset.range_add_one]
  exact bigSep_insert (by rw [Finset.mem_range]; omega)

def cA (d : Bool) (p : Fin 4) (c : Dev nD) (k : ℕ) (M : sProp 𝕄) : sProp 𝕄 :=
  iprop(tks d p c k ∗ dns d p c k ∗ dst d p c k ∗ M)
def cB (d : Bool) (p : Fin 4) (c : Dev nD) (k : Fin 6) (M : sProp 𝕄) : sProp 𝕄 :=
  iprop(tks d p c (k.val + 1) ∗ dns d p c k.val ∗ dst d p c (k.val + 1) ∗ pend d p c k ∗ M)

omit [FloatOps F] in
theorem cA_mono {d : Bool} {p : Fin 4} {c : Dev nD} {k : ℕ} {M M' : sProp 𝕄} (h : M ⊢ M') : cA d p c k M ⊢ cA d p c k M' :=
  sep_mono_right (sep_mono_right (sep_mono_right h))
omit [FloatOps F] in
theorem cB_mono {d : Bool} {p : Fin 4} {c : Dev nD} {k : Fin 6} {M M' : sProp 𝕄} (h : M ⊢ M') : cB d p c k M ⊢ cB d p c k M' :=
  sep_mono_right (sep_mono_right (sep_mono_right (sep_mono_right h)))

/-- How the counters of the messages sent move when message `n` of direction `d` is sent. -/
def Adv (d : Bool) (n i j i' j' : ℕ) : Prop :=
  match d with
  | true => i = n ∧ i' = n + 1 ∧ j' = j
  | false => j = n ∧ j' = n + 1 ∧ i' = i

theorem msg_num (k : Fin 6) (p : Fin 4) : msgK (4 * k.val + p.val) = k ∧ msgP (4 * k.val + p.val) = p ∧ 4 * k.val + p.val < 24 := by
  revert k p; decide

theorem adv_owe (c : Dev nD) {d : Bool} {k : Fin 6} {p : Fin 4} {i j i' j' : ℕ} (h : Adv d (4 * k.val + p.val) i j i' j') :
    rem2 c i j = rem2 c i' j' + tallyAt (rcvCell (nx d c) d k p) () nMsg := by
  obtain ⟨h1, h2, h3⟩ := msg_num k p
  cases d
  · obtain ⟨rfl, rfl, rfl⟩ := h
    unfold rem2
    rw [remO_pop c false _ h3, h1, h2]
    exact (add_assoc _ _ _).symm
  · obtain ⟨rfl, rfl, rfl⟩ := h
    unfold rem2
    rw [remO_pop c true _ h3, h1, h2, add_right_comm]

variable (I : Inp F) (K : Dev nD × CK → ℕ)

/-! ## What a chain holds -/

section Holds
variable (d : Bool) (p : Fin 4) (c : Dev nD)

/-- The device's own products of the chunk `j` steps behind. -/
abbrev hold (j : ℕ) : sProp 𝕄 := own I d p.val c (bk d j c)
/-- Slot `k`, the device's part added. -/
abbrev sumP (k : ℕ) (q : PosShare TreeShare) : sProp 𝕄 := rA d c (rS k p.val) q (postB I d c)
/-- The finished sum on the chunk `j` steps behind. -/
abbrev fin (j : ℕ) (q : PosShare TreeShare) : sProp 𝕄 := hA c (hS d (bk d j c).val p.val) q (hT I)
abbrev rd (k : ℕ) : sProp 𝕄 := rid I d p.val (fun j => bk d j c) k

/-- The products still to be added after message `k` has landed and been added to. -/
def fut (k : ℕ) : sProp 𝕄 := bigSep (Finset.Ico (k + 1) 4) fun j => hold I d p c j
/-- The slots that are sent on and returned. -/
def old (k : ℕ) : sProp 𝕄 := bigSep (Finset.range k) fun n => sumP I d p c n fullShare

/-- Besides, while message `k ≤ 2` is under way. -/
def mR (k : ℕ) : sProp 𝕄 := iprop(fut I d p c k ∗ old I d p c (k - 1))
/-- Kept from the end of the summing on. -/
def keep : sProp 𝕄 := iprop(hold I d p c 3 ∗ old I d p c 2)
/-- What is kept while message `k ≥ 3` is under way, besides the lent half. -/
def kp (k : ℕ) : sProp 𝕄 :=
  if k = 3 then keep I d p c
  else if k = 4 then iprop(sumP I d p c 2 fullShare ∗ keep I d p c)
  else if k = 5 then iprop(fin I d p c 4 fullShare ∗ sumP I d p c 2 fullShare ∗ keep I d p c)
  else iprop(fin I d p c 5 fullShare ∗ fin I d p c 4 fullShare ∗ sumP I d p c 2 fullShare ∗ keep I d p c)
/-- The half of what message `k ≥ 3` sends that the device keeps for its own reading. -/
def halfOf (k : ℕ) : sProp 𝕄 := if k = 3 then sumP I d p c 2 fullShare.right else fin I d p c k fullShare.right
def mG (k : ℕ) : sProp 𝕄 := iprop(halfOf I d p c k ∗ kp I d p c k)

end Holds

/-! ## Waiting -/

theorem wait_msg (c : Dev nD) (d : Bool) (k : Fin 6) (p : Fin 4) {m₁ m₂ m₃ m₄ : Memref sig .tc .vmem S256x512 .bf16}
    {s₁ s₂ : DmaSem sig} (h₁ : SemLoc.dma s₁ = csem (sndK d k p)) (h₂ : SemLoc.dma s₂ = csem (rcvK d k p))
    {w₁ : m₁.view.WordExact} {w₂ : m₂.view.WordExact} {w₃ : m₃.view.WordExact} {w₄ : m₄.view.WordExact}
    {α : Type} {Q : α → sProp 𝕄} {t : PUnit → Prog (TpuEff nD τ sig (Elt F) Λ₀ .tc) α}
    (hN₁ : m₂.view.dmaCredit = nMsg) (hN₂ : m₄.view.dmaCredit = nMsg) (i j : ℕ) (hi : k.val < i / 4) (hj : k.val < j / 4) (M : sProp 𝕄) :
    iprop(recs I K ∗ cB d p c k M ∗ ow c i j)
      ⊢ iprop((cA d p c (k.val + 1) iprop(back I d k.val p.val c ∗ land I d k.val p.val c ∗ rd I d p c k.val ∗ M) ∗ ow c i j -∗ WP c (t ⟨⟩) Q)
          -∗ WP c (.op (.waitDma2 s₁ m₁ m₂ w₁ w₂) fun _ => .op (.waitDma2 s₂ m₃ m₄ w₃ w₄) t) Q) := by
  unfold cA cB
  iintro ⟨#HR, ⟨Ht, Hd, Hs, Hp, HM⟩, HO⟩ Hk
  iapply (wait_pair I K c d k p h₁ h₂ hN₁ hN₂ i j hi hj) $$ [Hp HO]
  · isplitr; · iexact HR
    isplitl [Hp]; · iexact Hp
    iexact HO
  iintro ⟨Hb, Hl, Hr, HO, Hz⟩
  iapply Hk
  isplitr [HO]
  · isplitl [Ht]; · iexact Ht
    isplitl [Hd Hz]
    · unfold dns
      rw [range_push, f6_val]
      isplitl [Hz]; · iexact Hz
      iexact Hd
    isplitl [Hs]; · iexact Hs
    isplitl [Hb]; · iexact Hb
    isplitl [Hl]; · iexact Hl
    isplitl [Hr]; · iexact Hr
    iexact HM
  iexact HO

/-! ## Sending -/

theorem tks_pop (d : Bool) (p : Fin 4) (c : Dev nD) (k : Fin 6) :
    (tks d p c k.val : sProp 𝕄) = iprop(tick d p c k ∗ tks d p c (k.val + 1)) := by
  unfold tks; rw [Ico_pop _ k.isLt, f6_val]

/-- Sending message `k`, the places it lands and what rides with it taken from `M`. -/
theorem send_msg (c n : Dev nD) (d : Bool) (k : Fin 6) (p : Fin 4) (hn : n = nx d c)
    {src : Memref sig .tc .vmem S256x512 .bf16} {dst' : Memref sig .tc .vmem S256x512 .bf16}
    {hsc : dst'.view.ref.isScScratch = false} {sS sR : SemLoc sig} (hS : sS = csem (sndK d k p)) (hR : sR = csem (rcvK d k p))
    {hsrc : src.view.WordExact} {hdst : dst'.view.WordExact} {hsem : DmaTarget.Typed .vmem sR (.remote (Dev.tc n : Thread nD τ) dst' sS hsc)}
    {α : Type} {Q : α → sProp 𝕄} {t : PUnit → Prog (TpuEff nD τ sig (Elt F) Λ₀ .tc) α} {q : PosShare TreeShare} {w : S256x512.Idx → Elt F .bf16}
    {X M M' : sProp 𝕄} {i j i' j' : ℕ} (hN : dst'.view.amount sR = nMsg) (hO : Adv d (4 * k.val + p.val) i j i' j')
    (hM : iprop(dst d p c k.val ∗ M) ⊢ iprop(mat src.view c q w ∗ (∃ w', mat dst'.view n fullShare w') ∗ X ∗ dst d p c (k.val + 1) ∗ M'))
    (h₁ : mat src.view c q w ⊢ back I d k.val p.val c)
    (h₂ : iprop(mat dst'.view n fullShare w ∗ X) ⊢ iprop(land I d k.val p.val n ∗ rid I d p.val (fun j => bk d j n) k.val)) :
    iprop(recs I K ∗ cA d p c k.val M ∗ ow c i j)
      ⊢ iprop((cB d p c k M' ∗ ow c i' j' -∗ WP c (t ⟨⟩) Q)
          -∗ WP c (.op (.enqueueDma src (.remote (Dev.tc n : Thread nD τ) dst' sS hsc) sR hsrc hdst hsem) t) Q) := by
  unfold cA cB
  rw [tks_pop]
  iintro ⟨#HR, ⟨⟨Ht, Hts⟩, Hd, Hs, HM⟩, HO⟩ Hk
  ihave HM := hM $$ [Hs HM]
  · isplitl [Hs]; · iexact Hs
    iexact HM
  icases HM with ⟨Hsrc, ⟨%w', Hdst⟩, HX, Hs, HM⟩
  iapply (mat_send I K c n d k p hn hS hR hN (adv_owe c hO) h₁ h₂) $$ [Hsrc Hdst HX HO Ht]
  · isplitr; · iexact HR
    isplitl [Hsrc]; · iexact Hsrc
    isplitl [Hdst]; · iexact Hdst
    isplitl [HX]; · iexact HX
    isplitl [HO]; · iexact HO
    iexact Ht
  iintro ⟨Hp, HO⟩
  iapply Hk
  isplitr [HO]
  · isplitl [Hts]; · iexact Hts
    isplitl [Hd]; · iexact Hd
    isplitl [Hs]; · iexact Hs
    isplitl [Hp]; · iexact Hp
    iexact HM
  iexact HO

omit [FloatOps F] in
theorem dst_pop (d : Bool) (p : Fin 4) (c : Dev nD) (k : ℕ) (h : k < 3) {v} (hv : RP d k p.val v) :
    (dst d p c k : sProp 𝕄) ⊢ iprop((∃ w, mat v (nx d c) fullShare w) ∗ dst d p c (k + 1)) := by
  unfold dst
  rw [Ico_pop _ h]
  refine sep_mono_left ?_
  iintro ⟨%f, H⟩
  ihave H := (Entails.of_eq (rp_mat hv (nx d c) fullShare f)) $$ H
  iexists _
  iexact H

omit [FloatOps F] in
theorem dst_none (d : Bool) (p : Fin 4) (c : Dev nD) (k : ℕ) (h : 3 ≤ k) : (dst d p c k : sProp 𝕄) = dst d p c (k + 1) := by
  unfold dst; rw [Finset.Ico_eq_empty (by omega), Finset.Ico_eq_empty (by omega)]

theorem pre_zero (d : Bool) (c : Dev nD) (a b : ℕ) (ha : a < 1024) (hb : b < 512) :
    preB I d (nx d c) (at_ S3x1024x512 ![0, a, b]) = hP I c (at_ S4096x1024 ![1024 * c.val + a, colo d + b]) := by
  unfold preB
  rw [at3_0 (by decide), at3_1 ha, at3_2 hb]
  show hblk I d (bk d 1 (nx d c)) (bk d 1 (nx d c)).val _ = _
  rw [show bk d 1 (nx d c) = c from bk_nx d 0 c]
  unfold hblk
  have e1 : ((at_ S1024x512 ![a, b]) 0 : ℕ) = a := at2_0 ha
  have e2 : ((at_ S1024x512 ![a, b]) 1 : ℕ) = b := at2_1 hb
  rw [e1, e2]

theorem pre_succ (d : Bool) (c : Dev nD) (k a b : ℕ) (hk : k < 2) (ha : a < 1024) (hb : b < 512) :
    preB I d (nx d c) (at_ S3x1024x512 ![k + 1, a, b]) = postB I d c (at_ S3x1024x512 ![k, a, b]) := by
  unfold preB postB
  rw [at3_0 (show k + 1 < 3 by omega), at3_1 ha, at3_2 hb, at3_0 (show k < 3 by omega), at3_1 ha, at3_2 hb]
  show post I d k (bk d 1 (nx d c)) _ = _
  rw [show bk d 1 (nx d c) = c from bk_nx d 0 c]

/-- The first message: the device's own product of its own chunk. -/
theorem send_first (c n : Dev nD) (d : Bool) (p : Fin 4) (hn : n = nx d c)
    {src : Memref sig .tc .vmem S256x512 .bf16} {dst' : Memref sig .tc .vmem S256x512 .bf16}
    {hsc : dst'.view.ref.isScScratch = false} {sS sR : SemLoc sig} (hS : sS = csem (sndK d 0 p)) (hR : sR = csem (rcvK d 0 p))
    {hsrc : src.view.WordExact} {hdst : dst'.view.WordExact} {hsem : DmaTarget.Typed .vmem sR (.remote (Dev.tc n : Thread nD τ) dst' sS hsc)}
    {α : Type} {Q : α → sProp 𝕄} {t : PUnit → Prog (TpuEff nD τ sig (Elt F) Λ₀ .tc) α}
    (i j i' j' : ℕ) (hN : dst'.view.amount sR = nMsg) (hO : Adv d (4 * 0 + p.val) i j i' j')
    (hs : HP d c.val p.val src.view) (hd : RP d 0 p.val dst'.view) :
    iprop(recs I K ∗ cA d p c 0 iprop(emp) ∗ own I d p.val c c ∗ ow c i j)
      ⊢ iprop((cB d p c 0 iprop(emp) ∗ ow c i' j' -∗ WP c (t ⟨⟩) Q)
          -∗ WP c (.op (.enqueueDma src (.remote (Dev.tc n : Thread nD τ) dst' sS hsc) sR hsrc hdst hsem) t) Q) := by
  subst hn
  unfold cA cB
  rw [show (tks d p c 0 : sProp 𝕄) = _ from tks_pop d p c 0]
  iintro ⟨#HR, ⟨⟨Ht, Hts⟩, Hd, Hs, HM⟩, Ho, HO⟩ Hk
  ihave Hs := (dst_pop d p c 0 (by decide) hd) $$ Hs
  icases Hs with ⟨⟨%w', Hdst⟩, Hs⟩
  have hp := p.isLt
  ihave Ho := (Entails.of_eq (h_mat hs p.isLt c fullShare (hP I c))) $$ Ho
  iapply (mat_send_landing I K c (nx d c) d p rfl hS hR (src := src) (dst := dst') hN (adv_owe (k := 0) c hO) (by
    rw [← h_mat hs p.isLt c fullShare (hP I c)]
    have e : (fun j : S256x512.Idx => hP I c (at_ S4096x1024 ![1024 * c.val + 256 * p.val + (j 0).val, colo d + (j 1).val]))
        = fun j : S256x512.Idx => preB I d (nx d c) (at_ S3x1024x512 ![0, 256 * p.val + (j 0).val, (j 1).val]) := by
      funext j
      have h0 : (j 0).val < 256 := lt0 j
      rw [pre_zero I d c _ _ (by omega) (lt1 j), Nat.add_assoc]
    rw [e, ← rp_mat hd (nx d c) fullShare (preB I d (nx d c))]
    show _ ⊢ iprop(rA d (nx d c) (rS 0 p.val) fullShare (preB I d (nx d c)) ∗ own I d p.val (bk d 1 (nx d c)) (bk d 1 (nx d c)))
    rw [show bk d 1 (nx d c) = c from bk_nx d 0 c])) $$ [Hdst Ho HO Ht]
  · isplitr; · iexact HR
    isplitl [Ho]; · iexact Ho
    isplitl [Hdst]; · iexact Hdst
    isplitl [HO]; · iexact HO
    iexact Ht
  iintro ⟨Hp, HO⟩
  iapply Hk
  isplitr [HO]
  · isplitl [Hts]; · iexact Hts
    isplitl [Hd]; · iexact Hd
    isplitl [Hs]; · iexact Hs
    isplitl [Hp]; · iexact Hp
    iexact HM
  iexact HO

theorem own_next (d : Bool) (p : ℕ) (c : Dev nD) (a b : ℕ) :
    own I d p (bk d (a + 1) (nx d c)) (bk d (b + 1) (nx d c)) = own I d p (bk d a c) (bk d b c) := by rw [bk_nx, bk_nx]

/-- The second and the third message: a partial sum. -/
theorem send_sum (c n : Dev nD) (d : Bool) (k : ℕ) (k' : Fin 6) (hk : k < 2) (hk' : k'.val = k + 1) (p : Fin 4) (hn : n = nx d c)
    {src : Memref sig .tc .vmem S256x512 .bf16} {dst' : Memref sig .tc .vmem S256x512 .bf16}
    {hsc : dst'.view.ref.isScScratch = false} {sS sR : SemLoc sig} (hS : sS = csem (sndK d k' p)) (hR : sR = csem (rcvK d k' p))
    {hsrc : src.view.WordExact} {hdst : dst'.view.WordExact} {hsem : DmaTarget.Typed .vmem sR (.remote (Dev.tc n : Thread nD τ) dst' sS hsc)}
    {α : Type} {Q : α → sProp 𝕄} {t : PUnit → Prog (TpuEff nD τ sig (Elt F) Λ₀ .tc) α}
    {i j i' j' : ℕ} (hN : dst'.view.amount sR = nMsg) (hO : Adv d (4 * (k + 1) + p.val) i j i' j')
    (hs : RP d k p.val src.view) (hd : RP d (k + 1) p.val dst'.view) :
    iprop(recs I K ∗ cA d p c (k + 1) iprop(sumP I d p c k fullShare ∗ (hold I d p c (k + 1) ∗ rd I d p c k) ∗ mR I d p c (k + 1)) ∗ ow c i j)
      ⊢ iprop((cB d p c k' (mR I d p c (k + 1)) ∗ ow c i' j' -∗ WP c (t ⟨⟩) Q)
          -∗ WP c (.op (.enqueueDma src (.remote (Dev.tc n : Thread nD τ) dst' sS hsc) sR hsrc hdst hsem) t) Q) := by
  subst hn
  rw [← hk'] at hO
  rw [show cA d p c (k + 1) = cA (F := F) d p c k'.val by rw [hk']]
  refine send_msg I K c (nx d c) d k' p rfl hS hR (X := iprop(hold I d p c (k + 1) ∗ rd I d p c k)) hN hO ?_ ?_ ?_ (q := fullShare)
    (w := fun j : S256x512.Idx => postB I d c (at_ S3x1024x512 ![k, 256 * p.val + (j 0).val, (j 1).val]))
  · rw [hk', ← rp_mat hs c fullShare (postB I d c)]
    iintro ⟨Hs, Hw, HX, HM⟩
    ihave Hs := (dst_pop d p c (k + 1) (by omega) hd) $$ Hs
    icases Hs with ⟨Hd, Hs⟩
    isplitl [Hw]; · iexact Hw
    isplitl [Hd]; · iexact Hd
    isplitl [HX]; · iexact HX
    isplitl [Hs]; · iexact Hs
    iexact HM
  · rw [hk', ← rp_mat hs c fullShare (postB I d c)]
    obtain rfl | rfl : k = 0 ∨ k = 1 := by omega
    · exact .rfl
    · exact .rfl
  · have hp := p.isLt
    have e : (fun j : S256x512.Idx => postB I d c (at_ S3x1024x512 ![k, 256 * p.val + (j 0).val, (j 1).val]))
        = fun j : S256x512.Idx => preB I d (nx d c) (at_ S3x1024x512 ![k + 1, 256 * p.val + (j 0).val, (j 1).val]) := by
      funext j
      have h0 : (j 0).val < 256 := lt0 j
      rw [pre_succ I d c k _ _ hk (by omega) (lt1 j)]
    rw [e, ← rp_mat hd (nx d c) fullShare (preB I d (nx d c)), hk']
    unfold land
    rw [if_pos (show k + 1 < 3 by omega)]
    refine sep_mono_right (Entails.of_eq ?_)
    obtain rfl | rfl : k = 0 ∨ k = 1 := by omega
    · show iprop(own I d p.val (bk d 0 c) (bk d 1 c) ∗ own I d p.val (bk d 1 c) (bk d 1 c))
        = iprop(own I d p.val (bk d (0 + 1) (nx d c)) (bk d (1 + 1) (nx d c)) ∗ own I d p.val (bk d (1 + 1) (nx d c)) (bk d (1 + 1) (nx d c)))
      rw [own_next, own_next]
    · show iprop(own I d p.val (bk d 0 c) (bk d 2 c) ∗ own I d p.val (bk d 1 c) (bk d 2 c) ∗ own I d p.val (bk d 2 c) (bk d 2 c))
        = iprop(own I d p.val (bk d (0 + 1) (nx d c)) (bk d (2 + 1) (nx d c)) ∗ own I d p.val (bk d (1 + 1) (nx d c)) (bk d (2 + 1) (nx d c))
          ∗ own I d p.val (bk d (2 + 1) (nx d c)) (bk d (2 + 1) (nx d c)))
      rw [own_next, own_next, own_next]

omit [FloatOps F] in
theorem rA_halves (d : Bool) (c : Dev nD) (S : Finset S3x1024x512.Idx) (f : Vec F S3x1024x512 .bf16) :
    (rA d c S fullShare f : sProp 𝕄) ⊣⊢ iprop(rA d c S fullShare.left f ∗ rA d c S fullShare.right f) := by
  cases d <;> exact pointsTo_share (PosShare.mem_left_op_right fullShare)
omit [FloatOps F] in
theorem hA_halves (c : Dev nD) (S : Finset S4096x1024.Idx) (f : Vec F S4096x1024 .bf16) :
    (hA c S fullShare f : sProp 𝕄) ⊣⊢ iprop(hA c S fullShare.left f ∗ hA c S fullShare.right f) :=
  pointsTo_share (PosShare.mem_left_op_right fullShare)

/-- The fourth message: the finished sum, over the neighbour's products of its own chunk. -/
theorem send_done (c n : Dev nD) (d : Bool) (p : Fin 4) (hn : n = nx d c)
    {src : Memref sig .tc .vmem S256x512 .bf16} {dst' : Memref sig .tc .vmem S256x512 .bf16}
    {hsc : dst'.view.ref.isScScratch = false} {sS sR : SemLoc sig} (hS : sS = csem (sndK d 3 p)) (hR : sR = csem (rcvK d 3 p))
    {hsrc : src.view.WordExact} {hdst : dst'.view.WordExact} {hsem : DmaTarget.Typed .vmem sR (.remote (Dev.tc n : Thread nD τ) dst' sS hsc)}
    {α : Type} {Q : α → sProp 𝕄} {t : PUnit → Prog (TpuEff nD τ sig (Elt F) Λ₀ .tc) α}
    {i j i' j' : ℕ} (hN : dst'.view.amount sR = nMsg) (hO : Adv d (4 * 3 + p.val) i j i' j')
    (hs : RP d 2 p.val src.view) (hd : HP d (bk d 3 c).val p.val dst'.view) :
    iprop(recs I K ∗ cA d p c 3 iprop(sumP I d p c 2 fullShare ∗ (hold I d p c 3 ∗ rd I d p c 2) ∗ mR I d p c 3) ∗ ow c i j)
      ⊢ iprop((cB d p c 3 (mG I d p c 3) ∗ ow c i' j' -∗ WP c (t ⟨⟩) Q)
          -∗ WP c (.op (.enqueueDma src (.remote (Dev.tc n : Thread nD τ) dst' sS hsc) sR hsrc hdst hsem) t) Q) := by
  subst hn
  refine send_msg I K c (nx d c) d 3 p rfl hS hR (X := iprop(own I d p.val (bk d 1 c) (bk d 3 c) ∗ own I d p.val (bk d 2 c) (bk d 3 c))) hN hO ?_ ?_ ?_
    (q := fullShare.left) (w := fun j : S256x512.Idx => postB I d c (at_ S3x1024x512 ![2, 256 * p.val + (j 0).val, (j 1).val]))
  · rw [← rp_mat hs c fullShare.left (postB I d c)]
    show iprop(dst d p c 3 ∗ sumP I d p c 2 fullShare ∗ (hold I d p c 3 ∗ own I d p.val (bk d 1 c) (bk d 3 c) ∗ own I d p.val (bk d 2 c) (bk d 3 c)
      ∗ own I d p.val (bk d 3 c) (bk d 3 c)) ∗ mR I d p c 3) ⊢ _
    rw [show own I d p.val (bk d 3 c) (bk d 3 c) = mat dst'.view (nx d c) fullShare _ from by
      rw [show own I d p.val (bk d 3 c) (bk d 3 c) = own I d p.val (nx d c) (bk d 3 c) by rw [bk_three]]
      exact h_mat hd p.isLt (nx d c) fullShare (hP I (nx d c))]
    rw [show (dst d p c 3 : sProp 𝕄) = dst d p c ((3 : Fin 6).val + 1) from dst_none d p c 3 le_rfl]
    unfold mR mG
    iintro ⟨Hs, Hw, ⟨Hh, H1, H2, Hd⟩, -, Hold⟩
    ihave Hw := ((rA_halves d c _ _).1) $$ Hw
    icases Hw with ⟨Hl, Hr⟩
    isplitl [Hl]; · iexact Hl
    isplitl [Hd]; · iexists _; iexact Hd
    isplitl [H1 H2]
    · isplitl [H1]; · iexact H1
      iexact H2
    isplitl [Hs]; · iexact Hs
    unfold halfOf kp keep
    rw [if_pos rfl, if_pos rfl]
    isplitl [Hr]; · iexact Hr
    isplitl [Hh]; · iexact Hh
    iexact Hold
  · rw [← rp_mat hs c fullShare.left (postB I d c)]
    exact .rfl
  · have e : (fun j : S256x512.Idx => postB I d c (at_ S3x1024x512 ![2, 256 * p.val + (j 0).val, (j 1).val]))
        = fun j : S256x512.Idx => hT I (at_ S4096x1024 ![1024 * (bk d 3 c).val + 256 * p.val + (j 0).val, colo d + (j 1).val]) := by
      funext j
      rw [bk_three, hT_piece I d c _ _ _ p.isLt (lt0 j) (lt1 j)]
    rw [e, ← h_mat hd p.isLt (nx d c) fullShare (hT I)]
    show _ ⊢ iprop(hA (nx d c) (Cert.Mlp.hS d (bk d (3 + 1) (nx d c)).val p.val) fullShare (hT I)
      ∗ own I d p.val (bk d (1 + 1) (nx d c)) (bk d (3 + 1) (nx d c)) ∗ own I d p.val (bk d (2 + 1) (nx d c)) (bk d (3 + 1) (nx d c)))
    rw [own_next, own_next, bk_nx]

/-- The last two messages: the finished sum goes on. -/
theorem send_on (c n : Dev nD) (d : Bool) (k : ℕ) (k' : Fin 6) (hk : k = 4 ∨ k = 5) (hk' : k'.val = k) (p : Fin 4) (hn : n = nx d c)
    {src : Memref sig .tc .vmem S256x512 .bf16} {dst' : Memref sig .tc .vmem S256x512 .bf16}
    {hsc : dst'.view.ref.isScScratch = false} {sS sR : SemLoc sig} (hS : sS = csem (sndK d k' p)) (hR : sR = csem (rcvK d k' p))
    {hsrc : src.view.WordExact} {hdst : dst'.view.WordExact} {hsem : DmaTarget.Typed .vmem sR (.remote (Dev.tc n : Thread nD τ) dst' sS hsc)}
    {α : Type} {Q : α → sProp 𝕄} {t : PUnit → Prog (TpuEff nD τ sig (Elt F) Λ₀ .tc) α}
    {i j i' j' : ℕ} (hN : dst'.view.amount sR = nMsg) (hO : Adv d (4 * k + p.val) i j i' j')
    (hs : HP d (bk d k c).val p.val src.view) (hd : HP d (bk d k c).val p.val dst'.view) :
    iprop(recs I K ∗ cA d p c k iprop(fin I d p c k fullShare ∗ rd I d p c (k - 1) ∗ kp I d p c k) ∗ ow c i j)
      ⊢ iprop((cB d p c k' (mG I d p c k) ∗ ow c i' j' -∗ WP c (t ⟨⟩) Q)
          -∗ WP c (.op (.enqueueDma src (.remote (Dev.tc n : Thread nD τ) dst' sS hsc) sR hsrc hdst hsem) t) Q) := by
  subst hn
  rw [← hk'] at hO
  rw [show cA d p c k = cA (F := F) d p c k'.val by rw [hk']]
  have hX : rd I d p c (k - 1) ⊢ iprop(own I d p.val (nx d c) (bk d k c) ∗ rid I d p.val (fun j => bk d j (nx d c)) k) := by
    rcases hk with rfl | rfl
    · show iprop(own I d p.val (bk d 2 c) (bk d 4 c) ∗ own I d p.val (bk d 3 c) (bk d 4 c))
        ⊢ iprop(own I d p.val (nx d c) (bk d 4 c) ∗ own I d p.val (bk d (2 + 1) (nx d c)) (bk d (4 + 1) (nx d c)))
      rw [own_next, show own I d p.val (bk d 3 c) (bk d 4 c) = own I d p.val (nx d c) (bk d 4 c) by rw [bk_three]]
      iintro ⟨H1, H2⟩
      isplitl [H2]; · iexact H2
      iexact H1
    · show own I d p.val (bk d 3 c) (bk d 5 c) ⊢ iprop(own I d p.val (nx d c) (bk d 5 c) ∗ emp)
      rw [show own I d p.val (bk d 3 c) (bk d 5 c) = own I d p.val (nx d c) (bk d 5 c) by rw [bk_three]]
      iintro H
      isplitl [H]; · iexact H
      iempintro
  refine send_msg I K c (nx d c) d k' p rfl hS hR (X := rid I d p.val (fun j => bk d j (nx d c)) k) hN hO ?_ ?_ ?_
    (q := fullShare.left) (w := fun j : S256x512.Idx => hT I (at_ S4096x1024 ![1024 * (bk d k c).val + 256 * p.val + (j 0).val, colo d + (j 1).val]))
  · rw [← h_mat hs p.isLt c fullShare.left (hT I), hk', dst_none d p c k (by omega)]
    iintro ⟨Hs, Hw, HX, HM⟩
    ihave Hw := ((hA_halves c _ _).1) $$ Hw
    icases Hw with ⟨Hl, Hr⟩
    ihave HX := hX $$ HX
    icases HX with ⟨Hd, HX⟩
    isplitl [Hl]; · iexact Hl
    isplitl [Hd]
    · ihave Hd := (Entails.of_eq (h_mat hd p.isLt (nx d c) fullShare (hP I (nx d c)))) $$ Hd
      iexists _; iexact Hd
    isplitl [HX]; · iexact HX
    isplitl [Hs]; · iexact Hs
    unfold mG halfOf
    rw [if_neg (show ¬ k = 3 by omega)]
    isplitl [Hr]; · iexact Hr
    iexact HM
  · rw [← h_mat hs p.isLt c fullShare.left (hT I), hk']
    rcases hk with rfl | rfl
    · exact .rfl
    · exact .rfl
  · rw [← h_mat hd p.isLt (nx d c) fullShare (hT I), hk']
    unfold land
    rw [if_neg (show ¬ k < 3 by omega), bk_nx]

/-! ## Adding, and whole rounds -/

/-- The device's part is added to what has landed in slot `k`. -/
theorem add_part (c : Dev nD) (d : Bool) (k n : ℕ) (hk : k < 3) (p : Fin 4) (M : sProp 𝕄)
    {m : Memref sig .tc .vmem S3x1024x512 .bf16} {m' : Memref sig .tc .vmem S4096x1024 .bf16} {o₁ : Fin 3 → ℕ} {o₂ : Fin 2 → ℕ} {b₁ b₂}
    {l₁ : m.view.LoadsAt (Rect.unit (s := S3x1024x512) o₁ S1x256x512.size b₁).toLoadRect} {l₂ : m'.view.LoadsAt (Rect.unit (s := S4096x1024) o₂ S256x512.size b₂).toLoadRect}
    {l₃ : m.view.LoadsAt (Rect.unit (s := S3x1024x512) o₁ S1x256x512.size b₁).toLoadRect}
    {hx : (m.access (Rect.unit (s := S3x1024x512) o₁ S1x256x512.size b₁)).Stores Finset.univ} {hm}
    {pay : FVec F S1x256x512 .bf16 → FVec F S256x512 .bf16 → FVec F S1x256x512 .bf16} (hpay : ∀ v w, pay v w = k0_pay10 v w)
    (hr : RU d k p.val (m.access (Rect.unit (s := S3x1024x512) o₁ S1x256x512.size b₁)))
    (hh : HP d (bk d (k + 1) c).val p.val (m'.access (Rect.unit (s := S4096x1024) o₂ S256x512.size b₂)))
    {α : Type} {Q : α → sProp 𝕄} {t : PUnit → Prog (TpuEff nD τ sig (Elt F) Λ₀ .tc) α} :
    cA d p c n iprop(rA d c (rS k p.val) fullShare (preB I d c) ∗ (hold I d p c (k + 1) ∗ rd I d p c k) ∗ M)
      ⊢ iprop((cA d p c n iprop(sumP I d p c k fullShare ∗ (hold I d p c (k + 1) ∗ rd I d p c k) ∗ M) -∗ WP c (t ⟨⟩) Q)
        -∗ WP c (.op (.load (e := .bf16) m (Rect.unit (s := S3x1024x512) o₁ S1x256x512.size b₁).toLoadRect l₁) fun (v : FVec F S1x256x512 .bf16) =>
            .op (.load (e := .bf16) m' (Rect.unit (s := S4096x1024) o₂ S256x512.size b₂).toLoadRect l₂) fun (w : FVec F S256x512 .bf16) =>
            .op (.load (e := .bf16) m (Rect.unit (s := S3x1024x512) o₁ S1x256x512.size b₁).toLoadRect l₃) fun _ =>
            .op (.store m (Rect.unit (s := S3x1024x512) o₁ S1x256x512.size b₁) (pay v w) Finset.univ hx hm) t) Q) := by
  unfold cA
  iintro ⟨Ht, Hd, Hs, Hr, ⟨Hh, Hrd⟩, HM⟩ Hk
  ihave Hr := (Entails.of_eq (ru_mat hr c fullShare (preB I d c))) $$ Hr
  iapply (mat_load c) $$ Hr
  iintro Hr
  ihave Hh := (Entails.of_eq (h_mat hh p.isLt c fullShare (hP I c))) $$ Hh
  iapply (mat_load c) $$ Hh
  iintro Hh
  iapply (mat_load c) $$ Hr
  iintro Hr
  iapply (mat_store c) $$ Hr
  iintro Hr
  rw [hpay, show k0_pay10 (F := F) _ _ = (fun j : S1x256x512.Idx => postB I d c (at_ S3x1024x512 ![k, 256 * p.val + (j 1).val, (j 2).val]))
    from funext (add_piece I d c k p.val hk p.isLt)]
  ihave Hr := (Entails.of_eq (ru_mat hr c fullShare (postB I d c)).symm) $$ Hr
  ihave Hh := (Entails.of_eq (h_mat hh p.isLt c fullShare (hP I c)).symm) $$ Hh
  iapply Hk
  isplitl [Ht]; · iexact Ht
  isplitl [Hd]; · iexact Hd
  isplitl [Hs]; · iexact Hs
  isplitl [Hr]; · iexact Hr
  isplitl [Hh Hrd]
  · isplitl [Hh]; · iexact Hh
    iexact Hrd
  iexact HM

/-- What a chain holds when message `k ≤ 2` has come. -/
theorem got_sum (d : Bool) (p : Fin 4) (c : Dev nD) (k : ℕ) (hk : k < 3) :
    iprop(back I d k p.val c ∗ land I d k p.val c ∗ rd I d p c k ∗ mR I d p c k)
      ⊢ iprop(rA d c (rS k p.val) fullShare (preB I d c) ∗ (hold I d p c (k + 1) ∗ rd I d p c k) ∗ mR I d p c (k + 1)) := by
  unfold mR land
  rw [if_pos hk, show fut I d p c k = iprop(hold I d p c (k + 1) ∗ fut I d p c (k + 1)) from Ico_pop _ (by omega)]
  have ho : iprop(back I d k p.val c ∗ old I d p c (k - 1)) ⊢ old I d p c (k + 1 - 1) := by
    match k with
    | 0 => iintro ⟨-, H⟩; iexact H
    | 1 => exact Entails.of_eq (range_push (fun n => sumP I d p c n fullShare) 0).symm
    | 2 => exact Entails.of_eq (range_push (fun n => sumP I d p c n fullShare) 1).symm
  iintro ⟨Hb, Hl, Hr, ⟨Hh, Hf⟩, Ho⟩
  isplitl [Hl]; · iexact Hl
  isplitl [Hh Hr]
  · isplitl [Hh]; · iexact Hh
    iexact Hr
  isplitl [Hf]; · iexact Hf
  iapply ho
  isplitl [Hb]; · iexact Hb
  iexact Ho

/-- What a chain holds when message `k ≥ 3` has come. -/
theorem got_on (d : Bool) (p : Fin 4) (c : Dev nD) (k : ℕ) (hk : k = 3 ∨ k = 4 ∨ k = 5) :
    iprop(back I d k p.val c ∗ land I d k p.val c ∗ rd I d p c k ∗ mG I d p c k)
      ⊢ iprop(fin I d p c (k + 1) fullShare ∗ rd I d p c k ∗ kp I d p c (k + 1)) := by
  have ho : iprop(back I d k p.val c ∗ halfOf I d p c k ∗ kp I d p c k) ⊢ kp I d p c (k + 1) := by
    rcases hk with rfl | rfl | rfl
    · show iprop(sumP I d p c 2 fullShare.left ∗ sumP I d p c 2 fullShare.right ∗ keep I d p c) ⊢ iprop(sumP I d p c 2 fullShare ∗ keep I d p c)
      exact sep_assoc.2.trans (sep_mono_left (rA_halves d c _ _).2)
    · show iprop(fin I d p c 4 fullShare.left ∗ fin I d p c 4 fullShare.right ∗ sumP I d p c 2 fullShare ∗ keep I d p c)
        ⊢ iprop(fin I d p c 4 fullShare ∗ sumP I d p c 2 fullShare ∗ keep I d p c)
      exact sep_assoc.2.trans (sep_mono_left (hA_halves c _ _).2)
    · show iprop(fin I d p c 5 fullShare.left ∗ fin I d p c 5 fullShare.right ∗ fin I d p c 4 fullShare ∗ sumP I d p c 2 fullShare ∗ keep I d p c)
        ⊢ iprop(fin I d p c 5 fullShare ∗ fin I d p c 4 fullShare ∗ sumP I d p c 2 fullShare ∗ keep I d p c)
      exact sep_assoc.2.trans (sep_mono_left (hA_halves c _ _).2)
  unfold land mG
  rw [if_neg (show ¬ k < 3 by omega)]
  iintro ⟨Hb, Hl, Hr, Hh, Hk⟩
  isplitl [Hl]; · iexact Hl
  isplitl [Hr]; · iexact Hr
  iapply ho
  isplitl [Hb]; · iexact Hb
  isplitl [Hh]; · iexact Hh
  iexact Hk

end Cert.Mlp

end
-- ==== Proof.Rounds.lean ====
/-
# The steps of a chain, as the program takes them

For one message: its wait, what is done with what came, and the next message's start. Each rule takes
the chain before and gives the chain after.
-/
module

public import proofs.«01_k».proof.Proof.Chain

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ)

/-- What a copy of a piece counts, on any DMA semaphore. -/
theorem amount_msg {sp : Space} (v : View sig .tc sp S256x512 .bf16) {s : SemLoc sig} {k : CK} {o : OK} (hk : k = some o) (h : s = csem k) :
    v.amount s = nMsg := by subst hk; subst h; rfl

abbrev rdR (d : Bool) (k : ℕ) (p : Fin 4) (c : Dev nD) : sProp 𝕄 := iprop(hold I d p c (k + 1) ∗ rd I d p c k)
/-- A chain whose message `k < 3` has come and been added to. -/
abbrev cS (d : Bool) (p : Fin 4) (c : Dev nD) (k : ℕ) : sProp 𝕄 :=
  cA d p c (k + 1) iprop(sumP I d p c k fullShare ∗ rdR I d k p c ∗ mR I d p c (k + 1))

/-- The wait for message `k < 3`, and the device's part added to what came. -/
theorem round_add (c : Dev nD) (d : Bool) (k : Fin 6) (hk : k.val < 3) (p : Fin 4) {m₁ m₂ m₃ m₄ : Memref sig .tc .vmem S256x512 .bf16}
    {s₁ s₂ : DmaSem sig} (h₁ : SemLoc.dma s₁ = csem (sndK d k p)) (h₂ : SemLoc.dma s₂ = csem (rcvK d k p))
    {w₁ : m₁.view.WordExact} {w₂ : m₂.view.WordExact} {w₃ : m₃.view.WordExact} {w₄ : m₄.view.WordExact}
    (i j : ℕ) (hi : k.val < i / 4) (hj : k.val < j / 4)
    {m : Memref sig .tc .vmem S3x1024x512 .bf16} {m' : Memref sig .tc .vmem S4096x1024 .bf16} {o₁ : Fin 3 → ℕ} {o₂ : Fin 2 → ℕ} {b₁ b₂}
    {l₁ : m.view.LoadsAt (Rect.unit (s := S3x1024x512) o₁ S1x256x512.size b₁).toLoadRect} {l₂ : m'.view.LoadsAt (Rect.unit (s := S4096x1024) o₂ S256x512.size b₂).toLoadRect}
    {l₃ : m.view.LoadsAt (Rect.unit (s := S3x1024x512) o₁ S1x256x512.size b₁).toLoadRect}
    {hx : (m.access (Rect.unit (s := S3x1024x512) o₁ S1x256x512.size b₁)).Stores Finset.univ} {hm}
    {pay : FVec F S1x256x512 .bf16 → FVec F S256x512 .bf16 → FVec F S1x256x512 .bf16} (hpay : ∀ v w, pay v w = k0_pay10 v w)
    (hr : RU d k.val p.val (m.access (Rect.unit (s := S3x1024x512) o₁ S1x256x512.size b₁)))
    (hh : HP d (bk d (k.val + 1) c).val p.val (m'.access (Rect.unit (s := S4096x1024) o₂ S256x512.size b₂)))
    {α : Type} {Q : α → sProp 𝕄} {t : PUnit → Prog (TpuEff nD τ sig (Elt F) Λ₀ .tc) α} :
    recs I K ⊢ iprop(cB d p c k (mR I d p c k.val) -∗ ow c i j -∗ (cS I d p c k.val -∗ ow c i j -∗ WP c (t ⟨⟩) Q)
        -∗ WP c (.op (.waitDma2 s₁ m₁ m₂ w₁ w₂) fun _ => .op (.waitDma2 s₂ m₃ m₄ w₃ w₄) fun _ =>
            .op (.load (e := .bf16) m (Rect.unit (s := S3x1024x512) o₁ S1x256x512.size b₁).toLoadRect l₁) fun (v : FVec F S1x256x512 .bf16) =>
            .op (.load (e := .bf16) m' (Rect.unit (s := S4096x1024) o₂ S256x512.size b₂).toLoadRect l₂) fun (w : FVec F S256x512 .bf16) =>
            .op (.load (e := .bf16) m (Rect.unit (s := S3x1024x512) o₁ S1x256x512.size b₁).toLoadRect l₃) fun _ =>
            .op (.store m (Rect.unit (s := S3x1024x512) o₁ S1x256x512.size b₁) (pay v w) Finset.univ hx hm) t) Q) := by
  iintro #HR Hc HO Hk
  iapply (wait_msg I K c d k p h₁ h₂ rfl rfl i j hi hj _) $$ [Hc HO]
  · isplitr; · iexact HR
    isplitl [Hc]; · iexact Hc
    iexact HO
  iintro ⟨Hc, HO⟩
  ihave Hc := (cA_mono (got_sum I d p c k.val hk)) $$ Hc
  iapply (add_part I c d k.val (k.val + 1) hk p (mR I d p c (k.val + 1)) hpay hr hh) $$ Hc
  iintro Hc
  iapply Hk $$ Hc HO

/-- The wait for message `k`, of the finished sums. -/
theorem wait_on (c : Dev nD) (d : Bool) (k : Fin 6) (hk : k.val = 3 ∨ k.val = 4 ∨ k.val = 5) (p : Fin 4) {m₁ m₂ m₃ m₄ : Memref sig .tc .vmem S256x512 .bf16}
    {s₁ s₂ : DmaSem sig} (h₁ : SemLoc.dma s₁ = csem (sndK d k p)) (h₂ : SemLoc.dma s₂ = csem (rcvK d k p))
    {w₁ : m₁.view.WordExact} {w₂ : m₂.view.WordExact} {w₃ : m₃.view.WordExact} {w₄ : m₄.view.WordExact}
    (i j : ℕ) (hi : k.val < i / 4) (hj : k.val < j / 4)
    {α : Type} {Q : α → sProp 𝕄} {t : PUnit → Prog (TpuEff nD τ sig (Elt F) Λ₀ .tc) α} :
    recs I K ⊢ iprop(cB d p c k (mG I d p c k.val) -∗ ow c i j
        -∗ (cA d p c (k.val + 1) iprop(fin I d p c (k.val + 1) fullShare ∗ rd I d p c k.val ∗ kp I d p c (k.val + 1)) -∗ ow c i j -∗ WP c (t ⟨⟩) Q)
        -∗ WP c (.op (.waitDma2 s₁ m₁ m₂ w₁ w₂) fun _ => .op (.waitDma2 s₂ m₃ m₄ w₃ w₄) t) Q) := by
  iintro #HR Hc HO Hk
  iapply (wait_msg I K c d k p h₁ h₂ rfl rfl i j hi hj _) $$ [Hc HO]
  · isplitr; · iexact HR
    isplitl [Hc]; · iexact Hc
    iexact HO
  iintro ⟨Hc, HO⟩
  ihave Hc := (cA_mono (got_on I d p c k.val hk)) $$ Hc
  iapply Hk $$ Hc HO

section Sends
variable (c : Dev nD) (d : Bool) (p : Fin 4) {n : Dev nD} (hn : n = nx d c)
  {src : Memref sig .tc .vmem S256x512 .bf16} {dst' : Memref sig .tc .vmem S256x512 .bf16} {hsc : dst'.view.ref.isScScratch = false} {sS sR : SemLoc sig}
  {hsrc : src.view.WordExact} {hdst : dst'.view.WordExact} {hsem : DmaTarget.Typed .vmem sR (.remote (Dev.tc n : Thread nD τ) dst' sS hsc)}
  (i j i' j' : ℕ)

include hn

/-- The first message of a chain. -/
theorem first (hS : sS = csem (sndK d 0 p)) (hR : sR = csem (rcvK d 0 p)) (hO : Adv d (4 * 0 + p.val) i j i' j')
    (hs : HP d c.val p.val src.view) (hd : RP d 0 p.val dst'.view) {α : Type} {Q : α → sProp 𝕄} {t : PUnit → Prog (TpuEff nD τ sig (Elt F) Λ₀ .tc) α} :
    recs I K ⊢ iprop(cA d p c 0 iprop(emp) -∗ own I d p.val c c -∗ ow c i j -∗ (cB d p c 0 iprop(emp) -∗ ow c i' j' -∗ WP c (t ⟨⟩) Q)
      -∗ WP c (.op (.enqueueDma src (.remote (Dev.tc n : Thread nD τ) dst' sS hsc) sR hsrc hdst hsem) t) Q) := by
  iintro #HR Hc Ho HO Hk
  iapply (send_first I K c n d p hn hS hR i j i' j' (amount_msg _ rfl hR) hO hs hd) $$ [Hc Ho HO]
  · isplitr; · iexact HR
    isplitl [Hc]; · iexact Hc
    isplitl [Ho]; · iexact Ho
    iexact HO
  iintro ⟨Hc, HO⟩
  iapply Hk $$ Hc HO

/-- The next message of the sums, `k + 1`. -/
theorem next (k : ℕ) (k' : Fin 6) (hk : k < 2) (hk' : k'.val = k + 1) (hS : sS = csem (sndK d k' p)) (hR : sR = csem (rcvK d k' p)) (hO : Adv d (4 * (k + 1) + p.val) i j i' j')
    (hs : RP d k p.val src.view) (hd : RP d (k + 1) p.val dst'.view) {α : Type} {Q : α → sProp 𝕄} {t : PUnit → Prog (TpuEff nD τ sig (Elt F) Λ₀ .tc) α} :
    recs I K ⊢ iprop(cS I d p c k -∗ ow c i j -∗ (cB d p c k' (mR I d p c (k + 1)) -∗ ow c i' j' -∗ WP c (t ⟨⟩) Q)
      -∗ WP c (.op (.enqueueDma src (.remote (Dev.tc n : Thread nD τ) dst' sS hsc) sR hsrc hdst hsem) t) Q) := by
  iintro #HR Hc HO Hk
  iapply (send_sum I K c n d k k' hk hk' p hn hS hR (i := i) (j := j) (i' := i') (j' := j') (amount_msg _ rfl hR) hO hs hd) $$ [Hc HO]
  · isplitr; · iexact HR
    isplitl [Hc]; · iexact Hc
    iexact HO
  iintro ⟨Hc, HO⟩
  iapply Hk $$ Hc HO

/-- The first message of the finished sums. -/
theorem done (hS : sS = csem (sndK d 3 p)) (hR : sR = csem (rcvK d 3 p)) (hO : Adv d (4 * 3 + p.val) i j i' j')
    (hs : RP d 2 p.val src.view) (hd : HP d (bk d 3 c).val p.val dst'.view) {α : Type} {Q : α → sProp 𝕄} {t : PUnit → Prog (TpuEff nD τ sig (Elt F) Λ₀ .tc) α} :
    recs I K ⊢ iprop(cS I d p c 2 -∗ ow c i j -∗ (cB d p c 3 (mG I d p c 3) -∗ ow c i' j' -∗ WP c (t ⟨⟩) Q)
      -∗ WP c (.op (.enqueueDma src (.remote (Dev.tc n : Thread nD τ) dst' sS hsc) sR hsrc hdst hsem) t) Q) := by
  iintro #HR Hc HO Hk
  iapply (send_done I K c n d p hn hS hR (i := i) (j := j) (i' := i') (j' := j') (amount_msg _ rfl hR) hO hs hd) $$ [Hc HO]
  · isplitr; · iexact HR
    isplitl [Hc]; · iexact Hc
    iexact HO
  iintro ⟨Hc, HO⟩
  iapply Hk $$ Hc HO

/-- The other messages of the finished sums. -/
theorem on (k : ℕ) (k' : Fin 6) (hk : k = 4 ∨ k = 5) (hk' : k'.val = k) (hS : sS = csem (sndK d k' p)) (hR : sR = csem (rcvK d k' p)) (hO : Adv d (4 * k + p.val) i j i' j')
    (hs : HP d (bk d k c).val p.val src.view) (hd : HP d (bk d k c).val p.val dst'.view) {α : Type} {Q : α → sProp 𝕄} {t : PUnit → Prog (TpuEff nD τ sig (Elt F) Λ₀ .tc) α} :
    recs I K ⊢ iprop(cA d p c k iprop(fin I d p c k fullShare ∗ rd I d p c (k - 1) ∗ kp I d p c k) -∗ ow c i j
      -∗ (cB d p c k' (mG I d p c k) -∗ ow c i' j' -∗ WP c (t ⟨⟩) Q)
      -∗ WP c (.op (.enqueueDma src (.remote (Dev.tc n : Thread nD τ) dst' sS hsc) sR hsrc hdst hsem) t) Q) := by
  iintro #HR Hc HO Hk
  iapply (send_on I K c n d k k' hk hk' p hn hS hR (i := i) (j := j) (i' := i') (j' := j') (amount_msg _ rfl hR) hO hs hd) $$ [Hc HO]
  · isplitr; · iexact HR
    isplitl [Hc]; · iexact Hc
    iexact HO
  iintro ⟨Hc, HO⟩
  iapply Hk $$ Hc HO

end Sends

/-- A chain is given the products it will add. -/
theorem chain_holds (d : Bool) (p : Fin 4) (c : Dev nD) :
    iprop(cB d p c 0 iprop(emp) ∗ hold I d p c 1 ∗ hold I d p c 2 ∗ hold I d p c 3) ⊢ cB d p c 0 (mR I d p c 0) := by
  have e : fut I d p c 0 = iprop(hold I d p c 1 ∗ hold I d p c 2 ∗ hold I d p c 3 ∗ emp) := by
    unfold fut
    rw [Ico_pop _ (by decide), Ico_pop _ (by decide), Ico_pop _ (by decide)]
    rfl
  have e' : old I d p c (0 - 1) = iprop(emp) := bigSep_empty
  unfold cB mR
  rw [e, e']
  iintro ⟨⟨Ht, Hd, Hs, Hp, -⟩, H1, H2, H3⟩
  isplitl [Ht]; · iexact Ht
  isplitl [Hd]; · iexact Hd
  isplitl [Hs]; · iexact Hs
  isplitl [Hp]; · iexact Hp
  isplitl [H1 H2 H3]
  · isplitl [H1]; · iexact H1
    isplitl [H2]; · iexact H2
    isplitl [H3]; · iexact H3
    iempintro
  iempintro

end Cert.Mlp

end
-- ==== Proof.Local.lean ====
/-
# The steps of a device that are no chain's

The loads of `x`, the products, the output's staging and its copies, the barrier, and the loads from
what a chain keeps.
-/
module

public import proofs.«01_k».proof.Proof.Rounds

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ)

/-! ## Loads from a buffer held whole -/

theorem all_load {s : Shape} {e : EltTy} {α : Type} {Q : α → sProp 𝕄} {cs : CoreSpace} {m : Memref sig .tc cs s e} {r : Rect s} {hl : m.view.LoadsAt r} (c : Dev nD) {q : PosShare TreeShare}
    {w : s.Idx → Elt F e} {t : (r.shape.Idx → Elt F e) → Prog (TpuEff nD τ sig (Elt F) Λ₀ .tc) α} :
    mat m.view c q w ⊢ iprop((mat m.view c q w -∗ WP c (t fun j => w (r.emb j)) Q) -∗ WP c (.op (.load m r hl) t) Q) := by
  unfold mat
  iintro ⟨%f, %hf, H⟩ Hk
  iapply (wp_load_rect 𝒱₀ (c : Thread nD τ) none Set.univ (m := m) (r := r) (S := m.view.set) (f := f) (View.set_slice_subset m.view r)) $$ H
  iintro H
  rw [show (m.access r).read (Elt F) f = fun j => w (r.emb j) from funext fun j => congrFun hf (r.emb j)]
  iapply Hk
  iexists f
  isplitr
  · ipureintro; exact hf
  iexact H

omit [FloatOps F] in
theorem g_mat (b : Bool) (c : Dev nD) (f : Vec F S512x1024 .f32) : (gA b c f : sProp 𝕄) = mat (stgM b).view c fullShare f := by
  cases b
  · exact whole_mat cc0_scratch3 c fullShare f
  · exact whole_mat cc0_scratch4 c fullShare f

/-- The device's staged rows of `W1`, and its columns of `W2`. -/
abbrev w1A (c : Dev nD) : sProp 𝕄 := (c : Thread nD τ).loc cc0_stg0_0 ↦{fullShare} I.W1 c
abbrev w2A (c : Dev nD) : sProp 𝕄 := (c : Thread nD τ).loc cc0_stg1_0 ↦{fullShare} I.W2 c

theorem emb_self {A B : ℕ} [Full ⟨2, ![A, B]⟩] (off : Fin 2 → ℕ) (inb) (h : off = ![0, 0]) (j : (⟨2, ![A, B]⟩ : Shape).Idx) :
    (Rect.unit (s := ⟨2, ![A, B]⟩) off ![A, B] inb).emb j = j := by
  subst h
  rw [emb2]
  exact (eq_at2 _ _ _ (Nat.zero_add _).symm (Nat.zero_add _).symm).symm

theorem half_entry (c : Dev nD) (q u : ℕ) (hq : q < 4) (hu : u < 2) (j : S512x1024.Idx) :
    hP I c (at_ S4096x1024 ![1024 * q + 512 * u + (j 0).val, 0 + (j 1).val]) = k0_pay1 (xb I c (2 * q + u)) (I.W1 c) j := by
  have h0 := lt0 j; have h1 := lt1 j
  unfold hP
  have e0 : ((at_ S4096x1024 ![1024 * q + 512 * u + (j 0).val, 0 + (j 1).val]) 0 : ℕ) = 1024 * q + 512 * u + (j 0).val := at2_0 (by omega)
  have e1 : ((at_ S4096x1024 ![1024 * q + 512 * u + (j 0).val, 0 + (j 1).val]) 1 : ℕ) = (j 1).val := (at2_1 (by omega)).trans (Nat.zero_add _)
  rw [e0, e1, show (1024 * q + 512 * u + (j 0).val) / 512 = 2 * q + u by omega, show (1024 * q + 512 * u + (j 0).val) % 512 = (j 0).val by omega]
  exact congrArg _ (eq_at2 j _ _ rfl rfl).symm

omit [FloatOps F] in
theorem hA_biUnion {T : Type} (S : Finset T) (G : T → Finset S4096x1024.Idx) (h : ∀ t ∈ S, ∀ t' ∈ S, t ≠ t' → Disjoint (G t) (G t')) (c : Dev nD)
    (q : PosShare TreeShare) (f : Vec F S4096x1024 .bf16) : (hA c (S.biUnion G) q f : sProp 𝕄) = bigSep S fun t => hA c (G t) q f :=
  pointsTo_biUnion (ℓ := (c : Thread nD τ).loc cc0_scratch0) S G h

omit [FloatOps F] in
theorem rA_biUnion {T : Type} (S : Finset T) (G : T → Finset S3x1024x512.Idx) (h : ∀ t ∈ S, ∀ t' ∈ S, t ≠ t' → Disjoint (G t) (G t')) (d : Bool) (c : Dev nD)
    (q : PosShare TreeShare) (f : Vec F S3x1024x512 .bf16) : (rA d c (S.biUnion G) q f : sProp 𝕄) = bigSep S fun t => rA d c (G t) q f := by
  cases d
  · exact pointsTo_biUnion (ℓ := (c : Thread nD τ).loc cc0_scratch2) S G h
  · exact pointsTo_biUnion (ℓ := (c : Thread nD τ).loc cc0_scratch1) S G h

omit [FloatOps F] in
theorem half_pieces (c : Dev nD) (q u : ℕ) (hu : u < 2) (f : Vec F S4096x1024 .bf16) :
    (hA c (hH q u) fullShare f : sProp 𝕄) = iprop(hA c (hS true q (2 * u + 0)) fullShare f ∗ hA c (hS true q (2 * u + 1)) fullShare f
      ∗ hA c (hS false q (2 * u + 0)) fullShare f ∗ hA c (hS false q (2 * u + 1)) fullShare f) := by
  have hd : ∀ b ∈ (Finset.univ : Finset (Bool × Fin 2)), ∀ b' ∈ (Finset.univ : Finset (Bool × Fin 2)), b ≠ b' →
      Disjoint (hS b.1 q (2 * u + b.2.val)) (hS b'.1 q (2 * u + b'.2.val)) := fun b _ b' _ h =>
    hS_disjoint (by have := b.2.isLt; omega) (by have := b'.2.isLt; omega) fun h' => h
      (Prod.ext (Prod.ext_iff.mp h').1 (Fin.ext (Nat.add_left_cancel (n := 2 * u) (Prod.ext_iff.mp (Prod.ext_iff.mp h').2).2)))
  rw [← hH_pieces q u, hA_biUnion _ (fun b : Bool × Fin 2 => hS b.1 q (2 * u + b.2.val)) hd,
    bigSep_univ_eq_bigSepL [(true, 0), (true, 1), (false, 0), (false, 1)] (by decide) (by decide), bigSepL_cons_cons, bigSepL_cons_cons,
    bigSepL_cons_cons, bigSepL_singleton]
  rfl

theorem half_split (c : Dev nD) (q : Dev nD) (u : ℕ) (hu : u < 2) (p₀ p₁ : Fin 4) (e₀ : p₀.val = 2 * u) (e₁ : p₁.val = 2 * u + 1) :
    hA c (hH q.val u) fullShare (hP I c) ⊢ iprop(own I true p₀.val c q ∗ own I true p₁.val c q ∗ own I false p₀.val c q ∗ own I false p₁.val c q) := by
  rw [half_pieces _ _ _ hu]
  unfold own
  rw [e₀, e₁]
  exact .rfl

/-- The product of a half of a chunk, and its pieces. -/
theorem gemm (c : Dev nD) (b : Bool) (q : Dev nD) (u : ℕ) (hu : u < 2) (p₀ p₁ : Fin 4) (e₀ : p₀.val = 2 * u) (e₁ : p₁.val = 2 * u + 1)
    {m : Memref sig .tc .vmem S512x1024 .f32} (hm : m = stgM b) {m₁ : Memref sig .tc .vmem S1024x1024 .bf16} (hm₁ : m₁ = w1M) {m' : Memref sig .tc .vmem S4096x1024 .bf16}
    {o o₁ o₂ : Fin 2 → ℕ} {b₀ b₁ b₂} (ho : o = ![0, 0]) (ho₁ : o₁ = ![0, 0])
    {l : m.view.LoadsAt (Rect.unit (s := S512x1024) o S512x1024.size b₀).toLoadRect}
    {l₁ : m₁.view.LoadsAt (Rect.unit (s := S1024x1024) o₁ S1024x1024.size b₁).toLoadRect}
    {l₂ : m'.view.LoadsAt (Rect.unit (s := S4096x1024) o₂ S512x1024.size b₂).toLoadRect}
    {hx : (m'.access (Rect.unit (s := S4096x1024) o₂ S512x1024.size b₂)).Stores Finset.univ} {hmk}
    {pay : FVec F S512x1024 .f32 → FVec F S1024x1024 .bf16 → FVec F S512x1024 .bf16} (hpay : ∀ v w, pay v w = k0_pay1 v w)
    (hh : HH q.val u (m'.access (Rect.unit (s := S4096x1024) o₂ S512x1024.size b₂)))
    {α : Type} {Q : α → sProp 𝕄} {t : PUnit → Prog (TpuEff nD τ sig (Elt F) Λ₀ .tc) α} :
    gA b c (xb I c (2 * q.val + u)) ⊢ iprop(w1A I c -∗ (∃ f, hA c (hH q.val u) fullShare f)
      -∗ ((∃ f, gA b c f) -∗ w1A I c -∗ own I true p₀.val c q -∗ own I true p₁.val c q -∗ own I false p₀.val c q -∗ own I false p₁.val c q -∗ WP c (t ⟨⟩) Q)
      -∗ WP c (.op (.load (e := .f32) m (Rect.unit (s := S512x1024) o S512x1024.size b₀).toLoadRect l) fun (v : FVec F S512x1024 .f32) =>
          .op (.load (e := .bf16) m₁ (Rect.unit (s := S1024x1024) o₁ S1024x1024.size b₁).toLoadRect l₁) fun (w : FVec F S1024x1024 .bf16) =>
          .op (.load (e := .bf16) m' (Rect.unit (s := S4096x1024) o₂ S512x1024.size b₂).toLoadRect l₂) fun _ =>
          .op (.store m' (Rect.unit (s := S4096x1024) o₂ S512x1024.size b₂) (pay v w) Finset.univ hx hmk) t) Q) := by
  subst hm; subst hm₁
  iintro Hg Hw ⟨%f, Hh⟩ Hk
  ihave Hg := (Entails.of_eq (g_mat b c _)) $$ Hg
  iapply (all_load c) $$ Hg
  iintro Hg
  ihave Hw := (Entails.of_eq (whole_mat cc0_stg0_0 c fullShare (I.W1 c))) $$ Hw
  iapply (all_load (m := w1M) c) $$ Hw
  iintro Hw
  ihave Hh := (Entails.of_eq (hh_mat hh c fullShare f)) $$ Hh
  iapply (mat_load c) $$ Hh
  iintro Hh
  iapply (mat_store c) $$ Hh
  iintro Hh
  rw [hpay, show (fun j => xb I c (2 * q.val + u) ((Rect.unit (s := S512x1024) o S512x1024.size b₀).emb j)) = xb I c (2 * q.val + u)
      from funext fun j => congrArg _ (emb_self (A := 512) (B := 1024) o b₀ ho j),
    show (fun j => I.W1 c ((Rect.unit (s := S1024x1024) o₁ S1024x1024.size b₁).emb j)) = I.W1 c
      from funext fun j => congrArg _ (emb_self (A := 1024) (B := 1024) o₁ b₁ ho₁ j),
    show k0_pay1 (xb I c (2 * q.val + u)) (I.W1 c) = (fun j : S512x1024.Idx => hP I c (at_ S4096x1024 ![1024 * q.val + 512 * u + (j 0).val, 0 + (j 1).val]))
      from (funext (half_entry I c q.val u q.isLt hu)).symm]
  ihave Hh := (Entails.of_eq (hh_mat hh c fullShare (hP I c)).symm) $$ Hh
  ihave Hh := (half_split I c q u hu p₀ p₁ e₀ e₁) $$ Hh
  icases Hh with ⟨H1, H2, H3, H4⟩
  ihave Hg := (Entails.of_eq (g_mat b c _).symm) $$ Hg
  ihave Hw := (Entails.of_eq (whole_mat cc0_stg0_0 c fullShare (I.W1 c)).symm) $$ Hw
  iapply Hk $$ [Hg] Hw H1 H2 H3 H4
  iexists _; iexact Hg

/-! ## The loads of `x` -/

abbrev xAt (i : ℕ) (c : Dev nD) : sProp 𝕄 := xA c (hH (bk true (ldJ i) c).val (ldU i)) (I.X c)

theorem ld_start (c : Dev nD) (i : Fin 8) (b : Bool) (hb : b = ldB i.val)
    {src : Memref sig .tc .hbm S512x1024 .f32} {dst : Memref sig .tc .vmem S512x1024 .f32} (hd : dst = stgM b)
    {sm : SemLoc sig} (hs : sm = csem (ldK i)) {hsrc : src.view.WordExact} {hdst : dst.view.WordExact}
    {hsem : DmaTarget.Typed (nD := nD) (τ := τ) (p := (c : Thread nD τ).2) .hbm sm (.here dst)}
    (hv : XH (bk true (ldJ i.val) c).val (ldU i.val) src.view)
    {α : Type} {Q : α → sProp 𝕄} {t : PUnit → Prog (TpuEff nD τ sig (Elt F) Λ₀ .tc) α} :
    recs I K ⊢ iprop(xAt I i.val c -∗ (∃ f, gA b c f) -∗ tok c (ldK i) -∗ (flying c (ldK i) nLd -∗ WP c (t ⟨⟩) Q)
      -∗ WP c (.op (.enqueueDma src (.here dst) sm hsrc hdst hsem) t) Q) := by
  subst hd
  have hN : (stgM b).view.amount sm = amt (ldK i) := by subst hs; rfl
  iintro #HR Hx ⟨%g, Hg⟩ Ht Hk
  ihave Hx := (Entails.of_eq (x_mat hv c (I.X c))) $$ Hx
  ihave Hg := (Entails.of_eq (g_mat b c g)) $$ Hg
  have hp : iprop(mat (stgM b).view c fullShare (fun j : S512x1024.Idx => I.X c (at_ S4096x1024 ![1024 * (bk true (ldJ i.val) c).val + 512 * ldU i.val + (j 0).val, 0 + (j 1).val]))
      ∗ mat src.view c fullShare (fun j : S512x1024.Idx => I.X c (at_ S4096x1024 ![1024 * (bk true (ldJ i.val) c).val + 512 * ldU i.val + (j 0).val, 0 + (j 1).val])))
      ⊢ pay I (ldK i) c false := by
    rw [← x_mat hv c (I.X c)]
    have e : (fun j : S512x1024.Idx => I.X c (at_ S4096x1024 ![1024 * (bk true (ldJ i.val) c).val + 512 * ldU i.val + (j 0).val, 0 + (j 1).val]))
        = xb I c (2 * (bk true (ldJ i.val) c).val + ldU i.val) := funext fun j => congrArg _ (at2_congr (by omega) (Nat.zero_add _))
    rw [e, ← g_mat b c, hb]
    exact .rfl
  iapply (mat_copy I K c (.inl i) hs hN hp) $$ [Hx Hg Ht]
  · isplitr; · iexact HR
    isplitl [Hx]; · iexact Hx
    isplitl [Hg]; · iexact Hg
    iexact Ht
  iexact Hk

/-- A part of `x` given back, and the load's semaphore. -/
def ldD (i : Fin 8) (c : Dev nD) : sProp 𝕄 := iprop(xAt I i.val c ∗ semVal (ldCell c i) 0)

theorem ld_wait (c : Dev nD) (i : Fin 8) (b : Bool) (hb : b = ldB i.val) {src : Memref sig .tc .hbm S512x1024 .f32} {dst : Memref sig .tc .vmem S512x1024 .f32}
    {sm : DmaSem sig} (hs : SemLoc.dma sm = csem (ldK i)) {hsrc : src.view.WordExact} {hdst : dst.view.WordExact} (j j' : ℕ)
    {q : Dev nD} {u : ℕ} (hq : bk true (ldJ i.val) c = q) (hu : ldU i.val = u)
    {α : Type} {Q : α → sProp 𝕄} {t : PUnit → Prog (TpuEff nD τ sig (Elt F) Λ₀ .tc) α} :
    recs I K ⊢ iprop(flying c (ldK i) nLd -∗ ow c j j' -∗ (gA b c (xb I c (2 * q.val + u)) -∗ ldD I i c -∗ ow c j j' -∗ WP c (t ⟨⟩) Q)
      -∗ WP c (.op (.waitDma2 sm src dst hsrc hdst) t) Q) := by
  subst hb; subst hq; subst hu
  iintro #HR Hf HO Hk
  iapply (wait_core I K c (.inl i) hs rfl j j' (show 0 < 2 + j / 4 by omega) (show 0 < 2 + j' / 4 by omega)) $$ [Hf HO]
  · isplitr; · iexact HR
    isplitl [Hf]; · iexact Hf
    iexact HO
  iintro ⟨Hp, HO, Hz⟩
  ihave Hp := (Entails.of_eq (show pay I (ldK i) c false = iprop(gA (ldB i.val) c (xb I c (2 * (bk true (ldJ i.val) c).val + ldU i.val)) ∗ xAt I i.val c) from rfl)) $$ Hp
  icases Hp with ⟨Hg, Hx⟩
  iapply Hk $$ Hg [Hx Hz] HO
  unfold ldD
  isplitl [Hx]; · iexact Hx
  iexact Hz

/-! ## The barrier -/

theorem bar_signals (c : Dev nD) {n₁ n₂ : Dev nD} (h₁ : n₁ = nx false c) (h₂ : n₂ = nx true c)
    {α : Type} {Q : α → sProp 𝕄} {t : PUnit → Prog (TpuEff nD τ sig (Elt F) Λ₀ .tc) α} (W : Waits sig Unit) :
    recs I K ⊢ iprop(owes (c : Thread nD τ) (O₀ c) W -∗ dutyTok ER (barCell (nx false c)) 0 true -∗ dutyTok ER (barCell (nx true c)) 0 false
      -∗ (∃ f, rA true c Finset.univ fullShare f) -∗ (∃ f, rA false c Finset.univ fullShare f) -∗ (ow c 0 0 -∗ WP c (t ⟨⟩) Q)
      -∗ WP c (.op (.semSignal ((n₁ : Thread nD τ)) barS ((1 : ℕ) : ℤ)) fun _ => .op (.semSignal ((n₂ : Thread nD τ)) barS ((1 : ℕ) : ℤ)) t) Q) := by
  subst h₁; subst h₂
  iintro #HR HO Ht Ht' Hr Hl Hk
  ihave #H1 := (recs_at I K (nx false c, none)) $$ HR
  icases H1 with ⟨#Hi, #Hr1⟩
  ihave #H2 := (recs_at I K (nx true c, none)) $$ HR
  icases H2 with ⟨#Hi', #Hr2⟩
  iapply (Rounds.wp_signal 𝒱₀ ER (Rd I) (c : Thread nD τ) none (dst := (nx false c : Thread nD τ)) (κ := K (nx false c, none)) (r := 0)
      (d := true) (by rw [show ((nx false c : Thread nD τ), SemLoc.reg barS) = barCell (nx false c) from rfl, duties_bar]; exact Finset.mem_univ _)
      (amount_eq I (nx false c) none true) () (rem2 c 0 0 + tallyAt (barCell (nx true c)) () 1) rfl) $$ [HO Ht Hr]
  · isplitr; · iexact Hi
    isplitl [HO]; · iexact HO
    isplitl [Ht]; · iexact Ht
    isplitl [Hr]
    · iapply (Entails.of_eq (show (Rd I).payload ((nx false c : Thread nD τ), SemLoc.reg barS) 0 true = _ from payload_eq I (nx false c) none true).symm)
      iapply (Entails.of_eq (show (iprop(∃ f, rA true c Finset.univ fullShare f) : sProp 𝕄) = pay I none (nx false c) true from by
        show _ = iprop(∃ f, rA true (nx true (nx false c)) Finset.univ fullShare f); rw [show nx true (nx false c) = c from nx_back true c])) $$ Hr
    iexact Hr1
  iintro HO
  iapply (Rounds.wp_signal 𝒱₀ ER (Rd I) (c : Thread nD τ) none (dst := (nx true c : Thread nD τ)) (κ := K (nx true c, none)) (r := 0)
      (d := false) (by rw [show ((nx true c : Thread nD τ), SemLoc.reg barS) = barCell (nx true c) from rfl, duties_bar]; exact Finset.mem_univ _)
      (amount_eq I (nx true c) none false) () (rem2 c 0 0) rfl) $$ [HO Ht' Hl]
  · isplitr; · iexact Hi'
    isplitl [HO]; · iexact HO
    isplitl [Ht']; · iexact Ht'
    isplitl [Hl]
    · iapply (Entails.of_eq (show (Rd I).payload ((nx true c : Thread nD τ), SemLoc.reg barS) 0 false = _ from payload_eq I (nx true c) none false).symm)
      iapply (Entails.of_eq (show (iprop(∃ f, rA false c Finset.univ fullShare f) : sProp 𝕄) = pay I none (nx true c) false from by
        show _ = iprop(∃ f, rA false (nx false (nx true c)) Finset.univ fullShare f); rw [show nx false (nx true c) = c from nx_back false c])) $$ Hl
    iexact Hr2
  iintro HO
  iapply Hk
  unfold ow
  iexists W; iexact HO

omit [FloatOps F] in
/-- The neighbour's landing buffer, by slots and pieces. -/
theorem bar_split (d : Bool) (c : Dev nD) :
    (barPay d c : sProp 𝕄) ⊢ iprop(dst d 0 c 0 ∗ dst d 1 c 0 ∗ dst d 2 c 0 ∗ dst d 3 c 0) := by
  have e (f : Vec F S3x1024x512 .bf16) : (rA d (nx d c) Finset.univ fullShare f : sProp 𝕄)
      = iprop(rA d (nx d c) (rS 0 0) fullShare f ∗ rA d (nx d c) (rS 1 0) fullShare f ∗ rA d (nx d c) (rS 2 0) fullShare f
        ∗ rA d (nx d c) (rS 0 1) fullShare f ∗ rA d (nx d c) (rS 1 1) fullShare f ∗ rA d (nx d c) (rS 2 1) fullShare f
        ∗ rA d (nx d c) (rS 0 2) fullShare f ∗ rA d (nx d c) (rS 1 2) fullShare f ∗ rA d (nx d c) (rS 2 2) fullShare f
        ∗ rA d (nx d c) (rS 0 3) fullShare f ∗ rA d (nx d c) (rS 1 3) fullShare f ∗ rA d (nx d c) (rS 2 3) fullShare f) := by
    rw [← r_all, rA_biUnion _ _ fun b _ b' _ h => rS_disjoint fun h' => h (Prod.ext (Fin.ext (Prod.ext_iff.mp h').1) (Fin.ext (Prod.ext_iff.mp h').2)),
      bigSep_univ_eq_bigSepL [((0 : Fin 3), (0 : Fin 4)), (1, 0), (2, 0), (0, 1), (1, 1), (2, 1), (0, 2), (1, 2), (2, 2), (0, 3), (1, 3), (2, 3)]
        (by decide) (by decide)]
    simp only [bigSepL_cons_cons, bigSepL_singleton]
    rfl
  have e3 (p : Fin 4) : (dst d p c 0 : sProp 𝕄) = iprop((∃ f, rA d (nx d c) (rS 0 p.val) fullShare f)
      ∗ (∃ f, rA d (nx d c) (rS 1 p.val) fullShare f) ∗ (∃ f, rA d (nx d c) (rS 2 p.val) fullShare f) ∗ emp) := by
    unfold dst
    rw [Ico_pop _ (by decide), Ico_pop _ (by decide), Ico_pop _ (by decide)]
    rfl
  unfold barPay
  iintro ⟨%f, H⟩
  ihave H := (Entails.of_eq (e f)) $$ H
  icases H with ⟨H00, H10, H20, H01, H11, H21, H02, H12, H22, H03, H13, H23⟩
  rw [e3, e3, e3, e3]
  isplitl [H00 H10 H20]
  · isplitl [H00]; · iexists f; iexact H00
    isplitl [H10]; · iexists f; iexact H10
    isplitl [H20]; · iexists f; iexact H20
    iempintro
  isplitl [H01 H11 H21]
  · isplitl [H01]; · iexists f; iexact H01
    isplitl [H11]; · iexists f; iexact H11
    isplitl [H21]; · iexists f; iexact H21
    iempintro
  isplitl [H02 H12 H22]
  · isplitl [H02]; · iexists f; iexact H02
    isplitl [H12]; · iexists f; iexact H12
    isplitl [H22]; · iexists f; iexact H22
    iempintro
  isplitl [H03]; · iexists f; iexact H03
  isplitl [H13]; · iexists f; iexact H13
  isplitl [H23]; · iexists f; iexact H23
  iempintro

/-- The wait on the barrier, and the chains' places to land. -/
theorem bar_wait (c : Dev nD) {α : Type} {Q : α → sProp 𝕄} {t : PUnit → Prog (TpuEff nD τ sig (Elt F) Λ₀ .tc) α} :
    recs I K ⊢ iprop(cred (tallyAt (barCell c) () 2) -∗ atPos ER (barCell c) 0 ∅ 0 -∗ ow c 0 0
      -∗ (semVal (barCell c) 0 -∗ (dst true 0 c 0 ∗ dst true 1 c 0 ∗ dst true 2 c 0 ∗ dst true 3 c 0)
          -∗ (dst false 0 c 0 ∗ dst false 1 c 0 ∗ dst false 2 c 0 ∗ dst false 3 c 0) -∗ ow c 0 0 -∗ WP c (t ⟨⟩) Q)
      -∗ WP c (.op (.semWait barS ((2 : ℕ) : ℤ)) t) Q) := by
  unfold ow
  iintro #HR Hc Hat ⟨%W, HO⟩ Hk
  ihave #Hr := (recs_at I K (c, none)) $$ HR
  icases Hr with ⟨#Hi, -⟩
  iapply (Rounds.wp_wait_rest_token 𝒱₀ ER (Rd I) (c : Thread nD τ) none (κ := K (c, none))
      (wpE_semWait_eq 𝒱₀ (c : Thread nD τ) none Set.univ) (Set.mem_univ _) () (O := rem2 c 0 0) (W := W) (R := 0) (m := 0) (T := ∅)
      (by rw [show ((c : Thread nD τ), SemLoc.reg barS) = barCell c from rfl, expect_bar])) $$ [Hc HO Hat]
  · isplitr; · iexact Hi
    isplitl [Hc]; · iexact Hc
    isplitl [HO]; · iexact HO
    isplitr
    · iapply (mayWait_rem c (csem none) 1 0 0 (le_of_eq (lv_kcell c none ())) (by decide) (by decide))
      iapply (recs_lev I K) $$ HR
    iexact Hat
  iintro ⟨HO, Hat, -, Hp⟩
  imod (Rounds.cell_close ER (Rd I) (Set.mem_univ (K (c, none))) (fun h => h) (R := 0 + 1) (duties_later I (barCell c))) $$ [Hat] with Hz
  · isplitr; · iexact Hi
    iexact Hat
  ihave Hp := (Entails.of_eq (show bigSep ((Rd I).duties ((c : Thread nD τ), SemLoc.reg barS) 0 \ ∅) (fun d => (Rd I).payload ((c : Thread nD τ), SemLoc.reg barS) 0 d) = _ from rest_bar I c)) $$ Hp
  icases Hp with ⟨Hl, Hr⟩
  ihave Hl := (bar_split false c) $$ Hl
  ihave Hr := (bar_split true c) $$ Hr
  iapply Hk $$ Hz Hr Hl
  iexists _; iexact HO

end Cert.Mlp

end
-- ==== Proof.Stage.lean ====
/-
# The output: staging it, copying it out, and reading the finished sum

The loads of the finished sum read halves or tiles the chains keep; each rule gives the chains back as
they were.
-/
module

public import proofs.«01_k».proof.Proof.Local

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ)

/-! ## Staging -/

theorem sto_at (w : Vec F S1x1024x1024 .bf16) (k : ℕ) (j : S1x1024x1024.Idx) : sto w (at_ S3x1024x1024 ![k, (j 1).val, (j 2).val]) = w j := by
  unfold sto
  rw [at3_1 (lt1' j), at3_2 (lt2' j)]
  exact congrArg w (eq_at3 j _ _ _ (Nat.lt_one_iff.mp (lt0' j)) rfl rfl).symm

theorem stoP_at (w : Vec F S1x256x1024 .bf16) (p : ℕ) (hp : p < 4) (j : S1x256x1024.Idx) :
    stoP w (at_ S3x1024x1024 ![2, 256 * p + (j 1).val, (j 2).val]) = w j := by
  have h1 := lt1' j
  unfold stoP
  rw [at3_1 (show 256 * p + (j 1).val < 1024 by omega), at3_2 (lt2' j), show (256 * p + (j 1).val) % 256 = (j 1).val by omega]
  exact congrArg w (eq_at3 j _ _ _ (Nat.lt_one_iff.mp (lt0' j)) rfl rfl).symm

/-- A slot of the staging read and then stored. -/
theorem stage_put (c : Dev nD) (k : ℕ) {m : Memref sig .tc .vmem S3x1024x1024 .bf16} {o : Fin 3 → ℕ} {b}
    {l : m.view.LoadsAt (Rect.unit (s := S3x1024x1024) o S1x1024x1024.size b).toLoadRect}
    {hx : (m.access (Rect.unit (s := S3x1024x1024) o S1x1024x1024.size b)).Stores Finset.univ} {hmk}
    (hs : SU k (m.access (Rect.unit (s := S3x1024x1024) o S1x1024x1024.size b)))
    {w : FVec F S1x1024x1024 .bf16} {α : Type} {Q : α → sProp 𝕄} {t : PUnit → Prog (TpuEff nD τ sig (Elt F) Λ₀ .tc) α} :
    iprop(∃ f, sA c (sK k) f) ⊢ iprop((sA c (sK k) (sto w) -∗ WP c (t ⟨⟩) Q)
      -∗ WP c (.op (.load (e := .bf16) m (Rect.unit (s := S3x1024x1024) o S1x1024x1024.size b).toLoadRect l) fun _ =>
          .op (.store m (Rect.unit (s := S3x1024x1024) o S1x1024x1024.size b) w Finset.univ hx hmk) t) Q) := by
  iintro ⟨%f, H⟩ Hk
  ihave H := (Entails.of_eq (su_mat hs c f)) $$ H
  iapply (mat_load c) $$ H
  iintro H
  iapply (mat_store c (w := w)) $$ H
  iintro H
  iapply Hk
  iapply (Entails.of_eq (show mat _ c fullShare w = sA c (sK k) (sto w) from
    ((su_mat hs c (sto w)).trans (congrArg (mat _ c fullShare) (funext fun j => sto_at w k j))).symm)) $$ H

theorem piece_put (c : Dev nD) (p : Fin 4) {m : Memref sig .tc .vmem S3x1024x1024 .bf16} {o : Fin 3 → ℕ} {b}
    {l : m.view.LoadsAt (Rect.unit (s := S3x1024x1024) o S1x256x1024.size b).toLoadRect}
    {hx : (m.access (Rect.unit (s := S3x1024x1024) o S1x256x1024.size b)).Stores Finset.univ} {hmk}
    (hs : SPU p.val (m.access (Rect.unit (s := S3x1024x1024) o S1x256x1024.size b)))
    {w : FVec F S1x256x1024 .bf16} {α : Type} {Q : α → sProp 𝕄} {t : PUnit → Prog (TpuEff nD τ sig (Elt F) Λ₀ .tc) α} :
    iprop(∃ f, sA c (sP p.val) f) ⊢ iprop((sA c (sP p.val) (stoP w) -∗ WP c (t ⟨⟩) Q)
      -∗ WP c (.op (.load (e := .bf16) m (Rect.unit (s := S3x1024x1024) o S1x256x1024.size b).toLoadRect l) fun _ =>
          .op (.store m (Rect.unit (s := S3x1024x1024) o S1x256x1024.size b) w Finset.univ hx hmk) t) Q) := by
  iintro ⟨%f, H⟩ Hk
  ihave H := (Entails.of_eq (spu_mat hs c f)) $$ H
  iapply (mat_load c) $$ H
  iintro H
  iapply (mat_store c (w := w)) $$ H
  iintro H
  iapply Hk
  iapply (Entails.of_eq (show mat _ c fullShare w = sA c (sP p.val) (stoP w) from
    ((spu_mat hs c (stoP w)).trans (congrArg (mat _ c fullShare) (funext fun j => stoP_at w p.val p.isLt j))).symm)) $$ H

/-- A slot of the staging read. -/
theorem stage_get (c : Dev nD) (k : ℕ) {m : Memref sig .tc .vmem S3x1024x1024 .bf16} {o : Fin 3 → ℕ} {b}
    {l : m.view.LoadsAt (Rect.unit (s := S3x1024x1024) o S1x1024x1024.size b).toLoadRect}
    (hs : SU k (m.access (Rect.unit (s := S3x1024x1024) o S1x1024x1024.size b)))
    {w : Vec F S1x1024x1024 .bf16} {α : Type} {Q : α → sProp 𝕄} {t : FVec F S1x1024x1024 .bf16 → Prog (TpuEff nD τ sig (Elt F) Λ₀ .tc) α} :
    sA c (sK k) (sto w) ⊢ iprop(((∃ f, sA c (sK k) f) -∗ WP c (t w) Q)
      -∗ WP c (.op (.load (e := .bf16) m (Rect.unit (s := S3x1024x1024) o S1x1024x1024.size b).toLoadRect l) t) Q) := by
  have e : sA c (sK k) (sto w) = mat (m.access (Rect.unit (s := S3x1024x1024) o S1x1024x1024.size b)) c fullShare w :=
    (su_mat hs c (sto w)).trans (congrArg (mat _ c fullShare) (funext fun j => sto_at w k j))
  iintro H Hk
  ihave H := (Entails.of_eq e) $$ H
  iapply (mat_load c) $$ H
  iintro H
  iapply Hk
  iexists sto w
  iapply (Entails.of_eq e.symm) $$ H

/-! ## Copying out -/

theorem bk_ne (c : Dev nD) (j j' : Fin 4) (h : j ≠ j') : (bk true j.val c).val ≠ (bk true j'.val c).val := fun e => h (bk_inj true c j j' (Fin.ext e))

theorem outC_chunk (c : Dev nD) (j : Fin 4) (hj : j.val ≠ 2) (a b : ℕ) (ha : a < 1024) (hb : b < 1024) :
    outC I c (at_ S4096x1024 ![1024 * (bk true j.val c).val + a, b]) = vChunk I j.val c (at_ S1x1024x1024 ![0, a, b]) := by
  have hq := (bk true j.val c).isLt
  have hq' : (bk true j.val c).val < 4 := hq
  unfold outC
  rw [at2_0 (show 1024 * (bk true j.val c).val + a < 4096 by omega), at2_1 hb,
    show (1024 * (bk true j.val c).val + a) / 1024 = (bk true j.val c).val by omega, show (1024 * (bk true j.val c).val + a) % 1024 = a by omega,
    if_neg (show ¬ (bk true j.val c).val = (bk true 2 c).val from bk_ne c j 2 fun h => hj (congrArg Fin.val h))]
  have n1 : ¬ (bk true 1 c).val = c.val := bk_ne c 1 0 (by decide)
  have n3 : ¬ (bk true 3 c).val = c.val := bk_ne c 3 0 (by decide)
  have n31 : ¬ (bk true 3 c).val = (bk true 1 c).val := bk_ne c 3 1 (by decide)
  have hc : j = 0 ∨ j = 1 ∨ j = 3 := (by decide : ∀ j : Fin 4, j.val ≠ 2 → j = 0 ∨ j = 1 ∨ j = 3) j hj
  rcases hc with rfl | rfl | rfl
  · exact congrArg (fun n => vChunk I n c (at_ S1x1024x1024 ![0, a, b])) (if_pos rfl)
  · exact congrArg (fun n => vChunk I n c (at_ S1x1024x1024 ![0, a, b])) ((if_neg n1).trans (if_pos rfl))
  · exact congrArg (fun n => vChunk I n c (at_ S1x1024x1024 ![0, a, b])) ((if_neg n3).trans (if_neg n31))

theorem outC_piece (c : Dev nD) (p : Fin 4) (a b : ℕ) (ha : a < 256) (hb : b < 1024) :
    outC I c (at_ S4096x1024 ![1024 * (bk true 2 c).val + 256 * p.val + a, b]) = vOpp I c p.val (at_ S1x256x1024 ![0, a, b]) := by
  have hq : (bk true 2 c).val < 4 := (bk true 2 c).isLt
  have hp := p.isLt
  unfold outC
  rw [at2_0 (show 1024 * (bk true 2 c).val + 256 * p.val + a < 4096 by omega), at2_1 hb,
    if_pos (show (1024 * (bk true 2 c).val + 256 * p.val + a) / 1024 = (bk true 2 c).val by omega),
    show (1024 * (bk true 2 c).val + 256 * p.val + a) / 256 % 4 = p.val by omega, show (1024 * (bk true 2 c).val + 256 * p.val + a) % 256 = a by omega]

theorem st_start (c : Dev nD) (i : Fin 7) (j : Fin 4) (hi : i.val < 3) (hj : j.val ≠ 2) (hd : stDst i.val c = oC (bk true j.val c).val)
    {src : Memref sig .tc .vmem S1024x1024 .bf16} {dst : Memref sig .tc .hbm S1024x1024 .bf16}
    {sm : SemLoc sig} (hs : sm = csem (stK i)) {hsrc : src.view.WordExact} {hdst : dst.view.WordExact}
    {hsem : DmaTarget.Typed (nD := nD) (τ := τ) (p := (c : Thread nD τ).2) .vmem sm (.here dst)}
    (hv : SQ i.val src.view) (ho : OC (bk true j.val c).val dst.view)
    {α : Type} {Q : α → sProp 𝕄} {t : PUnit → Prog (TpuEff nD τ sig (Elt F) Λ₀ .tc) α} :
    recs I K ⊢ iprop(sA c (sK i.val) (sto (vChunk I j.val c)) -∗ (∃ f, oA c (oC (bk true j.val c).val) f) -∗ tok c (stK i)
      -∗ (flying c (stK i) (amt (stK i)) -∗ WP c (t ⟨⟩) Q) -∗ WP c (.op (.enqueueDma src (.here dst) sm hsrc hdst hsem) t) Q) := by
  have hN : dst.view.amount sm = amt (stK i) := by
    subst hs
    have := (by decide : ∀ i : Fin 7, i.val < 3 → i = 0 ∨ i = 1 ∨ i = 2) i hi
    rcases this with rfl | rfl | rfl <;> rfl
  iintro #HR Hx ⟨%g, Hg⟩ Ht Hk
  ihave Hx := (Entails.of_eq (sq_mat hv c _)) $$ Hx
  ihave Hg := (Entails.of_eq (oc_mat ho c g)) $$ Hg
  have hp : iprop(mat dst.view c fullShare (fun z : S1024x1024.Idx => sto (vChunk I j.val c) (at_ S3x1024x1024 ![i.val, (z 0).val, (z 1).val]))
      ∗ mat src.view c fullShare (fun z : S1024x1024.Idx => sto (vChunk I j.val c) (at_ S3x1024x1024 ![i.val, (z 0).val, (z 1).val])))
      ⊢ pay I (stK i) c false := by
    have e : (fun z : S1024x1024.Idx => sto (vChunk I j.val c) (at_ S3x1024x1024 ![i.val, (z 0).val, (z 1).val]))
        = (fun z : S1024x1024.Idx => outC I c (at_ S4096x1024 ![1024 * (bk true j.val c).val + (z 0).val, 0 + (z 1).val])) := funext fun z => by
      rw [Nat.zero_add, outC_chunk I c j hj _ _ (lt0 z) (lt1 z)]
      unfold sto
      rw [at3_1 (lt0 z), at3_2 (lt1 z)]
    rw [← sq_mat hv c, e, ← oc_mat ho c (outC I c)]
    show _ ⊢ stPay I i.val c
    unfold stPay
    rw [hd, show stSrc i.val = sK i.val from if_pos hi]
    iintro ⟨H1, H2⟩
    isplitl [H2]
    · iexists _; iexact H2
    iexact H1
  iapply (mat_copy I K c (.inr (.inl i)) hs hN hp) $$ [Hx Hg Ht]
  · isplitr; · iexact HR
    isplitl [Hx]; · iexact Hx
    isplitl [Hg]; · iexact Hg
    iexact Ht
  iexact Hk

theorem st_start_piece (c : Dev nD) (p : Fin 4) (i : Fin 7) (hi : i.val = 3 + p.val)
    {src : Memref sig .tc .vmem S256x1024 .bf16} {dst : Memref sig .tc .hbm S256x1024 .bf16}
    {sm : SemLoc sig} (hs : sm = csem (stK i)) {hsrc : src.view.WordExact} {hdst : dst.view.WordExact}
    {hsem : DmaTarget.Typed (nD := nD) (τ := τ) (p := (c : Thread nD τ).2) .vmem sm (.here dst)}
    (hv : SPQ p.val src.view) (ho : OP (bk true 2 c).val p.val dst.view)
    {α : Type} {Q : α → sProp 𝕄} {t : PUnit → Prog (TpuEff nD τ sig (Elt F) Λ₀ .tc) α} :
    recs I K ⊢ iprop(sA c (sP p.val) (stoP (vOpp I c p.val)) -∗ (∃ f, oA c (oS (bk true 2 c).val p.val) f) -∗ tok c (stK i)
      -∗ (flying c (stK i) (amt (stK i)) -∗ WP c (t ⟨⟩) Q) -∗ WP c (.op (.enqueueDma src (.here dst) sm hsrc hdst hsem) t) Q) := by
  have hN : dst.view.amount sm = amt (stK i) := by
    subst hs
    have := (by decide : ∀ (i : Fin 7) (p : Fin 4), i.val = 3 + p.val → i = 3 ∨ i = 4 ∨ i = 5 ∨ i = 6) i p hi
    rcases this with rfl | rfl | rfl | rfl <;> rfl
  have hp4 := p.isLt
  iintro #HR Hx ⟨%g, Hg⟩ Ht Hk
  ihave Hx := (Entails.of_eq (spq_mat hv c _)) $$ Hx
  ihave Hg := (Entails.of_eq (op_mat ho hp4 c g)) $$ Hg
  have hp : iprop(mat dst.view c fullShare (fun z : S256x1024.Idx => stoP (vOpp I c p.val) (at_ S3x1024x1024 ![2, 256 * p.val + (z 0).val, (z 1).val]))
      ∗ mat src.view c fullShare (fun z : S256x1024.Idx => stoP (vOpp I c p.val) (at_ S3x1024x1024 ![2, 256 * p.val + (z 0).val, (z 1).val])))
      ⊢ pay I (stK i) c false := by
    have e : (fun z : S256x1024.Idx => stoP (vOpp I c p.val) (at_ S3x1024x1024 ![2, 256 * p.val + (z 0).val, (z 1).val]))
        = (fun z : S256x1024.Idx => outC I c (at_ S4096x1024 ![1024 * (bk true 2 c).val + 256 * p.val + (z 0).val, 0 + (z 1).val])) := funext fun z => by
      have hz := lt0 z
      rw [Nat.zero_add, outC_piece I c p _ _ (lt0 z) (lt1 z)]
      unfold stoP
      rw [at3_1 (show 256 * p.val + (z 0).val < 1024 by omega), at3_2 (lt1 z), show (256 * p.val + (z 0).val) % 256 = (z 0).val by omega]
    rw [← spq_mat hv c, e, ← op_mat ho hp4 c (outC I c)]
    show _ ⊢ stPay I i.val c
    unfold stPay
    rw [show stDst i.val c = oS (bk true 2 c).val p.val from by unfold stDst; rw [hi, if_neg (by omega), if_neg (by omega), if_neg (by omega), Nat.add_sub_cancel_left],
      show stSrc i.val = sP p.val from by unfold stSrc; rw [hi, if_neg (by omega), Nat.add_sub_cancel_left]]
    iintro ⟨H1, H2⟩
    isplitl [H2]
    · iexists _; iexact H2
    iexact H1
  iapply (mat_copy I K c (.inr (.inl i)) hs hN hp) $$ [Hx Hg Ht]
  · isplitr; · iexact HR
    isplitl [Hx]; · iexact Hx
    isplitl [Hg]; · iexact Hg
    iexact Ht
  iexact Hk

theorem st_wait (c : Dev nD) (i : Fin 7) {sp sp' : Space} {s : Shape} {e : EltTy} {src : Memref sig .tc sp s e} {dst : Memref sig .tc sp' s e}
    {sm : DmaSem sig} (hs : SemLoc.dma sm = csem (stK i)) {hsrc : src.view.WordExact} {hdst : dst.view.WordExact} (hN : dst.view.dmaCredit = amt (stK i)) (j j' : ℕ)
    {α : Type} {Q : α → sProp 𝕄} {t : PUnit → Prog (TpuEff nD τ sig (Elt F) Λ₀ .tc) α} :
    recs I K ⊢ iprop(flying c (stK i) (amt (stK i)) -∗ ow c j j' -∗ ((∃ f, sA c (stSrc i.val) f) -∗ oA c (stDst i.val c) (outC I c) -∗ semVal (stCell c i) 0 -∗ ow c j j' -∗ WP c (t ⟨⟩) Q)
      -∗ WP c (.op (.waitDma2 sm src dst hsrc hdst) t) Q) := by
  iintro #HR Hf HO Hk
  iapply (wait_core I K c (.inr (.inl i)) hs hN j j' (show 0 < 2 + j / 4 by omega) (show 0 < 2 + j' / 4 by omega)) $$ [Hf HO]
  · isplitr; · iexact HR
    isplitl [Hf]; · iexact Hf
    iexact HO
  iintro ⟨Hp, HO, Hz⟩
  ihave Hp := (Entails.of_eq (show pay I (stK i) c false = iprop((∃ f, sA c (stSrc i.val) f) ∗ oA c (stDst i.val c) (outC I c)) from rfl)) $$ Hp
  icases Hp with ⟨Hg, Hx⟩
  iapply Hk $$ Hg Hx Hz HO

/-! ## Reading what the chains keep -/

omit [FloatOps F] in
theorem of_four {A : Fin 4 → sProp 𝕄} : bigSep Finset.univ A = iprop(A 0 ∗ A 1 ∗ A 2 ∗ A 3) := by
  rw [bigSep_univ_eq_bigSepL [0, 1, 2, 3] (by decide) (by decide), bigSepL_cons_cons, bigSepL_cons_cons, bigSepL_cons_cons, bigSepL_singleton]
  rfl

/-- What is left of a chain while its message `k ≥ 3` is under way, the kept half taken out. -/
def cBr (d : Bool) (p : Fin 4) (c : Dev nD) (k : Fin 6) : sProp 𝕄 := cB d p c k (kp I d p c k.val)

theorem cB_take (d : Bool) (p : Fin 4) (c : Dev nD) (k : Fin 6) :
    cB d p c k (mG I d p c k.val) ⊣⊢ iprop(halfOf I d p c k.val ∗ cBr I d p c k) := by
  unfold cBr cB mG
  constructor
  · iintro ⟨H1, H2, H3, H4, H5, H6⟩
    isplitl [H5]; · iexact H5
    isplitl [H1]; · iexact H1
    isplitl [H2]; · iexact H2
    isplitl [H3]; · iexact H3
    isplitl [H4]; · iexact H4
    iexact H6
  · iintro ⟨H5, H1, H2, H3, H4, H6⟩
    isplitl [H1]; · iexact H1
    isplitl [H2]; · iexact H2
    isplitl [H3]; · iexact H3
    isplitl [H4]; · iexact H4
    isplitl [H5]; · iexact H5
    iexact H6

theorem slot_join (d : Bool) (c : Dev nD) :
    iprop(halfOf I d 0 c 3 ∗ halfOf I d 1 c 3 ∗ halfOf I d 2 c 3 ∗ halfOf I d 3 c 3) = rA d c (rK 2) fullShare.right (postB I d c) := by
  have hd : ∀ b ∈ (Finset.univ : Finset (Fin 4)), ∀ b' ∈ (Finset.univ : Finset (Fin 4)), b ≠ b' → Disjoint (rS 2 b.val) (rS 2 b'.val) :=
    fun b _ b' _ h => rS_disjoint fun h' => h (Fin.ext (Prod.ext_iff.mp h').2)
  rw [← rK_pieces 2, rA_biUnion _ (fun b : Fin 4 => rS 2 b.val) hd, of_four]
  rfl

theorem cols_join (d : Bool) (c : Dev nD) (k : ℕ) (hk : k = 4 ∨ k = 5) :
    iprop(halfOf I d 0 c k ∗ halfOf I d 1 c k ∗ halfOf I d 2 c k ∗ halfOf I d 3 c k) = hA c (hC d (bk d k c).val) fullShare.right (hT I) := by
  have hd : ∀ b ∈ (Finset.univ : Finset (Fin 4)), ∀ b' ∈ (Finset.univ : Finset (Fin 4)), b ≠ b' → Disjoint (hS d (bk d k c).val b.val) (hS d (bk d k c).val b'.val) :=
    fun b _ b' _ h => hS_disjoint b.isLt b'.isLt fun h' => h (Fin.ext (Prod.ext_iff.mp (Prod.ext_iff.mp h').2).2)
  rw [← hC_pieces d, hA_biUnion _ (fun b : Fin 4 => hS d (bk d k c).val b.val) hd, of_four]
  rcases hk with rfl | rfl <;> rfl

/-- Taking the halves of four chains, and giving them back. -/
theorem take_four (d : Bool) (c : Dev nD) (k : Fin 6) {H : sProp 𝕄}
    (e : iprop(halfOf I d 0 c k.val ∗ halfOf I d 1 c k.val ∗ halfOf I d 2 c k.val ∗ halfOf I d 3 c k.val) = H) :
    iprop(cB d 0 c k (mG I d 0 c k.val) ∗ cB d 1 c k (mG I d 1 c k.val) ∗ cB d 2 c k (mG I d 2 c k.val) ∗ cB d 3 c k (mG I d 3 c k.val))
      ⊣⊢ iprop(H ∗ cBr I d 0 c k ∗ cBr I d 1 c k ∗ cBr I d 2 c k ∗ cBr I d 3 c k) := by
  subst e
  constructor
  · iintro ⟨H0, H1, H2, H3⟩
    ihave H0 := (cB_take I d 0 c k).1 $$ H0
    ihave H1 := (cB_take I d 1 c k).1 $$ H1
    ihave H2 := (cB_take I d 2 c k).1 $$ H2
    ihave H3 := (cB_take I d 3 c k).1 $$ H3
    icases H0 with ⟨A0, B0⟩
    icases H1 with ⟨A1, B1⟩
    icases H2 with ⟨A2, B2⟩
    icases H3 with ⟨A3, B3⟩
    isplitl [A0 A1 A2 A3]
    · isplitl [A0]; · iexact A0
      isplitl [A1]; · iexact A1
      isplitl [A2]; · iexact A2
      iexact A3
    isplitl [B0]; · iexact B0
    isplitl [B1]; · iexact B1
    isplitl [B2]; · iexact B2
    iexact B3
  · iintro ⟨⟨A0, A1, A2, A3⟩, B0, B1, B2, B3⟩
    isplitl [A0 B0]
    · iapply (cB_take I d 0 c k).2
      isplitl [A0]; · iexact A0
      iexact B0
    isplitl [A1 B1]
    · iapply (cB_take I d 1 c k).2
      isplitl [A1]; · iexact A1
      iexact B1
    isplitl [A2 B2]
    · iapply (cB_take I d 2 c k).2
      isplitl [A2]; · iexact A2
      iexact B2
    iapply (cB_take I d 3 c k).2
    isplitl [A3]; · iexact A3
    iexact B3

/-- The last slot read, its sums on the way. -/
theorem slot_get (c : Dev nD) (d : Bool) {m : Memref sig .tc .vmem S3x1024x512 .bf16} {o : Fin 3 → ℕ} {b}
    {l : m.view.LoadsAt (Rect.unit (s := S3x1024x512) o S1x1024x512.size b).toLoadRect}
    (hs : RK d 2 (m.access (Rect.unit (s := S3x1024x512) o S1x1024x512.size b)))
    {α : Type} {Q : α → sProp 𝕄} {t : FVec F S1x1024x512 .bf16 → Prog (TpuEff nD τ sig (Elt F) Λ₀ .tc) α} :
    cB d 0 c 3 (mG I d 0 c (3 : Fin 6).val) ⊢ iprop(cB d 1 c 3 (mG I d 1 c (3 : Fin 6).val) -∗ cB d 2 c 3 (mG I d 2 c (3 : Fin 6).val) -∗ cB d 3 c 3 (mG I d 3 c (3 : Fin 6).val)
      -∗ (cB d 0 c 3 (mG I d 0 c (3 : Fin 6).val) -∗ cB d 1 c 3 (mG I d 1 c (3 : Fin 6).val) -∗ cB d 2 c 3 (mG I d 2 c (3 : Fin 6).val) -∗ cB d 3 c 3 (mG I d 3 c (3 : Fin 6).val) -∗ WP c (t (rsl I d c)) Q)
      -∗ WP c (.op (.load (e := .bf16) m (Rect.unit (s := S3x1024x512) o S1x1024x512.size b).toLoadRect l) t) Q) := by
  have e : rA d c (rK 2) fullShare.right (postB I d c) = mat (m.access (Rect.unit (s := S3x1024x512) o S1x1024x512.size b)) c fullShare.right (rsl I d c) :=
    rk_mat hs c _ _
  have h4 := take_four I d c 3 ((slot_join I d c).trans e)
  iintro H0 H1 H2 H3 Hk
  ihave H := h4.1 $$ [H0 H1 H2 H3]
  · isplitl [H0]; · iexact H0
    isplitl [H1]; · iexact H1
    isplitl [H2]; · iexact H2
    iexact H3
  icases H with ⟨H, HB⟩
  iapply (mat_load c) $$ H
  iintro H
  ihave H := h4.2 $$ [H HB]
  · isplitl [H]; · iexact H
    iexact HB
  icases H with ⟨H0, H1, H2, H3⟩
  iapply Hk $$ H0 H1 H2 H3

/-- A chunk's columns read, their pieces on the way. -/
theorem cols_get (c : Dev nD) (d : Bool) (k : Fin 6) (hk : k.val = 4 ∨ k.val = 5) {m : Memref sig .tc .vmem S4096x1024 .bf16} {o : Fin 2 → ℕ} {b}
    {l : m.view.LoadsAt (Rect.unit (s := S4096x1024) o S1024x512.size b).toLoadRect}
    (hs : HC d (bk d k.val c).val (m.access (Rect.unit (s := S4096x1024) o S1024x512.size b)))
    {α : Type} {Q : α → sProp 𝕄} {t : FVec F S1024x512 .bf16 → Prog (TpuEff nD τ sig (Elt F) Λ₀ .tc) α} :
    cB d 0 c k (mG I d 0 c k.val) ⊢ iprop(cB d 1 c k (mG I d 1 c k.val) -∗ cB d 2 c k (mG I d 2 c k.val) -∗ cB d 3 c k (mG I d 3 c k.val)
      -∗ (cB d 0 c k (mG I d 0 c k.val) -∗ cB d 1 c k (mG I d 1 c k.val) -∗ cB d 2 c k (mG I d 2 c k.val) -∗ cB d 3 c k (mG I d 3 c k.val)
          -∗ WP c (t (hcols I d (bk d k.val c).val)) Q)
      -∗ WP c (.op (.load (e := .bf16) m (Rect.unit (s := S4096x1024) o S1024x512.size b).toLoadRect l) t) Q) := by
  have e : hA c (hC d (bk d k.val c).val) fullShare.right (hT I)
      = mat (m.access (Rect.unit (s := S4096x1024) o S1024x512.size b)) c fullShare.right (hcols I d (bk d k.val c).val) :=
    hc_mat hs c _ _
  iintro H0 H1 H2 H3 Hk
  ihave H := ((take_four I d c k ((cols_join I d c k.val hk).trans e)).1) $$ [H0 H1 H2 H3]
  · isplitl [H0]; · iexact H0
    isplitl [H1]; · iexact H1
    isplitl [H2]; · iexact H2
    iexact H3
  icases H with ⟨H, HB⟩
  iapply (mat_load c) $$ H
  iintro H
  ihave H := ((take_four I d c k ((cols_join I d c k.val hk).trans e)).2) $$ [H HB]
  · isplitl [H]; · iexact H
    iexact HB
  icases H with ⟨H0, H1, H2, H3⟩
  iapply Hk $$ H0 H1 H2 H3

/-- A chain whose last message has come. -/
abbrev cE (d : Bool) (p : Fin 4) (c : Dev nD) : sProp 𝕄 := cA d p c 6 iprop(fin I d p c 6 fullShare ∗ rd I d p c 5 ∗ kp I d p c 6)

/-- A piece of the last chunk read. -/
theorem piece_get (c : Dev nD) (d : Bool) (p : Fin 4) {m : Memref sig .tc .vmem S4096x1024 .bf16} {o : Fin 2 → ℕ} {b}
    {l : m.view.LoadsAt (Rect.unit (s := S4096x1024) o S256x512.size b).toLoadRect}
    (hs : HP d (bk true 2 c).val p.val (m.access (Rect.unit (s := S4096x1024) o S256x512.size b)))
    {α : Type} {Q : α → sProp 𝕄} {t : FVec F S256x512 .bf16 → Prog (TpuEff nD τ sig (Elt F) Λ₀ .tc) α} :
    cE I d p c ⊢ iprop((cE I d p c -∗ WP c (t (hpc I d (bk true 2 c).val p.val)) Q)
      -∗ WP c (.op (.load (e := .bf16) m (Rect.unit (s := S4096x1024) o S256x512.size b).toLoadRect l) t) Q) := by
  have e6 : bk d 6 c = bk true 2 c := (by decide : ∀ (d : Bool) (c : Dev nD), bk d 6 c = bk true 2 c) d c
  have e : fin I d p c 6 fullShare = mat (m.access (Rect.unit (s := S4096x1024) o S256x512.size b)) c fullShare (hpc I d (bk true 2 c).val p.val) := by
    show hA c (hS d (bk d 6 c).val p.val) fullShare (hT I) = _
    rw [e6]
    exact h_mat hs p.isLt c _ _
  unfold cE cA
  rw [e]
  iintro ⟨H1, H2, H3, H, H4⟩ Hk
  iapply (mat_load c) $$ H
  iintro H
  iapply Hk
  isplitl [H1]; · iexact H1
  isplitl [H2]; · iexact H2
  isplitl [H3]; · iexact H3
  isplitl [H]; · iexact H
  iexact H4

end Cert.Mlp

end
-- ==== Proof.Hops.lean ====
/-
# A message's whole step

The wait for a message, the sum, and the next message's start, as one rule; on the way back, the two
directions' waits and starts.
-/
module

public import proofs.«01_k».proof.Proof.Stage

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ)

omit [FloatOps F] in
theorem chain_start (d : Bool) (p : Fin 4) (c : Dev nD) : (tks d p c 0 : sProp 𝕄) ⊢ iprop(dst d p c 0 -∗ cA d p c 0 iprop(emp)) := by
  unfold cA
  have e : (dns d p c 0 : sProp 𝕄) = iprop(emp) := bigSep_empty
  rw [e]
  iintro H H'
  isplitl [H]; · iexact H
  isplitr; · iempintro
  isplitl [H']; · iexact H'
  iempintro

theorem holds_right (p : Fin 4) (c : Dev nD) :
    cB true p c 0 iprop(emp) ⊢ iprop(own I true p.val c (bk true 1 c) -∗ own I true p.val c (bk true 2 c) -∗ own I true p.val c (bk true 3 c)
      -∗ cB true p c 0 (mR I true p c (0 : Fin 6).val)) := by
  iintro H H1 H2 H3
  iapply (chain_holds I true p c)
  isplitl [H]; · iexact H
  isplitl [H1]; · iexact H1
  isplitl [H2]; · iexact H2
  iexact H3

theorem holds_left (p : Fin 4) (c : Dev nD) :
    cB false p c 0 iprop(emp) ⊢ iprop(own I false p.val c (bk true 1 c) -∗ own I false p.val c (bk true 2 c) -∗ own I false p.val c (bk true 3 c)
      -∗ cB false p c 0 (mR I false p c (0 : Fin 6).val)) := by
  rw [bk_true_one, bk_true_two, bk_true_three]
  iintro H H1 H2 H3
  iapply (chain_holds I false p c)
  isplitl [H]; · iexact H
  isplitl [H3]; · iexact H3
  isplitl [H2]; · iexact H2
  iexact H1

section Hop
variable (c : Dev nD) (d : Bool) (k k' : Fin 6) (hk' : k'.val = k.val + 1) (p : Fin 4)
  {m₁ m₂ m₃ m₄ : Memref sig .tc .vmem S256x512 .bf16} {s₁ s₂ : DmaSem sig}
  (h₁ : SemLoc.dma s₁ = csem (sndK d k p)) (h₂ : SemLoc.dma s₂ = csem (rcvK d k p))
  {w₁ : m₁.view.WordExact} {w₂ : m₂.view.WordExact} {w₃ : m₃.view.WordExact} {w₄ : m₄.view.WordExact}
  (i j i' j' : ℕ) (hi : k.val < i / 4) (hj : k.val < j / 4) (hO : Adv d (4 * k'.val + p.val) i j i' j')
  {m : Memref sig .tc .vmem S3x1024x512 .bf16} {m' : Memref sig .tc .vmem S4096x1024 .bf16} {o₁ : Fin 3 → ℕ} {o₂ : Fin 2 → ℕ} {b₁ b₂}
  {l₁ : m.view.LoadsAt (Rect.unit (s := S3x1024x512) o₁ S1x256x512.size b₁).toLoadRect} {l₂ : m'.view.LoadsAt (Rect.unit (s := S4096x1024) o₂ S256x512.size b₂).toLoadRect}
  {l₃ : m.view.LoadsAt (Rect.unit (s := S3x1024x512) o₁ S1x256x512.size b₁).toLoadRect}
  {hx : (m.access (Rect.unit (s := S3x1024x512) o₁ S1x256x512.size b₁)).Stores Finset.univ} {hm}
  {pay : FVec F S1x256x512 .bf16 → FVec F S256x512 .bf16 → FVec F S1x256x512 .bf16} (hpay : ∀ v w, pay v w = k0_pay10 v w)
  (hr : RU d k.val p.val (m.access (Rect.unit (s := S3x1024x512) o₁ S1x256x512.size b₁)))
  (hh : HP d (bk d (k.val + 1) c).val p.val (m'.access (Rect.unit (s := S4096x1024) o₂ S256x512.size b₂)))
  {n : Dev nD} (hn : n = nx d c)
  {src : Memref sig .tc .vmem S256x512 .bf16} {dst' : Memref sig .tc .vmem S256x512 .bf16} {hsc : dst'.view.ref.isScScratch = false} {sS sR : SemLoc sig}
  {hsrc : src.view.WordExact} {hdst : dst'.view.WordExact} {hsem : DmaTarget.Typed .vmem sR (.remote (Dev.tc n : Thread nD τ) dst' sS hsc)}
  (hS : sS = csem (sndK d k' p)) (hR : sR = csem (rcvK d k' p)) (hs : RP d k.val p.val src.view)

include hk' h₁ h₂ hi hj hO hpay hr hh hn hS hR hs

/-- A message of the sums: waited for, added to, and sent on as the next of the sums. -/
theorem hop (hk : k.val < 2) (hd : RP d (k.val + 1) p.val dst'.view)
    {α : Type} {Q : α → sProp 𝕄} {t : PUnit → Prog (TpuEff nD τ sig (Elt F) Λ₀ .tc) α} :
    recs I K ⊢ iprop(cB d p c k (mR I d p c k.val) -∗ ow c i j -∗ (cB d p c k' (mR I d p c k'.val) -∗ ow c i' j' -∗ WP c (t ⟨⟩) Q)
      -∗ WP c (.op (.waitDma2 s₁ m₁ m₂ w₁ w₂) fun _ => .op (.waitDma2 s₂ m₃ m₄ w₃ w₄) fun _ =>
            .op (.load (e := .bf16) m (Rect.unit (s := S3x1024x512) o₁ S1x256x512.size b₁).toLoadRect l₁) fun (v : FVec F S1x256x512 .bf16) =>
            .op (.load (e := .bf16) m' (Rect.unit (s := S4096x1024) o₂ S256x512.size b₂).toLoadRect l₂) fun (w : FVec F S256x512 .bf16) =>
            .op (.load (e := .bf16) m (Rect.unit (s := S3x1024x512) o₁ S1x256x512.size b₁).toLoadRect l₃) fun _ =>
            .op (.store m (Rect.unit (s := S3x1024x512) o₁ S1x256x512.size b₁) (pay v w) Finset.univ hx hm) fun _ =>
            .op (.enqueueDma src (.remote (Dev.tc n : Thread nD τ) dst' sS hsc) sR hsrc hdst hsem) t) Q) := by
  rw [hk'] at hO
  iintro #HR Hc HO Hk
  iapply (round_add I K c d k (by omega) p h₁ h₂ i j hi hj hpay hr hh) $$ HR Hc HO
  iintro Hc HO
  iapply (next I K c d p hn i j i' j' k.val k' hk hk' hS hR hO hs hd) $$ HR Hc HO
  rw [hk']
  iexact Hk

/-- The last message of the sums: waited for, finished, and sent as the first of the finished ones. -/
theorem hop_done (hk : k.val = 2) (hd : HP d (bk d 3 c).val p.val dst'.view)
    {α : Type} {Q : α → sProp 𝕄} {t : PUnit → Prog (TpuEff nD τ sig (Elt F) Λ₀ .tc) α} :
    recs I K ⊢ iprop(cB d p c k (mR I d p c k.val) -∗ ow c i j -∗ (cB d p c k' (mG I d p c k'.val) -∗ ow c i' j' -∗ WP c (t ⟨⟩) Q)
      -∗ WP c (.op (.waitDma2 s₁ m₁ m₂ w₁ w₂) fun _ => .op (.waitDma2 s₂ m₃ m₄ w₃ w₄) fun _ =>
            .op (.load (e := .bf16) m (Rect.unit (s := S3x1024x512) o₁ S1x256x512.size b₁).toLoadRect l₁) fun (v : FVec F S1x256x512 .bf16) =>
            .op (.load (e := .bf16) m' (Rect.unit (s := S4096x1024) o₂ S256x512.size b₂).toLoadRect l₂) fun (w : FVec F S256x512 .bf16) =>
            .op (.load (e := .bf16) m (Rect.unit (s := S3x1024x512) o₁ S1x256x512.size b₁).toLoadRect l₃) fun _ =>
            .op (.store m (Rect.unit (s := S3x1024x512) o₁ S1x256x512.size b₁) (pay v w) Finset.univ hx hm) fun _ =>
            .op (.enqueueDma src (.remote (Dev.tc n : Thread nD τ) dst' sS hsc) sR hsrc hdst hsem) t) Q) := by
  obtain rfl : k = 2 := Fin.ext hk
  obtain rfl : k' = 3 := Fin.ext hk'
  iintro #HR Hc HO Hk
  iapply (round_add I K c d 2 (by decide) p h₁ h₂ i j hi hj hpay hr hh) $$ HR Hc HO
  iintro Hc HO
  ihave Hc := (Entails.of_eq (show cS I d p c (2 : Fin 6).val = cS I d p c 2 from rfl)) $$ Hc
  iapply (done I K c d p hn i j i' j' hS hR hO hs hd) $$ HR Hc HO
  iexact Hk

end Hop

theorem arrived (d : Bool) (p : Fin 4) (c : Dev nD) :
    cA d p c ((5 : Fin 6).val + 1) iprop(fin I d p c ((5 : Fin 6).val + 1) fullShare ∗ rd I d p c (5 : Fin 6).val ∗ kp I d p c ((5 : Fin 6).val + 1)) = cE I d p c := rfl

section Back
variable (c : Dev nD) (k : Fin 6) (p : Fin 4)
  {m₁ m₂ m₃ m₄ n₁ n₂ n₃ n₄ : Memref sig .tc .vmem S256x512 .bf16} {s₁ s₂ u₁ u₂ : DmaSem sig}
  (h₁ : SemLoc.dma s₁ = csem (sndK true k p)) (h₂ : SemLoc.dma s₂ = csem (rcvK true k p))
  (h₃ : SemLoc.dma u₁ = csem (sndK false k p)) (h₄ : SemLoc.dma u₂ = csem (rcvK false k p))
  {w₁ : m₁.view.WordExact} {w₂ : m₂.view.WordExact} {w₃ : m₃.view.WordExact} {w₄ : m₄.view.WordExact}
  {x₁ : n₁.view.WordExact} {x₂ : n₂.view.WordExact} {x₃ : n₃.view.WordExact} {x₄ : n₄.view.WordExact}

include h₁ h₂ h₃ h₄

/-- A piece of the finished sums in both directions: waited for, and sent on. -/
theorem pass (k' : Fin 6) (hk : k.val = 3 ∨ k.val = 4) (hk' : k'.val = k.val + 1) (i : ℕ) (hi : i = 4 * k'.val + p.val) {n n' : Dev nD} (hn : n = nx true c) (hn' : n' = nx false c)
    {src : Memref sig .tc .vmem S256x512 .bf16} {dst' : Memref sig .tc .vmem S256x512 .bf16} {hsc : dst'.view.ref.isScScratch = false} {sS sR : SemLoc sig}
    {hsrc : src.view.WordExact} {hdst : dst'.view.WordExact} {hsem : DmaTarget.Typed .vmem sR (.remote (Dev.tc n : Thread nD τ) dst' sS hsc)}
    {src₂ : Memref sig .tc .vmem S256x512 .bf16} {dst₂ : Memref sig .tc .vmem S256x512 .bf16} {hsc₂ : dst₂.view.ref.isScScratch = false} {tS tR : SemLoc sig}
    {hsrc₂ : src₂.view.WordExact} {hdst₂ : dst₂.view.WordExact} {hsem₂ : DmaTarget.Typed .vmem tR (.remote (Dev.tc n' : Thread nD τ) dst₂ tS hsc₂)}
    (hS : sS = csem (sndK true k' p)) (hR : sR = csem (rcvK true k' p)) (hS₂ : tS = csem (sndK false k' p)) (hR₂ : tR = csem (rcvK false k' p))
    (hs : HP true (bk true k'.val c).val p.val src.view) (hd : HP true (bk true k'.val c).val p.val dst'.view)
    (hs₂ : HP false (bk false k'.val c).val p.val src₂.view) (hd₂ : HP false (bk false k'.val c).val p.val dst₂.view)
    {α : Type} {Q : α → sProp 𝕄} {t : PUnit → Prog (TpuEff nD τ sig (Elt F) Λ₀ .tc) α} :
    recs I K ⊢ iprop(cB true p c k (mG I true p c k.val) -∗ cB false p c k (mG I false p c k.val) -∗ ow c i i
      -∗ (cB true p c k' (mG I true p c k'.val) -∗ cB false p c k' (mG I false p c k'.val) -∗ ow c (i + 1) (i + 1) -∗ WP c (t ⟨⟩) Q)
      -∗ WP c (.op (.waitDma2 s₁ m₁ m₂ w₁ w₂) fun _ => .op (.waitDma2 s₂ m₃ m₄ w₃ w₄) fun _ =>
            .op (.waitDma2 u₁ n₁ n₂ x₁ x₂) fun _ => .op (.waitDma2 u₂ n₃ n₄ x₃ x₄) fun _ =>
            .op (.enqueueDma src (.remote (Dev.tc n : Thread nD τ) dst' sS hsc) sR hsrc hdst hsem) fun _ =>
            .op (.enqueueDma src₂ (.remote (Dev.tc n' : Thread nD τ) dst₂ tS hsc₂) tR hsrc₂ hdst₂ hsem₂) t) Q) := by
  have hp := p.isLt
  have hq : k.val < i / 4 := by omega
  have e4 : k'.val = 4 ∨ k'.val = 5 := by omega
  have e1 : k'.val - 1 = k.val := by omega
  iintro #HR Hc Hc' HO Hk
  iapply (wait_on I K c true k (by omega) p h₁ h₂ i i hq hq) $$ HR Hc HO
  iintro Hc HO
  iapply (wait_on I K c false k (by omega) p h₃ h₄ i i hq hq) $$ HR Hc' HO
  iintro Hc' HO
  rw [← hk', ← e1]
  iapply (on I K c true p hn i i (i + 1) i k'.val k' e4 rfl hS hR ⟨hi, by rw [hi], rfl⟩ hs hd) $$ HR Hc HO
  iintro Hc HO
  iapply (on I K c false p hn' (i + 1) i (i + 1) (i + 1) k'.val k' e4 rfl hS₂ hR₂ ⟨hi, by rw [hi], rfl⟩ hs₂ hd₂) $$ HR Hc' HO
  iintro Hc' HO
  iapply Hk $$ Hc Hc' HO

/-- The last pieces of the finished sums in both directions, waited for. -/
theorem arrive (hk : k = 5) (i : ℕ) (hi : i = 24)
    {α : Type} {Q : α → sProp 𝕄} {t : PUnit → Prog (TpuEff nD τ sig (Elt F) Λ₀ .tc) α} :
    recs I K ⊢ iprop(cB true p c k (mG I true p c k.val) -∗ cB false p c k (mG I false p c k.val) -∗ ow c i i
      -∗ (cE I true p c -∗ cE I false p c -∗ ow c i i -∗ WP c (t ⟨⟩) Q)
      -∗ WP c (.op (.waitDma2 s₁ m₁ m₂ w₁ w₂) fun _ => .op (.waitDma2 s₂ m₃ m₄ w₃ w₄) fun _ =>
            .op (.waitDma2 u₁ n₁ n₂ x₁ x₂) fun _ => .op (.waitDma2 u₂ n₃ n₄ x₃ x₄) t) Q) := by
  subst hk
  subst hi
  iintro #HR Hc Hc' HO Hk
  iapply (wait_on I K c true 5 (by decide) p h₁ h₂ 24 24 (by decide) (by decide)) $$ HR Hc HO
  iintro Hc HO
  iapply (wait_on I K c false 5 (by decide) p h₃ h₄ 24 24 (by decide) (by decide)) $$ HR Hc' HO
  iintro Hc' HO
  ihave Hc := (Entails.of_eq (arrived I true p c)) $$ Hc
  ihave Hc' := (Entails.of_eq (arrived I false p c)) $$ Hc'
  iapply Hk $$ Hc Hc' HO

end Back

end Cert.Mlp

end
-- ==== Proof.Offsets.lean ====
/-
# Where the printed accesses lie

Each printed offset as the chunk it names, counted in steps behind the device, and each printed device
number as the neighbour it is.
-/
module

public import proofs.«01_k».proof.Proof.Ring

@[expose] public section

noncomputable section

namespace Cert.Mlp

open Cert.KernelIdeal Cert.KernelIdeal.Gen
open Idealize.ShloMosaic

/-- `n` as a word of the program. -/
abbrev w32 (n : ℕ) : BitVec 32 := BitVec.ofNat 32 n

theorem off1_eq : ∀ (c : Dev nD) (u : Fin 2), k0_off1 c (w32 (512 * u.val)) = ![1024 * (bk true 0 c).val + 512 * u.val, 0] := by decide +kernel
theorem off2_eq : ∀ (c : Dev nD) (u : Fin 2), k0_off2 c (w32 (512 * u.val)) = ![1024 * c.val + 512 * u.val, 0] := by decide +kernel
theorem off3_eq : ∀ (c : Dev nD) (p : Fin 4), k0_off3 c (w32 (256 * p.val)) = ![1024 * c.val + 256 * p.val, colo true] := by decide +kernel
theorem off4_eq : ∀ (c : Dev nD) (p : Fin 4), k0_off4 c (w32 (256 * p.val)) = ![1024 * c.val + 256 * p.val, colo false] := by decide +kernel
theorem off5_eq : ∀ (c : Dev nD) (u : Fin 2), k0_off5 c (w32 (512 * u.val)) = ![1024 * (bk true 1 c).val + 512 * u.val, 0] := by decide +kernel
theorem off6_one : ∀ (c : Dev nD) (u : Fin 2), k0_off6 c 1#32 (w32 (512 * u.val)) = ![1024 * (bk true 3 c).val + 512 * u.val, 0] := by decide +kernel
theorem off6_two : ∀ (c : Dev nD) (u : Fin 2), k0_off6 c 2#32 (w32 (512 * u.val)) = ![1024 * (bk true 2 c).val + 512 * u.val, 0] := by decide +kernel
theorem off7_eq : ∀ (c : Dev nD) (u : Fin 2), k0_off7 c (w32 (512 * u.val)) = ![1024 * (bk true 1 c).val + 512 * u.val, 0] := by decide +kernel
theorem off8_one : ∀ (c : Dev nD) (u : Fin 2), k0_off8 c 1#32 (w32 (512 * u.val)) = ![1024 * (bk true 3 c).val + 512 * u.val, 0] := by decide +kernel
theorem off8_two : ∀ (c : Dev nD) (u : Fin 2), k0_off8 c 2#32 (w32 (512 * u.val)) = ![1024 * (bk true 2 c).val + 512 * u.val, 0] := by decide +kernel
theorem off9_eq : ∀ (c : Dev nD) (s : Fin 3) (p : Fin 4), k0_off9 c (w32 s.val) (w32 (256 * p.val)) = ![1024 * (bk true (s.val + 1) c).val + 256 * p.val, colo true] := by decide +kernel
theorem off10_eq : ∀ (c : Dev nD) (s : Fin 3) (p : Fin 4), k0_off10 c (w32 s.val) (w32 (256 * p.val)) = ![1024 * (bk false (s.val + 1) c).val + 256 * p.val, colo false] := by decide +kernel
theorem off11_eq : ∀ (c : Dev nD) (p : Fin 4), k0_off11 c (w32 (256 * p.val)) = ![1024 * (bk true 3 c).val + 256 * p.val, colo true] := by decide +kernel
theorem off12_eq : ∀ (c : Dev nD) (p : Fin 4), k0_off12 c (w32 (256 * p.val)) = ![1024 * (bk false 3 c).val + 256 * p.val, colo false] := by decide +kernel
theorem off15_eq : ∀ c : Dev nD, k0_off15 c = ![1024 * (bk true 4 c).val, colo true] := by decide +kernel
theorem off16_eq : ∀ c : Dev nD, k0_off16 c = ![1024 * (bk false 4 c).val, colo false] := by decide +kernel
theorem off3_four : ∀ (c : Dev nD) (p : Fin 4), k0_off3 c (w32 (256 * p.val)) = ![1024 * (bk true 4 c).val + 256 * p.val, colo true] := by decide +kernel
theorem off4_four : ∀ (c : Dev nD) (p : Fin 4), k0_off4 c (w32 (256 * p.val)) = ![1024 * (bk false 4 c).val + 256 * p.val, colo false] := by decide +kernel
theorem off13_eq : ∀ (c : Dev nD) (p : Fin 4), k0_off13 c (w32 (256 * p.val)) = ![1024 * (bk true 4 c).val + 256 * p.val, colo true] := by decide +kernel
theorem off14_eq : ∀ (c : Dev nD) (p : Fin 4), k0_off14 c (w32 (256 * p.val)) = ![1024 * (bk false 4 c).val + 256 * p.val, colo false] := by decide +kernel
theorem off17_eq : ∀ c : Dev nD, k0_off17 c = ![1024 * (bk true 0 c).val, 0] := by decide +kernel
theorem off18_eq : ∀ (c : Dev nD) (p : Fin 4), k0_off18 c (w32 (256 * p.val)) = ![1024 * (bk true 5 c).val + 256 * p.val, colo true] := by decide +kernel
theorem off19_eq : ∀ (c : Dev nD) (p : Fin 4), k0_off19 c (w32 (256 * p.val)) = ![1024 * (bk false 5 c).val + 256 * p.val, colo false] := by decide +kernel
theorem off20_eq : ∀ c : Dev nD, k0_off20 c = ![1024 * (bk true 5 c).val, colo true] := by decide +kernel
theorem off21_eq : ∀ c : Dev nD, k0_off21 c = ![1024 * (bk true 1 c).val, 0] := by decide +kernel
theorem off22_eq : ∀ c : Dev nD, k0_off22 c = ![1024 * (bk false 5 c).val, colo false] := by decide +kernel
theorem off23_eq : ∀ c : Dev nD, k0_off23 c = ![1024 * (bk true 3 c).val, 0] := by decide +kernel
theorem off24_eq : ∀ (c : Dev nD) (p : Fin 4), k0_off24 c (w32 (256 * p.val)) = ![1024 * (bk true 2 c).val + 256 * p.val, colo true] := by decide +kernel
theorem off25_eq : ∀ (c : Dev nD) (p : Fin 4), k0_off25 c (w32 (256 * p.val)) = ![1024 * (bk true 2 c).val + 256 * p.val, colo false] := by decide +kernel
theorem off26_eq : ∀ (c : Dev nD) (p : Fin 4), k0_off26 c (w32 (256 * p.val)) = ![1024 * (bk true 2 c).val + 256 * p.val, 0] := by decide +kernel

/-! ## The neighbours -/

theorem dev_left : ∀ c : Dev nD, (⟨k0_dev1 c, k0_dev1_lt c⟩ : Dev nD) = nx false c := by decide +kernel
theorem dev_right : ∀ c : Dev nD, (⟨k0_dev2 c, k0_dev2_lt c⟩ : Dev nD) = nx true c := by decide +kernel

/-- The devices the messages to direction `d` are sent to, in their order. -/
def sendDev (d : Bool) (c : Dev nD) : Fin 24 → ℕ := match d with
  | true => ![k0_dev3 c, k0_dev4 c, k0_dev7 c, k0_dev8 c, k0_dev11 c, k0_dev13 c, k0_dev15 c, k0_dev17 c, k0_dev19 c, k0_dev21 c, k0_dev23 c, k0_dev25 c, k0_dev27 c, k0_dev29 c, k0_dev31 c, k0_dev33 c, k0_dev35 c, k0_dev37 c, k0_dev39 c, k0_dev41 c, k0_dev43 c, k0_dev45 c, k0_dev47 c, k0_dev49 c]
  | false => ![k0_dev5 c, k0_dev6 c, k0_dev9 c, k0_dev10 c, k0_dev12 c, k0_dev14 c, k0_dev16 c, k0_dev18 c, k0_dev20 c, k0_dev22 c, k0_dev24 c, k0_dev26 c, k0_dev28 c, k0_dev30 c, k0_dev32 c, k0_dev34 c, k0_dev36 c, k0_dev38 c, k0_dev40 c, k0_dev42 c, k0_dev44 c, k0_dev46 c, k0_dev48 c, k0_dev50 c]

theorem sendDev_eq : ∀ (d : Bool) (c : Dev nD) (i : Fin 24), sendDev d c i = (nx d c).val := by decide +kernel

theorem to_nx (d : Bool) (c : Dev nD) (i : Fin 24) {n : ℕ} (h : n < nD) (e : n = sendDev d c i := by rfl) : (⟨n, h⟩ : Dev nD) = nx d c :=
  Fin.ext (e.trans (sendDev_eq d c i))

end Cert.Mlp

end
-- ==== Proof.Walk.lean ====
/-
# A device's run

The program followed operation by operation on a symbolic device: the barrier, the eight loads and half products, three
rounds of summing, two rounds of passing on, the products with the second weights, and the stores. Each line is one of
the rules of the earlier modules at that operation's numbers; what a device holds before and after is `barIn`, `famIn`
and `famOut`.
-/
module

public import proofs.«01_k».proof.Proof.Hops
public import proofs.«01_k».proof.Proof.Offsets

@[expose] public section

set_option maxRecDepth 16000

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ)

omit [FloatOps F] in
/-- A family over 8 is its 8 members. -/
theorem fam8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [(0 : Fin 8), 1, 2, 3, 4, 5, 6, 7] (by decide) (by decide)]
  simp only [bigSepL_cons_cons, bigSepL_singleton]; rfl

omit [FloatOps F] in
theorem take8 (Φ : Fin 8 → sProp 𝕄) : bigSep Finset.univ Φ ⊢ iprop(Φ 0 ∗ Φ 1 ∗ Φ 2 ∗ Φ 3 ∗ Φ 4 ∗ Φ 5 ∗ Φ 6 ∗ Φ 7) := Entails.of_eq (fam8 Φ)

omit [FloatOps F] in
theorem put8 (Φ : Fin 8 → sProp 𝕄) : Φ 0 ⊢ iprop(Φ 1 -∗ Φ 2 -∗ Φ 3 -∗ Φ 4 -∗ Φ 5 -∗ Φ 6 -∗ Φ 7 -∗ bigSep Finset.univ Φ) := by
  rw [fam8]
  iintro H0 H1 H2 H3 H4 H5 H6 H7
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

omit [FloatOps F] in
/-- A family over 7 is its 7 members. -/
theorem fam7 (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [(0 : Fin 7), 1, 2, 3, 4, 5, 6] (by decide) (by decide)]
  simp only [bigSepL_cons_cons, bigSepL_singleton]; rfl

omit [FloatOps F] in
theorem take7 (Φ : Fin 7 → sProp 𝕄) : bigSep Finset.univ Φ ⊢ iprop(Φ 0 ∗ Φ 1 ∗ Φ 2 ∗ Φ 3 ∗ Φ 4 ∗ Φ 5 ∗ Φ 6) := Entails.of_eq (fam7 Φ)

omit [FloatOps F] in
theorem put7 (Φ : Fin 7 → sProp 𝕄) : Φ 0 ⊢ iprop(Φ 1 -∗ Φ 2 -∗ Φ 3 -∗ Φ 4 -∗ Φ 5 -∗ Φ 6 -∗ bigSep Finset.univ Φ) := by
  rw [fam7]
  iintro H0 H1 H2 H3 H4 H5 H6
  isplitl [H0]; · iexact H0
  isplitl [H1]; · iexact H1
  isplitl [H2]; · iexact H2
  isplitl [H3]; · iexact H3
  isplitl [H4]; · iexact H4
  isplitl [H5]; · iexact H5
  iexact H6

omit [FloatOps F] in
/-- A family over 4 is its 4 members. -/
theorem fam4 (Φ : Fin 4 → sProp 𝕄) : bigSep Finset.univ Φ = iprop(Φ 0 ∗ Φ 1 ∗ Φ 2 ∗ Φ 3) := by
  rw [bigSep_univ_eq_bigSepL [(0 : Fin 4), 1, 2, 3] (by decide) (by decide)]
  simp only [bigSepL_cons_cons, bigSepL_singleton]; rfl

omit [FloatOps F] in
theorem take4 (Φ : Fin 4 → sProp 𝕄) : bigSep Finset.univ Φ ⊢ iprop(Φ 0 ∗ Φ 1 ∗ Φ 2 ∗ Φ 3) := Entails.of_eq (fam4 Φ)

omit [FloatOps F] in
theorem put4 (Φ : Fin 4 → sProp 𝕄) : Φ 0 ⊢ iprop(Φ 1 -∗ Φ 2 -∗ Φ 3 -∗ bigSep Finset.univ Φ) := by
  rw [fam4]
  iintro H0 H1 H2 H3
  isplitl [H0]; · iexact H0
  isplitl [H1]; · iexact H1
  isplitl [H2]; · iexact H2
  iexact H3

omit [FloatOps F] in
theorem both (P R : sProp 𝕄) : P ⊢ iprop(R -∗ P ∗ R) := by
  iintro H H'
  isplitl [H]; · iexact H
  iexact H'

/-- One half of a block of the input and the load that brings it in. -/
abbrev ldOne (c : Dev nD) (i : Fin 8) : sProp 𝕄 := iprop(xAt I i.val c ∗ tok c (ldK i))
/-- The two halves of chunk `q` of the products' buffer. -/
abbrev hOne (c q : Dev nD) : sProp 𝕄 :=
  iprop((∃ f, hA c (hH q.val 0) fullShare f) ∗ (∃ f, hA c (hH q.val 1) fullShare f))
/-- The chains of one pipeline piece, to the right and to the left. -/
abbrev chOne (c : Dev nD) (p : Fin 4) : sProp 𝕄 := iprop(tks true p c 0 ∗ tks false p c 0)
/-- One store's token, one slot of the staging, one chunk of the output. -/
abbrev stOne (c : Dev nD) (i : Fin 7) : sProp 𝕄 := tok c (stK i)
abbrev slOne (c : Dev nD) (k : Fin 7) : sProp 𝕄 := iprop(∃ f, sA c (sK k.val) f)
abbrev ouOne (c : Dev nD) (j : Fin 4) : sProp 𝕄 := iprop(∃ f, oA c (oC (bk true j.val c).val) f)

/-- A device's hands at the start: the barrier, -/
def barIn (c : Dev nD) : sProp 𝕄 :=
  iprop(dutyTok ER (barCell (nx false c)) 0 true ∗ dutyTok ER (barCell (nx true c)) 0 false ∗ cred (tallyAt (barCell c) () 2) ∗ atPos ER (barCell c) 0 ∅ 0
    ∗ (∃ f, rA true c Finset.univ fullShare f) ∗ (∃ f, rA false c Finset.univ fullShare f))
/-- and all that the run works on. -/
def famIn (c : Dev nD) : sProp 𝕄 :=
  iprop(bigSep Finset.univ (ldOne I c) ∗ hOne c c ∗ hOne c (bk true 1 c) ∗ hOne c (bk true 2 c) ∗ hOne c (bk true 3 c)
    ∗ bigSep Finset.univ (chOne (F := F) c) ∗ bigSep Finset.univ (stOne (F := F) c) ∗ slOne c 0 ∗ slOne c 1 ∗ slOne c 2 ∗ bigSep Finset.univ (ouOne (F := F) c))

/-- One chunk of the output written out, with its store's semaphore. -/
abbrev stE (c : Dev nD) (i : Fin 7) : sProp 𝕄 := iprop(oA c (stDst i.val c) (outC I c) ∗ semVal (stCell c i) 0)
/-- The two chains of a pipeline piece, ended. -/
abbrev chE (c : Dev nD) (p : Fin 4) : sProp 𝕄 := iprop(cE I true p c ∗ cE I false p c)
/-- One piece of the staging's last slot. -/
abbrev spOne (c : Dev nD) (p : Fin 4) : sProp 𝕄 := iprop(∃ f, sA c (sP p.val) f)
abbrev opOne (c : Dev nD) (p : Fin 4) : sProp 𝕄 := iprop(∃ f, oA c (oS (bk true 2 c).val p.val) f)
abbrev ldE (c : Dev nD) (i : Fin 8) : sProp 𝕄 := ldD I i c

/-- A device's hands at the end. -/
def famOut (c : Dev nD) : sProp 𝕄 :=
  iprop(bigSep Finset.univ (ldE I c) ∗ bigSep Finset.univ (chE I c) ∗ bigSep Finset.univ (stE I c) ∗ slOne c 0 ∗ slOne c 1 ∗ bigSep Finset.univ (spOne (F := F) c)
    ∗ (∃ f, gA false c f) ∗ (∃ f, gA true c f) ∗ w1A I c ∗ w2A I c ∗ semVal (barCell c) 0)

omit [FloatOps F] in
/-- The staging's last slot falls into its four pieces, -/
theorem slot_four (c : Dev nD) : iprop(∃ f, sA c (stSrc (2 : Fin 7).val) f) ⊢ iprop(spOne (F := F) c 0 ∗ spOne c 1 ∗ spOne c 2 ∗ spOne c 3) := by
  iintro ⟨%f, H⟩
  have e : (sA c (stSrc (2 : Fin 7).val) f : sProp 𝕄) = bigSep Finset.univ fun p : Fin 4 => sA c (sP p.val) f := by
    show sA c (sK 2) f = _
    rw [← sK_pieces]
    exact pointsTo_biUnion (ℓ := (c : Thread nD τ).loc cc0_scratch5) _ _ fun p _ p' _ h => sP_disjoint p p' h
  ihave H := (Entails.of_eq e) $$ H
  icases (take4 _) $$ H with ⟨H0, H1, H2, H3⟩
  isplitl [H0]; · iexists f; iexact H0
  isplitl [H1]; · iexists f; iexact H1
  isplitl [H2]; · iexists f; iexact H2
  iexists f; iexact H3

omit [FloatOps F] in
/-- and the output's last chunk likewise. -/
theorem opp_four (c : Dev nD) : (ouOne c 2 : sProp 𝕄) ⊢ iprop(opOne (F := F) c 0 ∗ opOne c 1 ∗ opOne c 2 ∗ opOne c 3) := by
  iintro ⟨%f, H⟩
  have e : (oA c (oC (bk true (2 : Fin 4).val c).val) f : sProp 𝕄) = bigSep Finset.univ fun p : Fin 4 => oA c (oS (bk true 2 c).val p.val) f := by
    show oA c (oC (bk true 2 c).val) f = _
    rw [← oC_pieces]
    exact pointsTo_biUnion (ℓ := (c : Thread nD τ).loc main_v1) _ _ fun p _ p' _ h => oS_disjoint _ p p' h
  ihave H := (Entails.of_eq e) $$ H
  icases (take4 _) $$ H with ⟨H0, H1, H2, H3⟩
  isplitl [H0]; · iexists f; iexact H0
  isplitl [H1]; · iexists f; iexact H1
  isplitl [H2]; · iexists f; iexact H2
  iexists f; iexact H3

/-- A load of the second weights' upper half, -/
theorem w2_up (c : Dev nD) {m₁ : Memref sig .tc .vmem S1024x1024 .bf16} (hm₁ : m₁ = w2M) {b₁}
    {l₁ : m₁.view.LoadsAt (Rect.unit (s := S1024x1024) ![0, 0] S512x1024.size b₁).toLoadRect}
    {α : Type} {Q : α → sProp 𝕄} {t : FVec F S512x1024 .bf16 → Prog (TpuEff nD τ sig (Elt F) Λ₀ .tc) α} :
    w2A I c ⊢ iprop((w2A I c -∗ WP c (t (w2u I c)) Q)
      -∗ WP c (.op (.load (e := .bf16) m₁ (Rect.unit (s := S1024x1024) ![0, 0] S512x1024.size b₁).toLoadRect l₁) t) Q) := by
  subst hm₁
  iintro Hw Hk
  ihave Hw := (Entails.of_eq (whole_mat cc0_stg1_0 c fullShare (I.W2 c))) $$ Hw
  iapply (all_load (m := w2M) c) $$ Hw
  iintro Hw
  ihave Hw := (Entails.of_eq (whole_mat cc0_stg1_0 c fullShare (I.W2 c)).symm) $$ Hw
  rw [show (fun j => I.W2 c ((Rect.unit (s := S1024x1024) ![0, 0] S512x1024.size b₁).emb j)) = w2u I c
      from funext fun j => congrArg _ ((emb2 _ _ _ j).trans (at2_congr (Nat.zero_add _) (Nat.zero_add _)))]
  iapply Hk $$ Hw

/-- and of their lower half. -/
theorem w2_low (c : Dev nD) {m₁ : Memref sig .tc .vmem S1024x1024 .bf16} (hm₁ : m₁ = w2M) {b₁}
    {l₁ : m₁.view.LoadsAt (Rect.unit (s := S1024x1024) ![512, 0] S512x1024.size b₁).toLoadRect}
    {α : Type} {Q : α → sProp 𝕄} {t : FVec F S512x1024 .bf16 → Prog (TpuEff nD τ sig (Elt F) Λ₀ .tc) α} :
    w2A I c ⊢ iprop((w2A I c -∗ WP c (t (w2l I c)) Q)
      -∗ WP c (.op (.load (e := .bf16) m₁ (Rect.unit (s := S1024x1024) ![512, 0] S512x1024.size b₁).toLoadRect l₁) t) Q) := by
  subst hm₁
  iintro Hw Hk
  ihave Hw := (Entails.of_eq (whole_mat cc0_stg1_0 c fullShare (I.W2 c))) $$ Hw
  iapply (all_load (m := w2M) c) $$ Hw
  iintro Hw
  ihave Hw := (Entails.of_eq (whole_mat cc0_stg1_0 c fullShare (I.W2 c)).symm) $$ Hw
  rw [show (fun j => I.W2 c ((Rect.unit (s := S1024x1024) ![512, 0] S512x1024.size b₁).emb j)) = w2l I c
      from funext fun j => congrArg _ ((emb2 _ _ _ j).trans (at2_congr rfl (Nat.zero_add _)))]
  iapply Hk $$ Hw

set_option maxHeartbeats 4000000 in
/-- The body on device `c`, from all it holds at the start to all it holds at the end. -/
theorem walk (c : Dev nD) (W : Waits sig Unit) (Q : PUnit → sProp 𝕄) :
    recs I K ⊢ iprop(owes (c : Thread nD τ) (O₀ c) W -∗ barIn c -∗ famIn I c
      -∗ (∃ f, gA false c f) -∗ (∃ f, gA true c f) -∗ w1A I c -∗ w2A I c -∗ (famOut I c -∗ ow c 24 24 -∗ Q ⟨⟩)
      -∗ WP c (cc0__body xM (Memref.isWhole_whole _) w1M (Memref.isWhole_whole _) w2M (Memref.isWhole_whole _) outM (Memref.isWhole_whole _)
          hM (Memref.isWhole_whole _) rrM (Memref.isWhole_whole _) rlM (Memref.isWhole_whole _) xaM (Memref.isWhole_whole _) xbM (Memref.isWhole_whole _)
          osM (Memref.isWhole_whole _) cc0_scratch6 cc0_scratch7 cc0_scratch8 cc0_scratch9 cc0_scratch10 cc0_scratch11 cc0_scratch12 cc0_scratch13 cc0_scratch14
          cc0_scratch15) Q) := by
  simp only [cc0__body_eq_skeleton]; unfold cc0__body_skel
  simp only [k0_part90_eq_skeleton]; unfold k0_part90_skel
  simp only [Prog.lift, Prog.bind_op, Prog.bind_ret, Prog.pure_eq_ret]
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold barIn famIn
  iintro #HR HO ⟨Ht, Ht', Hc, Hat, Hr, Hl⟩ ⟨FL, ⟨M00, M01⟩, ⟨M10, M11⟩, ⟨M20, M21⟩, ⟨M30, M31⟩, FC, FS, B0, B1, B2, FO⟩ G0 G1 Hw Hv Hk
  icases (take8 _) $$ FL with ⟨⟨X0, T0⟩, ⟨X1, T1⟩, ⟨X2, T2⟩, ⟨X3, T3⟩, ⟨X4, T4⟩, ⟨X5, T5⟩, ⟨X6, T6⟩, ⟨X7, T7⟩⟩
  icases (take4 _) $$ FC with ⟨⟨R0, L0⟩, ⟨R1, L1⟩, ⟨R2, L2⟩, ⟨R3, L3⟩⟩
  icases (take7 _) $$ FS with ⟨S0, S1, S2, S3, S4, S5, S6⟩
  icases (take4 _) $$ FO with ⟨O0, O1, O2, O3⟩
  iapply (bar_signals I K c (dev_left c) (dev_right c) W) $$ HR HO Ht Ht' Hr Hl
  iintro HO
  iapply (ld_start I K c 0 false rfl rfl rfl ⟨_, _, off1_eq c 0, rfl⟩) $$ HR X0 G0 T0
  iintro T0
  iapply (ld_start I K c 1 true rfl rfl rfl ⟨_, _, off1_eq c 1, rfl⟩) $$ HR X1 G1 T1
  iintro T1
  iapply (ld_wait I K c 0 false rfl rfl 0 0 (q := c) (u := 0) rfl rfl) $$ HR T0 HO
  iintro G0 X0 HO
  iapply (gemm I c false c 0 (by decide) 0 1 rfl rfl rfl rfl rfl rfl (fun _ _ => rfl) ⟨_, _, off2_eq c 0, rfl⟩) $$ G0 Hw M00
  iintro G0 Hw A00 A01 B00 B01
  iapply (bar_wait I K c) $$ HR Hc Hat HO
  iintro Hz ⟨DR0, DR1, DR2, DR3⟩ ⟨DL0, DL1, DL2, DL3⟩ HO
  ihave R0 := (chain_start true 0 c) $$ R0 DR0
  ihave R1 := (chain_start true 1 c) $$ R1 DR1
  ihave R2 := (chain_start true 2 c) $$ R2 DR2
  ihave R3 := (chain_start true 3 c) $$ R3 DR3
  ihave L0 := (chain_start false 0 c) $$ L0 DL0
  ihave L1 := (chain_start false 1 c) $$ L1 DL1
  ihave L2 := (chain_start false 2 c) $$ L2 DL2
  ihave L3 := (chain_start false 3 c) $$ L3 DL3
  iapply (first I K c true 0 (to_nx true c 0 (k0_dev3_lt c)) 0 0 1 0 rfl rfl ⟨rfl, rfl, rfl⟩ ⟨_, _, off3_eq c 0, rfl⟩ ⟨_, _, rfl⟩) $$ HR R0 A00 HO
  iintro R0 HO
  iapply (first I K c true 1 (to_nx true c 1 (k0_dev4_lt c)) 1 0 2 0 rfl rfl ⟨rfl, rfl, rfl⟩ ⟨_, _, off3_eq c 1, rfl⟩ ⟨_, _, rfl⟩) $$ HR R1 A01 HO
  iintro R1 HO
  iapply (first I K c false 0 (to_nx false c 0 (k0_dev5_lt c)) 2 0 2 1 rfl rfl ⟨rfl, rfl, rfl⟩ ⟨_, _, off4_eq c 0, rfl⟩ ⟨_, _, rfl⟩) $$ HR L0 B00 HO
  iintro L0 HO
  iapply (first I K c false 1 (to_nx false c 1 (k0_dev6_lt c)) 2 1 2 2 rfl rfl ⟨rfl, rfl, rfl⟩ ⟨_, _, off4_eq c 1, rfl⟩ ⟨_, _, rfl⟩) $$ HR L1 B01 HO
  iintro L1 HO
  iapply (ld_start I K c 2 false rfl rfl rfl ⟨_, _, off5_eq c 0, rfl⟩) $$ HR X2 G0 T2
  iintro T2
  iapply (ld_wait I K c 1 true rfl rfl 2 2 (q := c) (u := 1) rfl rfl) $$ HR T1 HO
  iintro G1 X1 HO
  iapply (gemm I c true c 1 (by decide) 2 3 rfl rfl rfl rfl rfl rfl (fun _ _ => rfl) ⟨_, _, off2_eq c 1, rfl⟩) $$ G1 Hw M01
  iintro G1 Hw A02 A03 B02 B03
  iapply (first I K c true 2 (to_nx true c 2 (k0_dev7_lt c)) 2 2 3 2 rfl rfl ⟨rfl, rfl, rfl⟩ ⟨_, _, off3_eq c 2, rfl⟩ ⟨_, _, rfl⟩) $$ HR R2 A02 HO
  iintro R2 HO
  iapply (first I K c true 3 (to_nx true c 3 (k0_dev8_lt c)) 3 2 4 2 rfl rfl ⟨rfl, rfl, rfl⟩ ⟨_, _, off3_eq c 3, rfl⟩ ⟨_, _, rfl⟩) $$ HR R3 A03 HO
  iintro R3 HO
  iapply (first I K c false 2 (to_nx false c 2 (k0_dev9_lt c)) 4 2 4 3 rfl rfl ⟨rfl, rfl, rfl⟩ ⟨_, _, off4_eq c 2, rfl⟩ ⟨_, _, rfl⟩) $$ HR L2 B02 HO
  iintro L2 HO
  iapply (first I K c false 3 (to_nx false c 3 (k0_dev10_lt c)) 4 3 4 4 rfl rfl ⟨rfl, rfl, rfl⟩ ⟨_, _, off4_eq c 3, rfl⟩ ⟨_, _, rfl⟩) $$ HR L3 B03 HO
  iintro L3 HO
  simp only [k0_part8_eq_skeleton, k0_part9_eq_skeleton, k0_part10_eq_skeleton, k0_part11_eq_skeleton, k0_part12_eq_skeleton, k0_part13_eq_skeleton, k0_part14_eq_skeleton]
  unfold k0_part8_skel k0_part9_skel k0_part10_skel k0_part11_skel k0_part12_skel k0_part13_skel k0_part14_skel
  simp only [Prog.lift, Prog.bind_op, Prog.bind_ret, Prog.pure_eq_ret]
  iapply (ld_start I K c 3 true rfl rfl rfl ⟨_, _, off6_one c 0, rfl⟩) $$ HR X3 G1 T3
  iintro T3
  iapply (ld_wait I K c 2 false rfl rfl 4 4 (q := (bk true 1 c)) (u := 0) rfl rfl) $$ HR T2 HO
  iintro G0 X2 HO
  iapply (gemm I c false (bk true 1 c) 0 (by decide) 0 1 rfl rfl rfl rfl rfl rfl (fun _ _ => rfl) ⟨_, _, off7_eq c 0, rfl⟩) $$ G0 Hw M10
  iintro G0 Hw A10 A11 B10 B11
  iapply (ld_start I K c 4 false rfl rfl rfl ⟨_, _, off5_eq c 1, rfl⟩) $$ HR X4 G0 T4
  iintro T4
  iapply (ld_wait I K c 3 true rfl rfl 4 4 (q := (bk true 3 c)) (u := 0) rfl rfl) $$ HR T3 HO
  iintro G1 X3 HO
  iapply (gemm I c true (bk true 3 c) 0 (by decide) 0 1 rfl rfl rfl rfl rfl rfl (fun _ _ => rfl) ⟨_, _, off8_one c 0, rfl⟩) $$ G1 Hw M30
  iintro G1 Hw A30 A31 B30 B31
  iapply (ld_start I K c 5 true rfl rfl rfl ⟨_, _, off6_one c 1, rfl⟩) $$ HR X5 G1 T5
  iintro T5
  iapply (ld_wait I K c 4 false rfl rfl 4 4 (q := (bk true 1 c)) (u := 1) rfl rfl) $$ HR T4 HO
  iintro G0 X4 HO
  iapply (gemm I c false (bk true 1 c) 1 (by decide) 2 3 rfl rfl rfl rfl rfl rfl (fun _ _ => rfl) ⟨_, _, off7_eq c 1, rfl⟩) $$ G0 Hw M11
  iintro G0 Hw A12 A13 B12 B13
  iapply (ld_start I K c 6 false rfl rfl rfl ⟨_, _, off6_two c 0, rfl⟩) $$ HR X6 G0 T6
  iintro T6
  iapply (ld_wait I K c 5 true rfl rfl 4 4 (q := (bk true 3 c)) (u := 1) rfl rfl) $$ HR T5 HO
  iintro G1 X5 HO
  iapply (gemm I c true (bk true 3 c) 1 (by decide) 2 3 rfl rfl rfl rfl rfl rfl (fun _ _ => rfl) ⟨_, _, off8_one c 1, rfl⟩) $$ G1 Hw M31
  iintro G1 Hw A32 A33 B32 B33
  iapply (ld_start I K c 7 true rfl rfl rfl ⟨_, _, off6_two c 1, rfl⟩) $$ HR X7 G1 T7
  iintro T7
  iapply (ld_wait I K c 6 false rfl rfl 4 4 (q := (bk true 2 c)) (u := 0) rfl rfl) $$ HR T6 HO
  iintro G0 X6 HO
  iapply (gemm I c false (bk true 2 c) 0 (by decide) 0 1 rfl rfl rfl rfl rfl rfl (fun _ _ => rfl) ⟨_, _, off8_two c 0, rfl⟩) $$ G0 Hw M20
  iintro G0 Hw A20 A21 B20 B21
  iapply (ld_wait I K c 7 true rfl rfl 4 4 (q := (bk true 2 c)) (u := 1) rfl rfl) $$ HR T7 HO
  iintro G1 X7 HO
  iapply (gemm I c true (bk true 2 c) 1 (by decide) 2 3 rfl rfl rfl rfl rfl rfl (fun _ _ => rfl) ⟨_, _, off8_two c 1, rfl⟩) $$ G1 Hw M21
  iintro G1 Hw A22 A23 B22 B23
  ihave R0 := (holds_right I 0 c) $$ R0 A10 A20 A30
  ihave L0 := (holds_left I 0 c) $$ L0 B10 B20 B30
  ihave R1 := (holds_right I 1 c) $$ R1 A11 A21 A31
  ihave L1 := (holds_left I 1 c) $$ L1 B11 B21 B31
  ihave R2 := (holds_right I 2 c) $$ R2 A12 A22 A32
  ihave L2 := (holds_left I 2 c) $$ L2 B12 B22 B32
  ihave R3 := (holds_right I 3 c) $$ R3 A13 A23 A33
  ihave L3 := (holds_left I 3 c) $$ L3 B13 B23 B33
  simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold k0_part15_skel k0_part16_skel k0_part17_skel k0_part18_skel k0_part19_skel k0_part20_skel k0_part21_skel k0_part22_skel k0_part23_skel k0_part24_skel k0_part25_skel k0_part26_skel k0_part27_skel
  simp only [Prog.lift, Prog.bind_op, Prog.bind_ret, Prog.pure_eq_ret]
  iapply (hop I K c true 0 1 rfl 0 rfl rfl 4 4 5 4 (by decide) (by decide) ⟨rfl, rfl, rfl⟩ (fun _ _ => rfl) ⟨_, rfl⟩ ⟨_, _, off9_eq c 0 0, rfl⟩
      (to_nx true c 4 (k0_dev11_lt c)) rfl rfl ⟨_, _, rfl⟩ (by decide) ⟨_, _, rfl⟩) $$ HR R0 HO
  iintro R0 HO
  iapply (hop I K c false 0 1 rfl 0 rfl rfl 5 4 5 5 (by decide) (by decide) ⟨rfl, rfl, rfl⟩ (fun _ _ => rfl) ⟨_, rfl⟩ ⟨_, _, off10_eq c 0 0, rfl⟩
      (to_nx false c 4 (k0_dev12_lt c)) rfl rfl ⟨_, _, rfl⟩ (by decide) ⟨_, _, rfl⟩) $$ HR L0 HO
  iintro L0 HO
  iapply (hop I K c true 0 1 rfl 1 rfl rfl 5 5 6 5 (by decide) (by decide) ⟨rfl, rfl, rfl⟩ (fun _ _ => rfl) ⟨_, rfl⟩ ⟨_, _, off9_eq c 0 1, rfl⟩
      (to_nx true c 5 (k0_dev13_lt c)) rfl rfl ⟨_, _, rfl⟩ (by decide) ⟨_, _, rfl⟩) $$ HR R1 HO
  iintro R1 HO
  iapply (hop I K c false 0 1 rfl 1 rfl rfl 6 5 6 6 (by decide) (by decide) ⟨rfl, rfl, rfl⟩ (fun _ _ => rfl) ⟨_, rfl⟩ ⟨_, _, off10_eq c 0 1, rfl⟩
      (to_nx false c 5 (k0_dev14_lt c)) rfl rfl ⟨_, _, rfl⟩ (by decide) ⟨_, _, rfl⟩) $$ HR L1 HO
  iintro L1 HO
  iapply (hop I K c true 0 1 rfl 2 rfl rfl 6 6 7 6 (by decide) (by decide) ⟨rfl, rfl, rfl⟩ (fun _ _ => rfl) ⟨_, rfl⟩ ⟨_, _, off9_eq c 0 2, rfl⟩
      (to_nx true c 6 (k0_dev15_lt c)) rfl rfl ⟨_, _, rfl⟩ (by decide) ⟨_, _, rfl⟩) $$ HR R2 HO
  iintro R2 HO
  iapply (hop I K c false 0 1 rfl 2 rfl rfl 7 6 7 7 (by decide) (by decide) ⟨rfl, rfl, rfl⟩ (fun _ _ => rfl) ⟨_, rfl⟩ ⟨_, _, off10_eq c 0 2, rfl⟩
      (to_nx false c 6 (k0_dev16_lt c)) rfl rfl ⟨_, _, rfl⟩ (by decide) ⟨_, _, rfl⟩) $$ HR L2 HO
  iintro L2 HO
  iapply (hop I K c true 0 1 rfl 3 rfl rfl 7 7 8 7 (by decide) (by decide) ⟨rfl, rfl, rfl⟩ (fun _ _ => rfl) ⟨_, rfl⟩ ⟨_, _, off9_eq c 0 3, rfl⟩
      (to_nx true c 7 (k0_dev17_lt c)) rfl rfl ⟨_, _, rfl⟩ (by decide) ⟨_, _, rfl⟩) $$ HR R3 HO
  iintro R3 HO
  iapply (hop I K c false 0 1 rfl 3 rfl rfl 8 7 8 8 (by decide) (by decide) ⟨rfl, rfl, rfl⟩ (fun _ _ => rfl) ⟨_, rfl⟩ ⟨_, _, off10_eq c 0 3, rfl⟩
      (to_nx false c 7 (k0_dev18_lt c)) rfl rfl ⟨_, _, rfl⟩ (by decide) ⟨_, _, rfl⟩) $$ HR L3 HO
  iintro L3 HO
  simp only [k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  unfold k0_part28_skel k0_part29_skel k0_part30_skel k0_part31_skel k0_part32_skel k0_part33_skel k0_part34_skel k0_part35_skel k0_part36_skel k0_part37_skel k0_part38_skel k0_part39_skel k0_part40_skel k0_part41_skel
  simp only [Prog.lift, Prog.bind_op, Prog.bind_ret, Prog.pure_eq_ret]
  iapply (hop I K c true 1 2 rfl 0 rfl rfl 8 8 9 8 (by decide) (by decide) ⟨rfl, rfl, rfl⟩ (fun _ _ => rfl) ⟨_, rfl⟩ ⟨_, _, off9_eq c 1 0, rfl⟩
      (to_nx true c 8 (k0_dev19_lt c)) rfl rfl ⟨_, _, rfl⟩ (by decide) ⟨_, _, rfl⟩) $$ HR R0 HO
  iintro R0 HO
  iapply (hop I K c false 1 2 rfl 0 rfl rfl 9 8 9 9 (by decide) (by decide) ⟨rfl, rfl, rfl⟩ (fun _ _ => rfl) ⟨_, rfl⟩ ⟨_, _, off10_eq c 1 0, rfl⟩
      (to_nx false c 8 (k0_dev20_lt c)) rfl rfl ⟨_, _, rfl⟩ (by decide) ⟨_, _, rfl⟩) $$ HR L0 HO
  iintro L0 HO
  iapply (hop I K c true 1 2 rfl 1 rfl rfl 9 9 10 9 (by decide) (by decide) ⟨rfl, rfl, rfl⟩ (fun _ _ => rfl) ⟨_, rfl⟩ ⟨_, _, off9_eq c 1 1, rfl⟩
      (to_nx true c 9 (k0_dev21_lt c)) rfl rfl ⟨_, _, rfl⟩ (by decide) ⟨_, _, rfl⟩) $$ HR R1 HO
  iintro R1 HO
  iapply (hop I K c false 1 2 rfl 1 rfl rfl 10 9 10 10 (by decide) (by decide) ⟨rfl, rfl, rfl⟩ (fun _ _ => rfl) ⟨_, rfl⟩ ⟨_, _, off10_eq c 1 1, rfl⟩
      (to_nx false c 9 (k0_dev22_lt c)) rfl rfl ⟨_, _, rfl⟩ (by decide) ⟨_, _, rfl⟩) $$ HR L1 HO
  iintro L1 HO
  iapply (hop I K c true 1 2 rfl 2 rfl rfl 10 10 11 10 (by decide) (by decide) ⟨rfl, rfl, rfl⟩ (fun _ _ => rfl) ⟨_, rfl⟩ ⟨_, _, off9_eq c 1 2, rfl⟩
      (to_nx true c 10 (k0_dev23_lt c)) rfl rfl ⟨_, _, rfl⟩ (by decide) ⟨_, _, rfl⟩) $$ HR R2 HO
  iintro R2 HO
  iapply (hop I K c false 1 2 rfl 2 rfl rfl 11 10 11 11 (by decide) (by decide) ⟨rfl, rfl, rfl⟩ (fun _ _ => rfl) ⟨_, rfl⟩ ⟨_, _, off10_eq c 1 2, rfl⟩
      (to_nx false c 10 (k0_dev24_lt c)) rfl rfl ⟨_, _, rfl⟩ (by decide) ⟨_, _, rfl⟩) $$ HR L2 HO
  iintro L2 HO
  iapply (hop I K c true 1 2 rfl 3 rfl rfl 11 11 12 11 (by decide) (by decide) ⟨rfl, rfl, rfl⟩ (fun _ _ => rfl) ⟨_, rfl⟩ ⟨_, _, off9_eq c 1 3, rfl⟩
      (to_nx true c 11 (k0_dev25_lt c)) rfl rfl ⟨_, _, rfl⟩ (by decide) ⟨_, _, rfl⟩) $$ HR R3 HO
  iintro R3 HO
  iapply (hop I K c false 1 2 rfl 3 rfl rfl 12 11 12 12 (by decide) (by decide) ⟨rfl, rfl, rfl⟩ (fun _ _ => rfl) ⟨_, rfl⟩ ⟨_, _, off10_eq c 1 3, rfl⟩
      (to_nx false c 11 (k0_dev26_lt c)) rfl rfl ⟨_, _, rfl⟩ (by decide) ⟨_, _, rfl⟩) $$ HR L3 HO
  iintro L3 HO
  simp only [k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
  unfold k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel
  simp only [Prog.lift, Prog.bind_op, Prog.bind_ret, Prog.pure_eq_ret]
  iapply (hop_done I K c true 2 3 rfl 0 rfl rfl 12 12 13 12 (by decide) (by decide) ⟨rfl, rfl, rfl⟩ (fun _ _ => rfl) ⟨_, rfl⟩ ⟨_, _, off9_eq c 2 0, rfl⟩
      (to_nx true c 12 (k0_dev27_lt c)) rfl rfl ⟨_, _, rfl⟩ rfl ⟨_, _, off11_eq c 0, rfl⟩) $$ HR R0 HO
  iintro R0 HO
  iapply (hop_done I K c false 2 3 rfl 0 rfl rfl 13 12 13 13 (by decide) (by decide) ⟨rfl, rfl, rfl⟩ (fun _ _ => rfl) ⟨_, rfl⟩ ⟨_, _, off10_eq c 2 0, rfl⟩
      (to_nx false c 12 (k0_dev28_lt c)) rfl rfl ⟨_, _, rfl⟩ rfl ⟨_, _, off12_eq c 0, rfl⟩) $$ HR L0 HO
  iintro L0 HO
  iapply (hop_done I K c true 2 3 rfl 1 rfl rfl 13 13 14 13 (by decide) (by decide) ⟨rfl, rfl, rfl⟩ (fun _ _ => rfl) ⟨_, rfl⟩ ⟨_, _, off9_eq c 2 1, rfl⟩
      (to_nx true c 13 (k0_dev29_lt c)) rfl rfl ⟨_, _, rfl⟩ rfl ⟨_, _, off11_eq c 1, rfl⟩) $$ HR R1 HO
  iintro R1 HO
  iapply (hop_done I K c false 2 3 rfl 1 rfl rfl 14 13 14 14 (by decide) (by decide) ⟨rfl, rfl, rfl⟩ (fun _ _ => rfl) ⟨_, rfl⟩ ⟨_, _, off10_eq c 2 1, rfl⟩
      (to_nx false c 13 (k0_dev30_lt c)) rfl rfl ⟨_, _, rfl⟩ rfl ⟨_, _, off12_eq c 1, rfl⟩) $$ HR L1 HO
  iintro L1 HO
  iapply (hop_done I K c true 2 3 rfl 2 rfl rfl 14 14 15 14 (by decide) (by decide) ⟨rfl, rfl, rfl⟩ (fun _ _ => rfl) ⟨_, rfl⟩ ⟨_, _, off9_eq c 2 2, rfl⟩
      (to_nx true c 14 (k0_dev31_lt c)) rfl rfl ⟨_, _, rfl⟩ rfl ⟨_, _, off11_eq c 2, rfl⟩) $$ HR R2 HO
  iintro R2 HO
  iapply (hop_done I K c false 2 3 rfl 2 rfl rfl 15 14 15 15 (by decide) (by decide) ⟨rfl, rfl, rfl⟩ (fun _ _ => rfl) ⟨_, rfl⟩ ⟨_, _, off10_eq c 2 2, rfl⟩
      (to_nx false c 14 (k0_dev32_lt c)) rfl rfl ⟨_, _, rfl⟩ rfl ⟨_, _, off12_eq c 2, rfl⟩) $$ HR L2 HO
  iintro L2 HO
  iapply (hop_done I K c true 2 3 rfl 3 rfl rfl 15 15 16 15 (by decide) (by decide) ⟨rfl, rfl, rfl⟩ (fun _ _ => rfl) ⟨_, rfl⟩ ⟨_, _, off9_eq c 2 3, rfl⟩
      (to_nx true c 15 (k0_dev33_lt c)) rfl rfl ⟨_, _, rfl⟩ rfl ⟨_, _, off11_eq c 3, rfl⟩) $$ HR R3 HO
  iintro R3 HO
  iapply (hop_done I K c false 2 3 rfl 3 rfl rfl 16 15 16 16 (by decide) (by decide) ⟨rfl, rfl, rfl⟩ (fun _ _ => rfl) ⟨_, rfl⟩ ⟨_, _, off10_eq c 2 3, rfl⟩
      (to_nx false c 15 (k0_dev34_lt c)) rfl rfl ⟨_, _, rfl⟩ rfl ⟨_, _, off12_eq c 3, rfl⟩) $$ HR L3 HO
  iintro L3 HO
  iapply (w2_up I c rfl) $$ Hv
  iintro Hv
  iapply (w2_low I c rfl) $$ Hv
  iintro Hv
  iapply (slot_get I c true ⟨_, rfl⟩) $$ R0 R1 R2 R3
  iintro R0 R1 R2 R3
  iapply (stage_put c (0 : Fin 7).val ⟨_, rfl⟩) $$ B0
  iintro B0
  iapply (slot_get I c false ⟨_, rfl⟩) $$ L0 L1 L2 L3
  iintro L0 L1 L2 L3
  iapply (stage_put c (1 : Fin 7).val ⟨_, rfl⟩) $$ B1
  iintro B1
  simp only [k0_part58_eq_skeleton, k0_part59_eq_skeleton, k0_part60_eq_skeleton]
  unfold k0_part58_skel k0_part59_skel k0_part60_skel
  simp only [Prog.lift, Prog.bind_op, Prog.bind_ret, Prog.pure_eq_ret]
  simp only [k0_part91_eq_skeleton]; unfold k0_part91_skel
  simp only [k0_part61_eq_skeleton, k0_part62_eq_skeleton, k0_part63_eq_skeleton, k0_part64_eq_skeleton, k0_part65_eq_skeleton, k0_part66_eq_skeleton, k0_part67_eq_skeleton, k0_part68_eq_skeleton]
  unfold k0_part61_skel k0_part62_skel k0_part63_skel k0_part64_skel k0_part65_skel k0_part66_skel k0_part67_skel k0_part68_skel
  simp only [Prog.lift, Prog.bind_op, Prog.bind_ret, Prog.pure_eq_ret]
  iapply (pass I K c 3 0 rfl rfl rfl rfl 4 (by decide) rfl 16 rfl (to_nx true c 16 (k0_dev35_lt c)) (to_nx false c 16 (k0_dev36_lt c)) rfl rfl rfl rfl
      ⟨_, _, off3_four c 0, rfl⟩ ⟨_, _, off13_eq c 0, rfl⟩ ⟨_, _, off4_four c 0, rfl⟩ ⟨_, _, off14_eq c 0, rfl⟩) $$ HR R0 L0 HO
  iintro R0 L0 HO
  iapply (pass I K c 3 1 rfl rfl rfl rfl 4 (by decide) rfl 17 rfl (to_nx true c 17 (k0_dev37_lt c)) (to_nx false c 17 (k0_dev38_lt c)) rfl rfl rfl rfl
      ⟨_, _, off3_four c 1, rfl⟩ ⟨_, _, off13_eq c 1, rfl⟩ ⟨_, _, off4_four c 1, rfl⟩ ⟨_, _, off14_eq c 1, rfl⟩) $$ HR R1 L1 HO
  iintro R1 L1 HO
  iapply (pass I K c 3 2 rfl rfl rfl rfl 4 (by decide) rfl 18 rfl (to_nx true c 18 (k0_dev39_lt c)) (to_nx false c 18 (k0_dev40_lt c)) rfl rfl rfl rfl
      ⟨_, _, off3_four c 2, rfl⟩ ⟨_, _, off13_eq c 2, rfl⟩ ⟨_, _, off4_four c 2, rfl⟩ ⟨_, _, off14_eq c 2, rfl⟩) $$ HR R2 L2 HO
  iintro R2 L2 HO
  iapply (pass I K c 3 3 rfl rfl rfl rfl 4 (by decide) rfl 19 rfl (to_nx true c 19 (k0_dev41_lt c)) (to_nx false c 19 (k0_dev42_lt c)) rfl rfl rfl rfl
      ⟨_, _, off3_four c 3, rfl⟩ ⟨_, _, off13_eq c 3, rfl⟩ ⟨_, _, off4_four c 3, rfl⟩ ⟨_, _, off14_eq c 3, rfl⟩) $$ HR R3 L3 HO
  iintro R3 L3 HO
  iapply (cols_get I c true 4 (by decide) ⟨_, _, off15_eq c, rfl⟩) $$ R0 R1 R2 R3
  iintro R0 R1 R2 R3
  rw [show bk true (4 : Fin 6).val c = c from bk_four true c]
  iapply (cols_get I c false 4 (by decide) ⟨_, _, off16_eq c, rfl⟩) $$ L0 L1 L2 L3
  iintro L0 L1 L2 L3
  rw [show bk false (4 : Fin 6).val c = c from bk_four false c]
  iapply (stage_put c (2 : Fin 7).val (w := vChunk I (0 : Fin 4).val c) ⟨_, rfl⟩) $$ B2
  iintro B2
  iapply (st_start I K c 2 0 (by decide) (by decide) rfl rfl ⟨_, _, rfl⟩ ⟨_, _, off17_eq c, rfl⟩) $$ HR B2 O0 S2
  iintro S2
  simp only [k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton]
  unfold k0_part69_skel k0_part70_skel k0_part71_skel k0_part72_skel k0_part73_skel k0_part74_skel k0_part75_skel k0_part76_skel k0_part77_skel k0_part78_skel k0_part79_skel k0_part80_skel k0_part81_skel k0_part82_skel
  simp only [Prog.lift, Prog.bind_op, Prog.bind_ret, Prog.pure_eq_ret]
  iapply (pass I K c 4 0 rfl rfl rfl rfl 5 (by decide) rfl 20 rfl (to_nx true c 20 (k0_dev43_lt c)) (to_nx false c 20 (k0_dev44_lt c)) rfl rfl rfl rfl
      ⟨_, _, off18_eq c 0, rfl⟩ ⟨_, _, off18_eq c 0, rfl⟩ ⟨_, _, off19_eq c 0, rfl⟩ ⟨_, _, off19_eq c 0, rfl⟩) $$ HR R0 L0 HO
  iintro R0 L0 HO
  iapply (pass I K c 4 1 rfl rfl rfl rfl 5 (by decide) rfl 21 rfl (to_nx true c 21 (k0_dev45_lt c)) (to_nx false c 21 (k0_dev46_lt c)) rfl rfl rfl rfl
      ⟨_, _, off18_eq c 1, rfl⟩ ⟨_, _, off18_eq c 1, rfl⟩ ⟨_, _, off19_eq c 1, rfl⟩ ⟨_, _, off19_eq c 1, rfl⟩) $$ HR R1 L1 HO
  iintro R1 L1 HO
  iapply (pass I K c 4 2 rfl rfl rfl rfl 5 (by decide) rfl 22 rfl (to_nx true c 22 (k0_dev47_lt c)) (to_nx false c 22 (k0_dev48_lt c)) rfl rfl rfl rfl
      ⟨_, _, off18_eq c 2, rfl⟩ ⟨_, _, off18_eq c 2, rfl⟩ ⟨_, _, off19_eq c 2, rfl⟩ ⟨_, _, off19_eq c 2, rfl⟩) $$ HR R2 L2 HO
  iintro R2 L2 HO
  iapply (pass I K c 4 3 rfl rfl rfl rfl 5 (by decide) rfl 23 rfl (to_nx true c 23 (k0_dev49_lt c)) (to_nx false c 23 (k0_dev50_lt c)) rfl rfl rfl rfl
      ⟨_, _, off18_eq c 3, rfl⟩ ⟨_, _, off18_eq c 3, rfl⟩ ⟨_, _, off19_eq c 3, rfl⟩ ⟨_, _, off19_eq c 3, rfl⟩) $$ HR R3 L3 HO
  iintro R3 L3 HO
  iapply (stage_get c (1 : Fin 7).val ⟨_, rfl⟩) $$ B1
  iintro B1
  iapply (cols_get I c true 5 (by decide) ⟨_, _, off20_eq c, rfl⟩) $$ R0 R1 R2 R3
  iintro R0 R1 R2 R3
  rw [show bk true (5 : Fin 6).val c = bk true 1 c from bk_add_four true 1 c]
  iapply (stage_put c (1 : Fin 7).val (w := vChunk I (1 : Fin 4).val c) ⟨_, rfl⟩) $$ B1
  iintro B1
  iapply (st_start I K c 1 1 (by decide) (by decide) rfl rfl ⟨_, _, rfl⟩ ⟨_, _, off21_eq c, rfl⟩) $$ HR B1 O1 S1
  iintro S1
  iapply (stage_get c (0 : Fin 7).val ⟨_, rfl⟩) $$ B0
  iintro B0
  iapply (cols_get I c false 5 (by decide) ⟨_, _, off22_eq c, rfl⟩) $$ L0 L1 L2 L3
  iintro L0 L1 L2 L3
  rw [show bk false (5 : Fin 6).val c = bk true 3 c from (bk_add_four false 1 c).trans (by rw [bk_true_three])]
  iapply (stage_put c (0 : Fin 7).val (w := vChunk I (3 : Fin 4).val c) ⟨_, rfl⟩) $$ B0
  iintro B0
  iapply (st_start I K c 0 3 (by decide) (by decide) rfl rfl ⟨_, _, rfl⟩ ⟨_, _, off23_eq c, rfl⟩) $$ HR B0 O3 S0
  iintro S0
  iapply (st_wait I K c 2 rfl rfl 24 24) $$ HR S2 HO
  iintro B2 W2 Z2 HO
  icases (slot_four c) $$ B2 with ⟨P0, P1, P2, P3⟩
  icases (opp_four c) $$ O2 with ⟨Q0, Q1, Q2, Q3⟩
  simp only [k0_part83_eq_skeleton, k0_part84_eq_skeleton, k0_part85_eq_skeleton, k0_part86_eq_skeleton, k0_part87_eq_skeleton, k0_part88_eq_skeleton, k0_part89_eq_skeleton]
  unfold k0_part83_skel k0_part84_skel k0_part85_skel k0_part86_skel k0_part87_skel k0_part88_skel k0_part89_skel
  simp only [Prog.lift, Prog.bind_op, Prog.bind_ret, Prog.pure_eq_ret]
  iapply (arrive I K c 5 0 rfl rfl rfl rfl rfl 24 rfl) $$ HR R0 L0 HO
  iintro R0 L0 HO
  iapply (piece_get I c true 0 ⟨_, _, off24_eq c 0, rfl⟩) $$ R0
  iintro R0
  iapply (piece_get I c false 0 ⟨_, _, off25_eq c 0, rfl⟩) $$ L0
  iintro L0
  iapply (piece_put c 0 (w := vOpp I c (0 : Fin 4).val) ⟨_, rfl⟩) $$ P0
  iintro P0
  iapply (st_start_piece I K c 0 3 rfl rfl ⟨_, _, rfl⟩ ⟨_, _, off26_eq c 0, rfl⟩) $$ HR P0 Q0 S3
  iintro S3
  iapply (arrive I K c 5 1 rfl rfl rfl rfl rfl 24 rfl) $$ HR R1 L1 HO
  iintro R1 L1 HO
  iapply (piece_get I c true 1 ⟨_, _, off24_eq c 1, rfl⟩) $$ R1
  iintro R1
  iapply (piece_get I c false 1 ⟨_, _, off25_eq c 1, rfl⟩) $$ L1
  iintro L1
  iapply (piece_put c 1 (w := vOpp I c (1 : Fin 4).val) ⟨_, rfl⟩) $$ P1
  iintro P1
  iapply (st_start_piece I K c 1 4 rfl rfl ⟨_, _, rfl⟩ ⟨_, _, off26_eq c 1, rfl⟩) $$ HR P1 Q1 S4
  iintro S4
  iapply (arrive I K c 5 2 rfl rfl rfl rfl rfl 24 rfl) $$ HR R2 L2 HO
  iintro R2 L2 HO
  iapply (piece_get I c true 2 ⟨_, _, off24_eq c 2, rfl⟩) $$ R2
  iintro R2
  iapply (piece_get I c false 2 ⟨_, _, off25_eq c 2, rfl⟩) $$ L2
  iintro L2
  iapply (piece_put c 2 (w := vOpp I c (2 : Fin 4).val) ⟨_, rfl⟩) $$ P2
  iintro P2
  iapply (st_start_piece I K c 2 5 rfl rfl ⟨_, _, rfl⟩ ⟨_, _, off26_eq c 2, rfl⟩) $$ HR P2 Q2 S5
  iintro S5
  iapply (arrive I K c 5 3 rfl rfl rfl rfl rfl 24 rfl) $$ HR R3 L3 HO
  iintro R3 L3 HO
  iapply (piece_get I c true 3 ⟨_, _, off24_eq c 3, rfl⟩) $$ R3
  iintro R3
  iapply (piece_get I c false 3 ⟨_, _, off25_eq c 3, rfl⟩) $$ L3
  iintro L3
  iapply (piece_put c 3 (w := vOpp I c (3 : Fin 4).val) ⟨_, rfl⟩) $$ P3
  iintro P3
  iapply (st_start_piece I K c 3 6 rfl rfl ⟨_, _, rfl⟩ ⟨_, _, off26_eq c 3, rfl⟩) $$ HR P3 Q3 S6
  iintro S6
  iapply (st_wait I K c 1 rfl rfl 24 24) $$ HR S1 HO
  iintro B1 W1 Z1 HO
  iapply (st_wait I K c 0 rfl rfl 24 24) $$ HR S0 HO
  iintro B0 W0 Z0 HO
  iapply (st_wait I K c 3 rfl rfl 24 24) $$ HR S3 HO
  iintro P0 W3 Z3 HO
  iapply (st_wait I K c 4 rfl rfl 24 24) $$ HR S4 HO
  iintro P1 W4 Z4 HO
  iapply (st_wait I K c 5 rfl rfl 24 24) $$ HR S5 HO
  iintro P2 W5 Z5 HO
  iapply (st_wait I K c 6 rfl rfl 24 24) $$ HR S6 HO
  iintro P3 W6 Z6 HO
  unfold Cert.Mlp.WP
  rw [wp_ret]; imodintro
  ihave P0 := (Entails.of_eq (show iprop(∃ f, sA c (stSrc (3 : Fin 7).val) f) = spOne (F := F) c 0 from rfl)) $$ P0
  ihave P1 := (Entails.of_eq (show iprop(∃ f, sA c (stSrc (4 : Fin 7).val) f) = spOne (F := F) c 1 from rfl)) $$ P1
  ihave P2 := (Entails.of_eq (show iprop(∃ f, sA c (stSrc (5 : Fin 7).val) f) = spOne (F := F) c 2 from rfl)) $$ P2
  ihave P3 := (Entails.of_eq (show iprop(∃ f, sA c (stSrc (6 : Fin 7).val) f) = spOne (F := F) c 3 from rfl)) $$ P3
  ihave FP := (put4 (spOne (F := F) c)) $$ P0 P1 P2 P3
  ihave FL := (put8 (ldE I c)) $$ X0 X1 X2 X3 X4 X5 X6 X7
  ihave C0 := (both (cE I true 0 c) (cE I false 0 c)) $$ R0 L0
  ihave C1 := (both (cE I true 1 c) (cE I false 1 c)) $$ R1 L1
  ihave C2 := (both (cE I true 2 c) (cE I false 2 c)) $$ R2 L2
  ihave C3 := (both (cE I true 3 c) (cE I false 3 c)) $$ R3 L3
  ihave FC := (put4 (chE I c)) $$ C0 C1 C2 C3
  ihave S0 := (both (oA c (stDst (0 : Fin 7).val c) (outC I c)) (semVal (stCell c 0) 0)) $$ W0 Z0
  ihave S1 := (both (oA c (stDst (1 : Fin 7).val c) (outC I c)) (semVal (stCell c 1) 0)) $$ W1 Z1
  ihave S2 := (both (oA c (stDst (2 : Fin 7).val c) (outC I c)) (semVal (stCell c 2) 0)) $$ W2 Z2
  ihave S3 := (both (oA c (stDst (3 : Fin 7).val c) (outC I c)) (semVal (stCell c 3) 0)) $$ W3 Z3
  ihave S4 := (both (oA c (stDst (4 : Fin 7).val c) (outC I c)) (semVal (stCell c 4) 0)) $$ W4 Z4
  ihave S5 := (both (oA c (stDst (5 : Fin 7).val c) (outC I c)) (semVal (stCell c 5) 0)) $$ W5 Z5
  ihave S6 := (both (oA c (stDst (6 : Fin 7).val c) (outC I c)) (semVal (stCell c 6) 0)) $$ W6 Z6
  ihave FS := (put7 (stE I c)) $$ S0 S1 S2 S3 S4 S5 S6
  iapply Hk $$ [FL FC FS B0 B1 FP G0 G1 Hw Hv Hz] HO
  unfold famOut
  isplitl [FL]; · iexact FL
  isplitl [FC]; · iexact FC
  isplitl [FS]; · iexact FS
  isplitl [B0]; · iexact B0
  isplitl [B1]; · iexact B1
  isplitl [FP]; · iexact FP
  isplitl [G0]; · iexact G0
  isplitl [G1]; · iexact G1
  isplitl [Hw]; · iexact Hw
  isplitl [Hv]; · iexact Hv
  iexact Hz

end Cert.Mlp

end
-- ==== Proof.Ends.lean ====
/-
# What a device holds before and after

At the start a device's buffers are whole; the run works on tiles of them, and on families of tokens. This module
cuts the buffers into the tiles the run starts from (`cut_x`, `cut_h`, …), and joins what the run leaves into whole
buffers again, and its semaphores into one family (`run_end`).
-/
module

public import proofs.«01_k».proof.Proof.Walk
public import Idealize.ShloMosaic.Lib.Ring

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-! ## Families over the semaphores -/

omit [FloatOps F] in
theorem famB (Φ : Bool → sProp 𝕄) : bigSep Finset.univ Φ = iprop(Φ true ∗ Φ false) := by
  rw [bigSep_univ_eq_bigSepL [true, false] (by decide) (by decide), bigSepL_cons_cons, bigSepL_singleton]; rfl
omit [FloatOps F] in
theorem fam3 (Φ : Fin 3 → sProp 𝕄) : bigSep Finset.univ Φ = iprop(Φ 0 ∗ Φ 1 ∗ Φ 2) := by
  rw [bigSep_univ_eq_bigSepL [(0 : Fin 3), 1, 2] (by decide) (by decide)]
  simp only [bigSepL_cons_cons, bigSepL_singleton]; rfl

/-- What a family over the semaphores has at piece `p`'s messages of direction `d`. -/
abbrev onMsg (Φ : OK → sProp 𝕄) (d : Bool) (p : Fin 4) : sProp 𝕄 :=
  bigSep Finset.univ fun k : Fin 6 => iprop(Φ (.inr (.inr (true, d, k, p))) ∗ Φ (.inr (.inr (false, d, k, p))))

/-- Messages by piece, direction, number and end. -/
def msgEquiv : Fin 4 × Bool × Fin 6 × Bool ≃ Bool × Bool × Fin 6 × Fin 4 where
  toFun x := (x.2.2.2, x.2.1, x.2.2.1, x.1)
  invFun y := (y.2.2.2, y.2.1, y.2.2.1, y.1)
  left_inv _ := rfl
  right_inv _ := rfl
/-- Landings by piece, direction and number. -/
def rcvEquiv : Fin 4 × Bool × Fin 6 ≃ Bool × Fin 6 × Fin 4 where
  toFun x := (x.2.1, x.2.2, x.1)
  invFun y := (y.2.2, y.1, y.2.1)
  left_inv _ := rfl
  right_inv _ := rfl

omit [FloatOps F] in
theorem famOK (Φ : OK → sProp 𝕄) : bigSep Finset.univ Φ = iprop(bigSep Finset.univ (fun i : Fin 8 => Φ (.inl i))
    ∗ bigSep Finset.univ (fun i : Fin 7 => Φ (.inr (.inl i))) ∗ bigSep Finset.univ (fun p : Fin 4 => iprop(onMsg Φ true p ∗ onMsg Φ false p))) := by
  have h : bigSep Finset.univ (fun x : Bool × Bool × Fin 6 × Fin 4 => Φ (.inr (.inr x)))
      = bigSep Finset.univ (fun p : Fin 4 => iprop(onMsg Φ true p ∗ onMsg Φ false p)) := by
    rw [bigSep_univ_equiv msgEquiv, bigSep_univ_prod]
    refine bigSep_congr fun p _ => ?_
    rw [bigSep_univ_prod, famB]
    have e (d : Bool) : bigSep Finset.univ (fun b : Fin 6 × Bool => Φ (.inr (.inr (msgEquiv (p, d, b))))) = onMsg Φ d p := by
      rw [bigSep_univ_prod]
      exact bigSep_congr fun k _ => famB _
    rw [e, e]
  rw [bigSep_univ_sum, bigSep_univ_sum, h]; rfl

omit [FloatOps F] in
theorem famRcv (Ψ : Bool × Fin 6 × Fin 4 → sProp 𝕄) : bigSep Finset.univ Ψ
    = bigSep Finset.univ (fun p : Fin 4 => iprop(bigSep Finset.univ (fun k => Ψ (true, k, p)) ∗ bigSep Finset.univ (fun k => Ψ (false, k, p)))) := by
  rw [bigSep_univ_equiv rcvEquiv, bigSep_univ_prod]
  refine bigSep_congr fun p _ => ?_
  rw [bigSep_univ_prod, famB]
  rfl

omit [FloatOps F] in
theorem famCK (Φ : CK → sProp 𝕄) : bigSep Finset.univ Φ = iprop(Φ none ∗ bigSep Finset.univ fun k : OK => Φ (some k)) := by
  rw [bigSep_univ_equiv (Equiv.optionEquivSumPUnit.{0} OK).symm, bigSep_univ_sum, bigSep_univ_of_subsingleton PUnit.unit]
  exact Entails.antisymm BI.sep_comm BI.sep_comm

omit [FloatOps F] in
/-- A family over the numbers below six is one over `Fin 6`. -/
theorem famSix (Φ : Fin 6 → sProp 𝕄) : bigSep (Finset.range 6) (fun n => Φ (f6 n)) = bigSep Finset.univ Φ := by
  rw [show Finset.range 6 = (Finset.univ : Finset (Fin 6)).map Fin.valEmbedding from by decide, bigSep_map]
  exact bigSep_congr fun k _ => congrArg Φ (f6_val k)

/-! ## The buffers cut -/

/-- The loads by chunk and half. -/
def ldEquiv : Fin 8 ≃ Fin 4 × Fin 2 :=
  Equiv.ofBijective (fun i => (⟨ldJ i.val, by revert i; decide⟩, ⟨ldU i.val, by revert i; decide⟩)) (by decide)

theorem cut_x (c : Dev nD) : (((c : Thread nD τ).loc main_arg0 ↦{fullShare} I.X c) : sProp 𝕄) = bigSep Finset.univ fun i : Fin 8 => xAt I i.val c := by
  rw [Ring.pointsTo_blocks (ℓ := (c : Thread nD τ).loc main_arg0) (fun b : Fin 4 × Fin 2 => hH (bk true b.1 c).val b.2)
    (fun b b' h => h_all_disjoint c b b' h) (h_all c), bigSep_univ_equiv ldEquiv]
  rfl

omit [FloatOps F] in
theorem cut_h (c : Dev nD) : iprop(∃ f : Vec F S4096x1024 .bf16, (c : Thread nD τ).loc cc0_scratch0 ↦{fullShare} f)
    ⊢ (iprop(hOne c c ∗ hOne c (bk true 1 c) ∗ hOne c (bk true 2 c) ∗ hOne c (bk true 3 c)) : sProp 𝕄) := by
  iintro ⟨%f, H⟩
  have e : (((c : Thread nD τ).loc cc0_scratch0 ↦{fullShare} f) : sProp 𝕄)
      = bigSep Finset.univ fun j : Fin 4 => iprop(hA c (hH (bk true j.val c).val 0) fullShare f ∗ hA c (hH (bk true j.val c).val 1) fullShare f) := by
    rw [Ring.pointsTo_blocks (ℓ := (c : Thread nD τ).loc cc0_scratch0) (fun b : Fin 4 × Fin 2 => hH (bk true b.1 c).val b.2)
      (fun b b' h => h_all_disjoint c b b' h) (h_all c), bigSep_univ_prod]
    exact bigSep_congr fun j _ => bigSep_fin_two _
  ihave H := (Entails.of_eq e) $$ H
  icases (take4 _) $$ H with ⟨⟨A0, A1⟩, ⟨B0, B1⟩, ⟨C0, C1⟩, D0, D1⟩
  isplitl [A0 A1]
  · isplitl [A0]; · iexists f; iexact A0
    iexists f; iexact A1
  isplitl [B0 B1]
  · isplitl [B0]; · iexists f; iexact B0
    iexists f; iexact B1
  isplitl [C0 C1]
  · isplitl [C0]; · iexists f; iexact C0
    iexists f; iexact C1
  isplitl [D0]; · iexists f; iexact D0
  iexists f; iexact D1

omit [FloatOps F] in
theorem cut_o (c : Dev nD) (f : Vec F S4096x1024 .bf16) : (((c : Thread nD τ).loc main_v1 ↦{fullShare} f) : sProp 𝕄)
    = bigSep Finset.univ fun j : Fin 4 => oA c (oC (bk true j.val c).val) f :=
  Ring.pointsTo_blocks (ℓ := (c : Thread nD τ).loc main_v1) (fun b : Fin 4 => oC (bk true b c).val) (fun b b' h => o_all_disjoint c b b' h) (o_all c) f

omit [FloatOps F] in
theorem cut_s (c : Dev nD) : iprop(∃ f : Vec F S3x1024x1024 .bf16, (c : Thread nD τ).loc cc0_scratch5 ↦{fullShare} f)
    ⊢ (iprop(slOne c 0 ∗ slOne c 1 ∗ slOne c 2) : sProp 𝕄) := by
  iintro ⟨%f, H⟩
  have e : (((c : Thread nD τ).loc cc0_scratch5 ↦{fullShare} f) : sProp 𝕄) = bigSep Finset.univ fun k : Fin 3 => sA c (sK k.val) f :=
    Ring.pointsTo_blocks (ℓ := (c : Thread nD τ).loc cc0_scratch5) (fun k : Fin 3 => sK k.val) (fun b b' h => sK_disjoint b b' h) s_all f
  ihave H := (Entails.of_eq (e.trans (fam3 _))) $$ H
  icases H with ⟨H0, H1, H2⟩
  isplitl [H0]; · iexists f; iexact H0
  isplitl [H1]; · iexists f; iexact H1
  iexists f; iexact H2

/-! ## The buffers joined -/

theorem hS_all (c : Dev nD) :
    Finset.univ.biUnion (fun b : Fin 4 × Bool × Fin 4 => hS b.2.1 (bk b.2.1 b.2.2 c).val b.1) = Finset.univ := by
  ext i
  have h0 := lt0 i; have h1 := lt1 i
  simp only [Finset.mem_biUnion, Finset.mem_univ, true_and, hS, Finset.mem_filter, iff_true]
  obtain ⟨j, hj⟩ := bk_cover (decide ((i 1 : ℕ) < 512)) c ⟨(i 0 : ℕ) / 1024, by show _ < 4; omega⟩
  refine ⟨⟨⟨((i 0 : ℕ) / 256) % 4, Nat.mod_lt _ (by decide)⟩, decide ((i 1 : ℕ) < 512), j⟩, ?_, ?_⟩
  · dsimp only; rw [hj]; dsimp only; omega
  · by_cases hc : (i 1 : ℕ) < 512
    · simp only [hc, decide_true, if_true]; omega
    · simp only [hc, decide_false, Bool.false_eq_true, if_false]; omega

theorem hS_all_disjoint (c : Dev nD) (b b' : Fin 4 × Bool × Fin 4) (h : b ≠ b') :
    Disjoint (hS b.2.1 (bk b.2.1 b.2.2 c).val b.1) (hS b'.2.1 (bk b'.2.1 b'.2.2 c).val b'.1) :=
  hS_disjoint b.1.isLt b'.1.isLt fun e => h (by
    obtain ⟨p, d, j⟩ := b; obtain ⟨p', d', j'⟩ := b'
    dsimp only at e ⊢
    obtain rfl : d = d' := congrArg Prod.fst e
    rw [show p = p' from Fin.ext (congrArg (fun x => x.2.2) e), bk_inj d c j j' (Fin.ext (congrArg (fun x => x.2.1) e))])

/-- A direction's tiles of a piece, of the products' buffer and of the landing buffer, at some contents. -/
abbrev tileE (d : Bool) (c : Dev nD) (p : Fin 4) : sProp 𝕄 :=
  bigSep Finset.univ fun j : Fin 4 => iprop(∃ f, hA c (hS d (bk d j.val c).val p.val) fullShare f)
abbrev slotE (d : Bool) (c : Dev nD) (p : Fin 4) : sProp 𝕄 :=
  bigSep Finset.univ fun k : Fin 3 => iprop(∃ f, rA d c (rS k.val p.val) fullShare f)
/-- The semaphores of its messages, done with. -/
abbrev semsE (d : Bool) (c : Dev nD) (p : Fin 4) : sProp 𝕄 := onMsg (fun k => semVal (kcell (c, some k)) 0) d p

theorem chain_end (d : Bool) (p : Fin 4) (c : Dev nD) : cE I d p c ⊢ iprop(semsE (F := F) d c p ∗ tileE d c p ∗ slotE d c p) := by
  have e6 : bk d 6 c = bk d 2 c := bk_add_four d 2 c
  have e5 : bk d 5 c = bk d 1 c := bk_add_four d 1 c
  have e4 : bk d 4 c = bk d 0 c := bk_add_four d 0 c
  have ed : (dns d p c 6 : sProp 𝕄) = semsE d c p := famSix fun k => iprop(semVal (sndCell c d k p) 0 ∗ semVal (rcvCell c d k p) 0)
  have eo : old I d p c 2 = iprop(sumP I d p c 1 fullShare ∗ sumP I d p c 0 fullShare) := by
    unfold old
    rw [range_push, range_push, Finset.range_zero, bigSep_empty]
    exact congrArg _ (equiv_iff.mp sep_emp)
  show cA d p c 6 iprop(fin I d p c 6 fullShare ∗ rd I d p c 5 ∗ kp I d p c 6) ⊢ _
  unfold cA
  rw [ed, show kp I d p c 6 = iprop(fin I d p c 5 fullShare ∗ fin I d p c 4 fullShare ∗ sumP I d p c 2 fullShare ∗ keep I d p c) from rfl]
  unfold keep
  rw [eo]
  unfold fin
  rw [e6, e5, e4]
  iintro ⟨-, Hd, -, H2, -, H1, H0, S2, H3, S1, S0⟩
  isplitl [Hd]; · iexact Hd
  unfold tileE slotE
  rw [fam4, fam3]
  isplitl [H0 H1 H2 H3]
  · isplitl [H0]; · iexists _; iexact H0
    isplitl [H1]; · iexists _; iexact H1
    isplitl [H2]; · iexists _; iexact H2
    iexists _; iexact H3
  isplitl [S0]; · iexists _; iexact S0
  isplitl [S1]; · iexists _; iexact S1
  iexists _; iexact S2

omit [FloatOps F] in
/-- The tiles of the products' buffer join. -/
theorem join_h (c : Dev nD) (f₀ : Vec F S4096x1024 .bf16) :
    (bigSep Finset.univ fun p : Fin 4 => iprop(tileE (F := F) true c p ∗ tileE false c p)) ⊢ (iprop(∃ f : Vec F S4096x1024 .bf16, (c : Thread nD τ).loc cc0_scratch0 ↦{fullShare} f) : sProp 𝕄) := by
  refine BIBase.Entails.trans (Entails.of_eq ?_) (Ring.pointsTo_blocks_join_exists (ℓ := (c : Thread nD τ).loc cc0_scratch0)
    (fun b : Fin 4 × Bool × Fin 4 => hS b.2.1 (bk b.2.1 b.2.2 c).val b.1) (fun b b' h => hS_all_disjoint c b b' h) (hS_all c) f₀)
  rw [bigSep_univ_prod]
  refine bigSep_congr fun p _ => ?_
  rw [bigSep_univ_prod, famB]; rfl

omit [FloatOps F] in
/-- The tiles of a landing buffer join. -/
theorem join_r (d : Bool) (c : Dev nD) (f₀ : Vec F S3x1024x512 .bf16) :
    (bigSep Finset.univ fun p : Fin 4 => slotE (F := F) d c p) ⊢ (iprop(∃ f, rA d c Finset.univ fullShare f) : sProp 𝕄) := by
  have hd : ∀ b b' : Fin 3 × Fin 4, b ≠ b' → Disjoint (rS b.1 b.2) (rS b'.1 b'.2) := fun b b' h =>
    rS_disjoint fun e => h (Prod.ext (Fin.ext (congrArg Prod.fst e)) (Fin.ext (congrArg Prod.snd e)))
  unfold slotE
  rw [bigSep_univ_comm, ← bigSep_univ_prod (fun b : Fin 3 × Fin 4 => iprop(∃ f, rA d c (rS b.1.val b.2.val) fullShare f))]
  cases d
  · exact Ring.pointsTo_blocks_join_exists (ℓ := (c : Thread nD τ).loc cc0_scratch2) (fun b : Fin 3 × Fin 4 => rS b.1 b.2) hd r_all f₀
  · exact Ring.pointsTo_blocks_join_exists (ℓ := (c : Thread nD τ).loc cc0_scratch1) (fun b : Fin 3 × Fin 4 => rS b.1 b.2) hd r_all f₀

/-- The staging's tiles as the run leaves them: two slots and the pieces of the third. -/
def sT : Fin 2 ⊕ Fin 4 → Finset S3x1024x1024.Idx
  | .inl k => sK k.val
  | .inr p => sP p.val

theorem sT_all : Finset.univ.biUnion sT = Finset.univ := by
  ext i
  have h0 := lt0' i; have h1 := lt1' i
  simp only [Finset.mem_biUnion, Finset.mem_univ, true_and, iff_true]
  by_cases h : (i 0 : ℕ) < 2
  · exact ⟨.inl ⟨i 0, h⟩, by simp [sT, sK]⟩
  · exact ⟨.inr ⟨(i 1 : ℕ) / 256, by omega⟩, by simp only [sT, sP, Finset.mem_filter, Finset.mem_univ, true_and]; exact ⟨by omega, trivial⟩⟩

theorem sT_disjoint (b b' : Fin 2 ⊕ Fin 4) (h : b ≠ b') : Disjoint (sT b) (sT b') := by
  rcases b with k | p <;> rcases b' with k' | p'
  · exact disjoint_filters fun i h1 h2 => h (congrArg Sum.inl (Fin.ext (h1.symm.trans h2)))
  · exact disjoint_filters fun i h1 h2 => by omega
  · exact disjoint_filters fun i h1 h2 => by omega
  · exact disjoint_filters fun i h1 h2 => h (congrArg Sum.inr (Fin.ext (h1.2.symm.trans h2.2)))

omit [FloatOps F] in
theorem join_s (c : Dev nD) (f₀ : Vec F S3x1024x1024 .bf16) :
    iprop(slOne (F := F) c 0 ∗ slOne c 1 ∗ bigSep Finset.univ (spOne (F := F) c))
      ⊢ (iprop(∃ f : Vec F S3x1024x1024 .bf16, (c : Thread nD τ).loc cc0_scratch5 ↦{fullShare} f) : sProp 𝕄) := by
  refine BIBase.Entails.trans ?_ (Ring.pointsTo_blocks_join_exists (ℓ := (c : Thread nD τ).loc cc0_scratch5) sT (fun b b' h => sT_disjoint b b' h) sT_all f₀)
  rw [bigSep_univ_sum, bigSep_fin_two]
  show iprop(slOne (F := F) c 0 ∗ slOne c 1 ∗ bigSep Finset.univ (spOne (F := F) c)) ⊢ iprop((slOne (F := F) c 0 ∗ slOne c 1) ∗ bigSep Finset.univ (spOne (F := F) c))
  iintro ⟨H0, H1, H⟩
  isplitl [H0 H1]
  · isplitl [H0]; · iexact H0
    iexact H1
  iexact H

theorem join_o (c : Dev nD) : (bigSep Finset.univ fun i : Fin 7 => oA c (stDst i.val c) (outC I c))
    ⊢ (((c : Thread nD τ).loc main_v1 ↦{fullShare} outC I c) : sProp 𝕄) := by
  have e : (oA c (oC (bk true (2 : Fin 4).val c).val) (outC I c) : sProp 𝕄) = bigSep Finset.univ fun p : Fin 4 => oA c (oS (bk true 2 c).val p.val) (outC I c) := by
    show oA c (oC (bk true 2 c).val) _ = _
    rw [← oC_pieces]
    exact pointsTo_biUnion (ℓ := (c : Thread nD τ).loc main_v1) _ _ fun p _ p' _ h => oS_disjoint _ p p' h
  rw [cut_o, fam4 (fun j : Fin 4 => oA c (oC (bk true j.val c).val) (outC I c)), e, fam4, fam7]
  iintro ⟨H3, H1, H0, P0, P1, P2, P3⟩
  isplitl [H0]; · iexact H0
  isplitl [H1]; · iexact H1
  isplitl [P0 P1 P2 P3]
  · isplitl [P0]; · iexact P0
    isplitl [P1]; · iexact P1
    isplitl [P2]; · iexact P2
    iexact P3
  iexact H3

/-- The scratch buffers of a device, whole at some contents. -/
def scr (c : Dev nD) : sProp 𝕄 :=
  iprop((∃ f : Vec F S4096x1024 .bf16, (c : Thread nD τ).loc cc0_scratch0 ↦{fullShare} f)
    ∗ (∃ f : Vec F S3x1024x512 .bf16, (c : Thread nD τ).loc cc0_scratch1 ↦{fullShare} f) ∗ (∃ f : Vec F S3x1024x512 .bf16, (c : Thread nD τ).loc cc0_scratch2 ↦{fullShare} f)
    ∗ (∃ f : Vec F S512x1024 .f32, (c : Thread nD τ).loc cc0_scratch3 ↦{fullShare} f) ∗ (∃ f : Vec F S512x1024 .f32, (c : Thread nD τ).loc cc0_scratch4 ↦{fullShare} f)
    ∗ (∃ f : Vec F S3x1024x1024 .bf16, (c : Thread nD τ).loc cc0_scratch5 ↦{fullShare} f))

/-- After the run: the semaphores at zero, the buffers whole again, `x` as it was and the output computed. -/
def doneAt (c : Dev nD) : sProp 𝕄 :=
  iprop(semVal (barCell c) 0 ∗ (bigSep Finset.univ fun k : OK => semVal (kcell (c, some k)) 0) ∗ scr c
    ∗ ((c : Thread nD τ).loc main_arg0 ↦{fullShare} I.X c) ∗ ((c : Thread nD τ).loc main_v1 ↦{fullShare} outC I c))

omit [FloatOps F] in
theorem four_sep (A B C A' B' C' : Fin 4 → sProp 𝕄) :
    (bigSep Finset.univ fun p => iprop((A p ∗ B p ∗ C p) ∗ A' p ∗ B' p ∗ C' p))
      ⊢ iprop((bigSep Finset.univ fun p => iprop(A p ∗ A' p)) ∗ (bigSep Finset.univ fun p => iprop(B p ∗ B' p)) ∗ bigSep Finset.univ C ∗ bigSep Finset.univ C') := by
  rw [← bigSep_sep' Finset.univ C, ← bigSep_sep', ← bigSep_sep']
  refine bigSep_mono fun p _ => ?_
  show iprop((A p ∗ B p ∗ C p) ∗ A' p ∗ B' p ∗ C' p) ⊢ iprop((A p ∗ A' p) ∗ (B p ∗ B' p) ∗ C p ∗ C' p)
  iintro ⟨⟨A, B, C⟩, A', B', C'⟩
  isplitl [A A']; · isplitl [A]; · iexact A
                    iexact A'
  isplitl [B B']; · isplitl [B]; · iexact B
                    iexact B'
  isplitl [C]; · iexact C
  iexact C'

theorem run_end (c : Dev nD) : famOut I c ⊢ iprop(doneAt I c ∗ w1A I c ∗ w2A I c) := by
  have hC : bigSep Finset.univ (chE I c) ⊢ (bigSep Finset.univ fun p => iprop((semsE (F := F) true c p ∗ tileE true c p ∗ slotE true c p)
      ∗ semsE (F := F) false c p ∗ tileE false c p ∗ slotE false c p) : sProp 𝕄) :=
    bigSep_mono fun p _ => BI.sep_mono (chain_end I true p c) (chain_end I false p c)
  unfold famOut doneAt scr
  rw [cut_x, famOK]
  iintro ⟨HL, HC, HS, S0, S1, HP, G0, G1, W1, W2, HB⟩
  have f₀ : ∀ s : Shape, Vec F s .bf16 := fun s => (outC I c <| at_ S4096x1024 fun _ => 0 : Elt F .bf16) |> fun v _ => v
  ihave HL := (Entails.of_eq (show bigSep Finset.univ (ldE I c) = iprop(bigSep Finset.univ (fun i : Fin 8 => xAt I i.val c)
    ∗ bigSep Finset.univ fun i : Fin 8 => (semVal (ldCell c i) 0 : sProp 𝕄)) from bigSep_sep' _ _ _)) $$ HL
  icases HL with ⟨HX, HL⟩
  ihave HS := (Entails.of_eq (show bigSep Finset.univ (stE I c) = iprop(bigSep Finset.univ (fun i : Fin 7 => oA c (stDst i.val c) (outC I c))
    ∗ bigSep Finset.univ fun i : Fin 7 => (semVal (stCell c i) 0 : sProp 𝕄)) from bigSep_sep' _ _ _)) $$ HS
  icases HS with ⟨HO, HS⟩
  ihave HO := (join_o I c) $$ HO
  ihave HC := hC $$ HC
  ihave HC := (four_sep _ _ _ _ _ _) $$ HC
  icases HC with ⟨HM, HT, HR, HR'⟩
  ihave HT := (join_h c (f₀ _)) $$ HT
  ihave HR := (join_r true c (f₀ _)) $$ HR
  ihave HR' := (join_r false c (f₀ _)) $$ HR'
  ihave HP := (join_s c (f₀ _)) $$ [S0 S1 HP]
  · isplitl [S0]; · iexact S0
    isplitl [S1]; · iexact S1
    iexact HP
  isplitr [W1 W2]
  · isplitl [HB]; · iexact HB
    isplitl [HL HS HM]
    · isplitl [HL]; · iexact HL
      isplitl [HS]; · iexact HS
      iexact HM
    isplitl [HT HR HR' G0 G1 HP]
    · isplitl [HT]; · iexact HT
      isplitl [HR]; · iexact HR
      isplitl [HR']; · iexact HR'
      isplitl [G0]; · iexact G0
      isplitl [G1]; · iexact G1
      iexact HP
    isplitl [HX]; · iexact HX
    iexact HO
  isplitl [W1]; · iexact W1
  iexact W2

end Cert.Mlp

end
-- ==== Proof.Tokens.lean ====
/-
# The launch's tokens

At the launch every semaphore gets its invariant and its tokens are dealt: a device keeps the positions of its own
semaphores and gets the tokens of the duties it pays, the landings on its neighbours among them (`payToks`). The units
a device is owed at the launch are those its neighbours owe it (`creds`). With its buffers cut, that is what the run
starts from (`start_run`).
-/
module

public import proofs.«01_k».proof.Proof.Ends

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

omit [FloatOps F] in
theorem fam_mono {T : Type} [Fintype T] {Φ Ψ : T → sProp 𝕄} (h : ∀ i, Φ i ⊢ Ψ i) : bigSep Finset.univ Φ ⊢ bigSep Finset.univ Ψ :=
  bigSep_mono fun i _ => h i

/-! ## Whose semaphore a device pays -/

/-- The neighbours as a permutation of the devices. -/
def ring (d : Bool) : Dev nD ≃ Dev nD where
  toFun := nx d
  invFun := nx (!d)
  left_inv c := back_nx d c
  right_inv c := nx_back d c

/-- The device whose semaphore `k` device `c` pays: a landing is on the neighbour. -/
def destEquiv : OK → (Dev nD ≃ Dev nD)
  | .inr (.inr (false, d, _, _)) => ring d
  | _ => Equiv.refl _

/-- The tokens of the duties of device `c`'s own semaphores, -/
def toks (c : Dev nD) : sProp 𝕄 :=
  iprop(dutyTok ER (barCell c) 0 false ∗ dutyTok ER (barCell c) 0 true ∗ bigSep Finset.univ fun k : OK => dutyTok ER (kcell (c, some k)) 0 false)
/-- and of those it pays. -/
def payToks (c : Dev nD) : sProp 𝕄 :=
  iprop(dutyTok ER (barCell (nx true c)) 0 false ∗ dutyTok ER (barCell (nx false c)) 0 true
    ∗ bigSep Finset.univ fun k : OK => dutyTok ER (kcell (destEquiv k c, some k)) 0 false)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv (ring true) (fun c : Dev nD => (dutyTok ER (barCell c) 0 false : sProp 𝕄)),
    bigSep_univ_equiv (ring false) (fun c : Dev nD => (dutyTok ER (barCell c) 0 true : sProp 𝕄)),
    bigSep_univ_comm (fun (c : Dev nD) (k : OK) => (dutyTok ER (kcell (c, some k)) 0 false : sProp 𝕄)),
    bigSep_univ_comm (fun (c : Dev nD) (k : OK) => (dutyTok ER (kcell (destEquiv k c, some k)) 0 false : sProp 𝕄)),
    bigSep_congr (s := Finset.univ) fun (k : OK) _ => bigSep_univ_equiv (destEquiv k) (fun c : Dev nD => (dutyTok ER (kcell (c, some k)) 0 false : sProp 𝕄))]
  exact BIBase.Entails.refl

/-! ## The launch element -/

def ringCells : Finset (GSem nD τ sig) := Finset.univ.map ⟨kcell, kcell_inj⟩

/-- The duties: of each device, its barrier's two and one of every other semaphore. -/
abbrev tokOf (cj : Dev nD × (Bool ⊕ OK)) : GSem nD τ sig × ℕ × Bool := match cj.2 with
  | .inl b => (barCell cj.1, 0, b)
  | .inr k => (kcell (cj.1, some k), 0, false)

theorem tokOf_inj : Function.Injective tokOf := by
  rintro ⟨c, j⟩ ⟨c', j'⟩ h
  rcases j with b | k <;> rcases j' with b' | k'
  · have h1 := kcell_inj (congrArg Prod.fst h)
    have h2 : b = b' := congrArg (fun x => x.2.2) h
    rw [show c = c' from congrArg Prod.fst h1, h2]
  · exact absurd (congrArg Prod.snd (kcell_inj (congrArg Prod.fst h))) (by simp)
  · exact absurd (congrArg Prod.snd (kcell_inj (congrArg Prod.fst h))) (by simp)
  · have h1 := kcell_inj (congrArg Prod.fst h)
    rw [show c = c' from congrArg Prod.fst h1, Option.some.inj (congrArg Prod.snd h1)]

def ringToks : Finset (GSem nD τ sig × ℕ × Bool) := Finset.univ.map ⟨tokOf, tokOf_inj⟩

def u₀ : UU :=
  (initOf (Pipeline.cells cfgs cellOf_inj) (Pipeline.launchToks cfgs cellOf_inj), initOf ringCells ringToks)

/-- What the launch deals device `c`. -/
def G (c : Dev nD) : sProp 𝕄 :=
  iprop((bigSep Finset.univ fun k : CK => roundState ER (Rd I) (kcell (c, k)) 0)
    ∗ (bigSep Finset.univ fun k : CK => iprop(atPos ER (kcell (c, k)) 0 ∅ 0 ∗ reached ER (kcell (c, k)) 0)) ∗ toks c)

theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_univ_eq_bigSepL [false, true] (by decide) (by decide), bigSepL_cons_cons, bigSepL_singleton]
    exact Entails.antisymm BI.sep_assoc BI.sep_assoc'
  iintro HX
  imod (Rounds.fund ER (Rd I) ringCells ringToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, famCK]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : CK => iprop(∃ κ : ℕ, cellInv ER (Rd I) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd I) (kcell (c, k)) 0)
      ⊢ (|={Set.univ}=> bigSep Finset.univ fun k => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every semaphore's invariant, at names `K`, and that its round is reached. -/
def invs (K : Dev nD × CK → ℕ) : sProp 𝕄 :=
  bigSep Finset.univ fun ck : Dev nD × CK => iprop(cellInv ER (Rd I) (K ck) (kcell ck) ∗ reached ER (kcell ck) 0)

instance invs_persistent (K : Dev nD × CK → ℕ) : BI.Persistent (invs I K) := by unfold invs; infer_instance

/-- What stays with device `c`. -/
def linear (c : Dev nD) : sProp 𝕄 := iprop((bigSep Finset.univ fun k : CK => atPos ER (kcell (c, k)) 0 ∅ 0) ∗ payToks c)

def G' (c : Dev nD) : sProp 𝕄 := iprop(∃ K, invs I K ∗ linear c)

omit [FloatOps F] in
theorem bigSep_with_persistent {T : Type} [DecidableEq T] {S : Finset T} {R : sProp 𝕄} [BI.Persistent R] {Φ Ψ : T → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd I) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' I) := by
  rw [bigSep_sep', bigSep_sep', ← bigSep_univ_prod (fun ck : Dev nD × CK => iprop(∃ κ : ℕ, cellInv ER (Rd I) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, HR⟩, Htok⟩
  ihave HK := (BI.bigSep_exists_pi Finset.univ (fun (ck : Dev nD × CK) (κ : ℕ) => (cellInv ER (Rd I) κ (kcell ck) : sProp 𝕄))) $$ HI
  icases HK with ⟨%K, HI⟩
  ihave Htk := (toks_around (F := F)) $$ Htok
  iapply (bigSep_with_persistent (R := invs I K) (Φ := linear) fun c _ => show iprop(invs I K ∗ linear c) ⊢ G' I c from by
    unfold G'; iintro H; iexists K; iexact H)
  isplitl [HI HR]
  · unfold invs; rw [bigSep_sep']
    isplitl [HI]; · iexact HI
    iexact HR
  · unfold linear; rw [bigSep_sep']
    isplitl [Hat]; · iexact Hat
    iexact Htk

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

theorem kcell_iff {a b : Dev nD} {k k' : CK} : kcell (a, k) = kcell (b, k') ↔ a = b ∧ k = k' :=
  ⟨fun h => ⟨congrArg Prod.fst (kcell_inj h), congrArg Prod.snd (kcell_inj h)⟩, fun h => by rw [h.1, h.2]⟩

theorem nx_eq_iff (d : Bool) (e c : Dev nD) : nx d e = c ↔ e = nx (!d) c :=
  ⟨fun h => by rw [← h, back_nx], fun h => by rw [h, nx_back]⟩

/-- What of direction `d'`'s landings device `e` owes at a landing of `c`. -/
theorem owed_msg (e c : Dev nD) (d d' : Bool) (k : Fin 6) (p : Fin 4) :
    remO e d' 0 (rcvCell c d k p) () = if d' = d then (if e = nx (!d) c then nMsg else 0) else 0 := by
  unfold remO
  rw [Finset.sum_apply, Finsupp.finset_sum_apply]
  have hc (n : ℕ) : (tallyAt (rcvCell (nx d' e) d' (msgK n) (msgP n)) () nMsg : CellTallies nD τ sig Unit) (rcvCell c d k p) ()
      = if nx d' e = c ∧ d' = d ∧ msgK n = k ∧ msgP n = p then nMsg else 0 := by
    rw [tallyAt_apply]
    refine if_congr ?_ rfl rfl
    rw [kcell_iff]
    simp only [rcvK, Option.some.injEq, Sum.inr.injEq, Prod.mk.injEq, true_and, and_true]
    constructor
    · rintro ⟨h1, h2, h3, h4⟩; exact ⟨h1.symm, h2.symm, h3.symm, h4.symm⟩
    · rintro ⟨h1, h2, h3, h4⟩; exact ⟨h1.symm, h2.symm, h3.symm, h4.symm⟩
  simp only [hc]
  by_cases hd : d' = d
  · subst hd
    by_cases he : e = nx (!d') c
    · rw [if_pos rfl, if_pos he, Finset.sum_eq_single (4 * k.val + p.val)]
      · exact if_pos ⟨(nx_eq_iff _ _ _).mpr he, rfl, by unfold msgK; exact Fin.ext (by show (4 * k.val + p.val) / 4 % 6 = _; omega), by
          unfold msgP; exact Fin.ext (by show (4 * k.val + p.val) % 4 = _; omega)⟩
      · intro n hn hne
        have hn := Finset.mem_Ico.mp hn
        refine if_neg fun h => hne ?_
        have h1 : n / 4 % 6 = k.val := congrArg Fin.val h.2.2.1
        have h2 : n % 4 = p.val := congrArg Fin.val h.2.2.2
        omega
      · intro h; exact absurd (Finset.mem_Ico.mpr ⟨Nat.zero_le _, by omega⟩) h
    · rw [if_pos rfl, if_neg he]
      exact Finset.sum_eq_zero fun n _ => if_neg fun h => he ((nx_eq_iff _ _ _).mp h.1)
  · rw [if_neg hd]
    exact Finset.sum_eq_zero fun n _ => if_neg fun h => hd h.2.1

theorem owed_none (e c : Dev nD) (d : Bool) : remO e d 0 (barCell c) () = 0 := by
  unfold remO
  rw [Finset.sum_apply, Finsupp.finset_sum_apply]
  refine Finset.sum_eq_zero fun n _ => ?_
  rw [tallyAt_apply]
  exact if_neg fun h => by have := (kcell_iff.mp h.1).2; simp at this

theorem owed_bar (e c : Dev nD) : O₀ e (barCell c) () = (if e = nx false c then 1 else 0) + (if e = nx true c then 1 else 0) := by
  unfold O₀ rem2
  rw [Pi.add_apply, Finsupp.add_apply, Pi.add_apply, Finsupp.add_apply, Pi.add_apply, Finsupp.add_apply, owed_none, owed_none, tallyAt_apply, tallyAt_apply]
  simp only [kcell_iff, and_true, Nat.zero_add]
  congr 1
  · exact if_congr (by rw [eq_comm, nx_eq_iff]; rfl) rfl rfl
  · exact if_congr (by rw [eq_comm, nx_eq_iff]; rfl) rfl rfl

theorem owed_rcv (e c : Dev nD) (d : Bool) (k : Fin 6) (p : Fin 4) : O₀ e (rcvCell c d k p) () = if e = nx (!d) c then nMsg else 0 := by
  unfold O₀ rem2
  rw [Pi.add_apply, Finsupp.add_apply, Pi.add_apply, Finsupp.add_apply, Pi.add_apply, Finsupp.add_apply, owed_msg, owed_msg, tallyAt_apply, tallyAt_apply]
  simp only [kcell_iff, reduceCtorEq, and_false, false_and, if_false, Nat.add_zero]
  cases d <;> simp

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun e _ => owed_bar e c, Finset.sum_add_distrib,
    Finset.sum_ite_eq' Finset.univ (nx false c) fun _ => 1, Finset.sum_ite_eq' Finset.univ (nx true c) fun _ => 1, if_pos (Finset.mem_univ _), if_pos (Finset.mem_univ _)]

theorem launch_rcv (c : Dev nD) (d : Bool) (k : Fin 6) (p : Fin 4) :
    tallyOn (rcvCell c d k p) (launchCredit (Pipeline.owing O₀) 0 (rcvCell c d k p)) = (tallyAt (rcvCell c d k p) () nMsg : CellTallies nD τ sig Unit) := by
  unfold tallyAt; refine congrArg _ (Finsupp.ext fun u => ?_); cases u
  rw [Pipeline.launchCredit_owing, Finsupp.single_eq_same, Finset.sum_congr rfl fun e _ => owed_rcv e c d k p,
    Finset.sum_ite_eq' Finset.univ (nx (!d) c) fun _ => nMsg, if_pos (Finset.mem_univ _)]

/-- The semaphores a device is owed at: the barrier and the landings. -/
def owedAt : Option (Bool × Fin 6 × Fin 4) ↪ SemLoc sig where
  toFun
    | none => csem none
    | some (d, k, p) => csem (rcvK d k p)
  inj' a b h := by
    rcases a with _ | ⟨d, k, p⟩ <;> rcases b with _ | ⟨d', k', p'⟩
    · rfl
    · exact absurd (csem_inj h) (by simp)
    · exact absurd (csem_inj h) (by simp)
    · have := csem_inj h
      simp only [rcvK, Option.some.injEq, Sum.inr.injEq, Prod.mk.injEq, true_and] at this
      rw [this.1, this.2.1, this.2.2]

omit [FloatOps F] in
theorem creds (c : Dev nD) : (Pipeline.launchCred O₀ c : sProp 𝕄)
    ⊢ iprop((bigSep Finset.univ fun x : Bool × Fin 6 × Fin 4 => cred (tallyAt (rcvCell c x.1 x.2.1 x.2.2) () nMsg)) ∗ cred (tallyAt (barCell c) () 2)) := by
  unfold Pipeline.launchCred
  classical
  refine fun a h => ?_
  have h := bigSep_subset (Finset.subset_univ (Finset.univ.map owedAt)) a h
  revert h
  refine Eq.mp (congrArg (fun P : sProp 𝕄 => P a → _) (Eq.symm ?_)) id
  rw [bigSep_map, bigSep_univ_equiv (Equiv.optionEquivSumPUnit.{0} (Bool × Fin 6 × Fin 4)).symm, bigSep_univ_sum, bigSep_univ_of_subsingleton PUnit.unit]
  refine congrArg₂ BI.sep (bigSep_congr fun x _ => ?_) ?_
  · obtain ⟨d, k, p⟩ := x
    exact congrArg cred (launch_rcv c d k p)
  · exact congrArg cred (launch_bar c)

/-! ## The start of the run -/

omit [FloatOps F] in
theorem tks_start (d : Bool) (c : Dev nD) (p : Fin 4) :
    iprop(onMsg (fun k => (atPos ER (kcell (c, some k)) 0 ∅ 0 : sProp 𝕄)) d p ∗ onMsg (fun k => dutyTok ER (kcell (destEquiv k c, some k)) 0 false) d p
      ∗ bigSep Finset.univ fun k : Fin 6 => cred (tallyAt (rcvCell c d k p) () nMsg)) ⊢ (tks d p c 0 : sProp 𝕄) := by
  have e : (tks d p c 0 : sProp 𝕄) = bigSep Finset.univ fun k => tick d p c k := by
    unfold tks
    rw [show Finset.Ico 0 6 = Finset.range 6 from by decide]
    exact famSix _
  rw [e]
  unfold onMsg
  rw [← bigSep_sep', ← bigSep_sep']
  refine fam_mono fun k => ?_
  unfold tick tok flying
  iintro ⟨⟨A1, A2⟩, ⟨D1, D2⟩, C⟩
  isplitl [D1 A1]
  · isplitl [D1]; · iexact D1
    iexact A1
  isplitl [D2]; · iexact D2
  isplitl [C]; · iexact C
  iexact A2

/-- All that device `c` starts with but the staging of the windows. -/
def begin (c : Dev nD) : sProp 𝕄 :=
  iprop(linear c ∗ Pipeline.launchCred O₀ c ∗ scr c
    ∗ ((c : Thread nD τ).loc main_arg0 ↦{fullShare} I.X c) ∗ (∃ f : Vec F S4096x1024 .bf16, (c : Thread nD τ).loc main_v1 ↦{fullShare} f))

theorem start_run (c : Dev nD) : begin I c ⊢ iprop(barIn c ∗ famIn I c ∗ (∃ f, gA false c f) ∗ (∃ f, gA true c f)) := by
  unfold begin linear payToks scr barIn famIn
  rw [famCK, famOK, famOK, cut_x]
  iintro ⟨⟨⟨AB, AL, AS, AM⟩, DF, DT, DL, DS, DM⟩, HC, ⟨H0, H1, H2, H3, H4, H5⟩, HX, ⟨%f, HO⟩⟩
  ihave HC := (creds c) $$ HC
  icases HC with ⟨CM, CB⟩
  ihave CM := (Entails.of_eq (famRcv fun x : Bool × Fin 6 × Fin 4 => (cred (tallyAt (rcvCell c x.1 x.2.1 x.2.2) () nMsg) : sProp 𝕄))) $$ CM
  ihave H0 := (cut_h c) $$ H0
  icases H0 with ⟨Q0, Q1, Q2, Q3⟩
  ihave H5 := (cut_s c) $$ H5
  icases H5 with ⟨S0, S1, S2⟩
  ihave HO := (Entails.of_eq (cut_o c f)) $$ HO
  isplitl [DF DT CB AB H1 H2]
  · isplitl [DT]; · iexact DT
    isplitl [DF]; · iexact DF
    isplitl [CB]; · iexact CB
    isplitl [AB]; · iexact AB
    isplitl [H1]; · iexact H1
    iexact H2
  isplitr [H3 H4]
  · isplitl [HX AL DL]
    · iapply (show iprop(bigSep Finset.univ (fun i : Fin 8 => xAt I i.val c) ∗ bigSep Finset.univ (fun i : Fin 8 => (atPos ER (kcell (c, ldK i)) 0 ∅ 0 : sProp 𝕄))
          ∗ bigSep Finset.univ (fun i : Fin 8 => (dutyTok ER (kcell (c, ldK i)) 0 false : sProp 𝕄))) ⊢ bigSep Finset.univ (ldOne I c) from by
        rw [← bigSep_sep', ← bigSep_sep']
        refine fam_mono fun i => ?_
        unfold ldOne tok
        iintro ⟨X, A, D⟩
        isplitl [X]; · iexact X
        isplitl [D]; · iexact D
        iexact A)
      isplitl [HX]; · iexact HX
      isplitl [AL]; · iexact AL
      iexact DL
    isplitl [Q0]; · iexact Q0
    isplitl [Q1]; · iexact Q1
    isplitl [Q2]; · iexact Q2
    isplitl [Q3]; · iexact Q3
    isplitl [AM DM CM]
    · iapply (show iprop(bigSep Finset.univ (fun p : Fin 4 => iprop(onMsg (fun k => (atPos ER (kcell (c, some k)) 0 ∅ 0 : sProp 𝕄)) true p ∗ onMsg (fun k => (atPos ER (kcell (c, some k)) 0 ∅ 0 : sProp 𝕄)) false p))
          ∗ bigSep Finset.univ (fun p : Fin 4 => iprop(onMsg (fun k => (dutyTok ER (kcell (destEquiv k c, some k)) 0 false : sProp 𝕄)) true p ∗ onMsg (fun k => (dutyTok ER (kcell (destEquiv k c, some k)) 0 false : sProp 𝕄)) false p))
          ∗ bigSep Finset.univ (fun p : Fin 4 => iprop(bigSep Finset.univ (fun k : Fin 6 => (cred (tallyAt (rcvCell c true k p) () nMsg) : sProp 𝕄)) ∗ bigSep Finset.univ (fun k : Fin 6 => (cred (tallyAt (rcvCell c false k p) () nMsg) : sProp 𝕄)))))
          ⊢ bigSep Finset.univ (chOne (F := F) c) from by
        rw [← bigSep_sep', ← bigSep_sep']
        refine fam_mono fun p => ?_
        iintro ⟨⟨A, A'⟩, ⟨D, D'⟩, C, C'⟩
        isplitl [A D C]
        · iapply (tks_start true c p)
          isplitl [A]; · iexact A
          isplitl [D]; · iexact D
          iexact C
        iapply (tks_start false c p)
        isplitl [A']; · iexact A'
        isplitl [D']; · iexact D'
        iexact C')
      isplitl [AM]; · iexact AM
      isplitl [DM]; · iexact DM
      iexact CM
    isplitl [AS DS]
    · iapply (show iprop(bigSep Finset.univ (fun i : Fin 7 => (atPos ER (kcell (c, stK i)) 0 ∅ 0 : sProp 𝕄))
          ∗ bigSep Finset.univ (fun i : Fin 7 => (dutyTok ER (kcell (c, stK i)) 0 false : sProp 𝕄))) ⊢ bigSep Finset.univ (stOne (F := F) c) from by
        rw [← bigSep_sep']
        refine fam_mono fun i => ?_
        unfold stOne tok
        iintro ⟨A, D⟩
        isplitl [D]; · iexact D
        iexact A)
      isplitl [AS]; · iexact AS
      iexact DS
    isplitl [S0]; · iexact S0
    isplitl [S1]; · iexact S1
    isplitl [S2]; · iexact S2
    iapply (fam_mono fun j : Fin 4 => show (oA c (oC (bk true j.val c).val) f : sProp 𝕄) ⊢ ouOne c j from by
      iintro H; iexists f; iexact H)
    iexact HO
  isplitl [H3]; · iexact H3
  iexact H4

end Cert.Mlp

end
-- ==== Proof.Launch.lean ====
/-
# The whole run

The proof data of the kernel's one region, its body by `walk`, and the launch. The result (`run_main`): from any
memory with zero counters every execution ends, and then every device's arguments are what they were, its output is
`outC`, and every semaphore counter is zero.
-/
module

public import proofs.«01_k».proof.Proof.Tokens
public import Idealize.ShloMosaic.Lib.Pipeline.CollectiveSegs

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

/-- The devices' arguments in the memory at the start. -/
def inp : Inp F where
  X c := m ((c : Thread nD τ).loc main_arg0)
  W1 c := (win0_0.blk (0 : Fin 1)).view.read (Elt F) (m ((c : Thread nD τ).loc main_arg1))
  W2 c := (win0_1.blk (0 : Fin 1)).view.read (Elt F) (m ((c : Thread nD τ).loc main_arg2))

/-- Before the run: the invariants, the levels, and all the device starts with. -/
def Φ₀ (c : Dev nD) : sProp 𝕄 := iprop((∃ K, recs (inp m) K) ∗ begin (inp m) c)
/-- After the run. -/
def Φ₁ (c : Dev nD) : sProp 𝕄 := doneAt (inp m) c

def dats (_ : Fin 1) (c : Dev nD) : Dat τ (Elt F) Unit ℕ UU ℕ cfg0 c where
  A w := m ((cfg0.win w).arr.view.loc (c : Thread nD τ))
  after w _ := match w with
    | ⟨0, _⟩ => (inp m).W1 c
    | ⟨1, _⟩ => (inp m).W2 c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A window's staging buffer at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ m c ∗ (dats m 0 c).owesAt () t0_0.succ
    ∗ stg c cc0_stg0_0 ((inp m).W1 c) ∗ stg c cc0_stg1_0 ((inp m).W2 c))

theorem fetch_0 : (cfg0.win (0 : Fin 2)).fetch t0_0 = true := by rfl
theorem fetch_1 : (cfg0.win (1 : Fin 2)).fetch t0_0 = true := by rfl

set_option maxRecDepth 16000 in
theorem sound_body (c : Dev nD) : bodyPre m c ⊢ WP c (cc0__body xM (Memref.isWhole_whole _) w1M (Memref.isWhole_whole _) w2M (Memref.isWhole_whole _)
    outM (Memref.isWhole_whole _) hM (Memref.isWhole_whole _) rrM (Memref.isWhole_whole _) rlM (Memref.isWhole_whole _) xaM (Memref.isWhole_whole _)
    xbM (Memref.isWhole_whole _) osM (Memref.isWhole_whole _)
    cc0_scratch6 cc0_scratch7 cc0_scratch8 cc0_scratch9 cc0_scratch10 cc0_scratch11 cc0_scratch12 cc0_scratch13 cc0_scratch14 cc0_scratch15)
    (fun _ => bodyPost m c) := by
  unfold bodyPre Φ₀
  iintro ⟨⟨⟨%K, #HR⟩, HB⟩, Ho, ⟨%d0, %g0, %hg0, H0⟩, ⟨%d1, %g1, %hg1, H1⟩⟩
  have hx0 : g0 = (inp m).W1 c := by
    rw [hg0]; unfold Dat.before; rw [if_pos fetch_0]; rfl
  have hx1 : g1 = (inp m).W2 c := by
    rw [hg1]; unfold Dat.before; rw [if_pos fetch_1]; rfl
  subst hx0 hx1
  unfold Dat.owesAt Pipeline.owesWithin
  icases Ho with ⟨%W, %hW, HO⟩
  rw [show (dats m 0 c).owed t0_0.castSucc = O₀ c from rfl]
  ihave HB := (start_run (inp m) c) $$ HB
  icases HB with ⟨HB, HF, G0, G1⟩
  iapply (walk (inp m) K c W (fun _ => bodyPost m c)) $$ HR HO HB HF G0 G1 H0 H1
  iintro HF HO
  ihave HF := (run_end (inp m) c) $$ HF
  icases HF with ⟨HD, H0, H1⟩
  unfold bodyPost Φ₁ Dat.owesAt Pipeline.owesWithin ow rem2
  icases HO with ⟨%W', HO⟩
  rw [remO_end, remO_end, show (dats m 0 c).owed t0_0.succ = 0 from rfl, add_zero]
  isplitl [HD]; · iexact HD
  isplitl [HO]
  · iexists W'; isplitr
    · ipureintro; exact fun _ _ => Or.inl trivial
    iexact HO
  isplitl [H0]
  · iexists _; isplitr; · (ipureintro; rfl)
    iexact H0
  iexists _; isplitr; · (ipureintro; rfl)
  iexact H1

set_option maxRecDepth 16000 in
/-- The region's obligation on device `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  exact sound_body m c

/-! ## The launch's side conditions -/

theorem ownSemFacts : Pipeline.OwnSemFacts cfg0.spec osem where
  isScoped := by decide +kernel
  inj k k' h := Option.some.inj (csem_inj (k := some k) (k' := some k') h)
  disj := by decide +kernel

theorem share_eq (c : Dev nD) (w : Fin cfg0.W) : (dats m 0 c).share w = fullShare := by unfold Dat.share; split <;> rfl

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What the launch hands to the region beside the scratch buffers. -/
def start (c : Dev nD) : sProp 𝕄 :=
  iprop((∃ K, recs (inp m) K) ∗ linear c ∗ Pipeline.launchCred O₀ c
    ∗ ((c : Thread nD τ).loc main_arg0 ↦{fullShare} (inp m).X c) ∗ (∃ f : Vec F S4096x1024 .bf16, (c : Thread nD τ).loc main_v1 ↦{fullShare} f))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start m c ∗ emp) := by
  unfold start G'
  iintro ⟨Hm, Hlev, Hcr, -, ⟨%K, HI, HG⟩⟩
  ihave Hm := (Entails.of_eq (show Pipeline.unscopedRestP Pipeline.Prefetch.none cfg0.spec c (fun b => m ((c : Thread nD τ).loc b))
    = iprop((((c : Thread nD τ).loc main_arg0) ↦{fullShare} m ((c : Thread nD τ).loc main_arg0)) ∗ (((c : Thread nD τ).loc main_v1) ↦{fullShare} m ((c : Thread nD τ).loc main_v1)) : sProp 𝕄) from by
      rw [Pipeline.unscopedRestP_none]; exact unscopedRest0_eq c fun b => m ((c : Thread nD τ).loc b))) $$ Hm
  icases Hm with ⟨HX, HO⟩
  imodintro
  isplitl
  · isplitl [HI Hlev]
    · iexists K; unfold recs invs
      isplitl [HI]; · iexact HI
      iexact Hlev
    isplitl [HG]; · iexact HG
    isplitl [Hcr]; · iexact Hcr
    isplitl [HX]; · iexact HX
    iexists _; iexact HO
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ begin start scr
  iintro ⟨⟨HR, HL, HC, HX, HO⟩, -, HS⟩
  ihave HS := (Entails.of_eq (scopedRest0_eq c)) $$ HS
  isplitl [HR]; · iexact HR
  isplitl [HL]; · iexact HL
  isplitl [HC]; · iexact HC
  isplitl [HS]; · iexact HS
  isplitl [HX]; · iexact HX
  iexact HO

/-- What a device is left with besides its scratch buffers and own semaphores. -/
def left (c : Dev nD) : sProp 𝕄 :=
  iprop(unscopedSems0 c ∗ ((c : Thread nD τ).loc main_arg0 ↦{fullShare} (inp m).X c) ∗ ((c : Thread nD τ).loc main_v1 ↦{fullShare} outC (inp m) c))

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl]
  unfold Φ₁ doneAt left Pipeline.ownSems0
  rw [unscopedSems0_eq]
  iintro ⟨HB, HS, HR, HX, HO⟩
  isplitl [HB HX HO]
  · isplitl [HB]; · iexact HB
    isplitl [HX]; · iexact HX
    iexact HO
  isplitl [HS]; · iexact HS
  iapply (Entails.of_eq (scopedRest0_eq c).symm)
  unfold scr
  iexact HR

/-- One whole buffer read against the machine's state. -/
theorem read_whole (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := UU) (Lvl := ℕ) (Finset.univ : Finset Unit) (fun _ => ℓ) (fun _ => f) s'
  rw [bigSep_univ_of_subsingleton ()] at h
  iintro H
  ihave H := h $$ H
  icases H with ⟨%e, H⟩
  isplitr; · ipureintro; exact e () (Finset.mem_univ _)
  iexact H

/-- What the memory holds on device `c` at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_v1) = outC (inp m) c

theorem left_read (c : Dev nD) (s' : Phys nD τ sig (Elt F)) :
    iprop(left m c ∗ emp ∗ SI s') ⊢ |={Set.univ}=> iprop(⌜QY m c s'.mem⌝ ∗ SI s') := by
  unfold left
  iintro ⟨⟨Hu, HX, HO⟩, -, HSI⟩
  imod (Pipeline.unscopedSems0_read (X := unscopedSems0 c) (c := c) fupd_intro s') $$ [Hu HSI] with ⟨%h0, HSI⟩
  · isplitl [Hu] <;> iassumption
  ihave H := (read_whole _ _ s') $$ [HX HSI]
  · isplitl [HX] <;> iassumption
  icases H with ⟨%h1, HSI⟩
  ihave H := (read_whole _ _ s') $$ [HO HSI]
  · isplitl [HO] <;> iassumption
  icases H with ⟨%h2, HSI⟩
  imodintro
  isplitr; · ipureintro; exact ⟨h0, h1, h2⟩
  iexact HSI

/-! ## The run -/

/-- The final state: every counter at zero, the arguments as they were, the output computed. -/
def Final (s : MemSt nD τ sig (Elt F)) : Prop :=
  (s.sem = fun _ => 0) ∧ ∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v1) = outC (inp m) c

set_option maxRecDepth 16000 in
theorem run_main : θ_run defs (onTc (τ := τ) (main (F := F))) (s₀ m ρ) (fun r => Final m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => block_pos0 w) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (inp m)) (G' := G' (inp m)) (u₀ := u₀)
    (hu₀ := by
      unfold u₀
      iintro Hu
      ihave H := (ownU_pair _ _) $$ Hu
      icases H with ⟨HP, HX⟩
      imod (fund_ring (inp m)) $$ HX with HG
      imodintro
      isplitl [HP] <;> iassumption)
    (hglob := glob (inp m))
    (hA := fun _ _ => rfl) (hpf := fun _ k => k.elim0)
    (X := start m) (Y := left m) (Z := fun _ => iprop(emp))
    (hX := start_intro m ρ) (hin := phi0_intro m) (hout := phi1_exit m)
    (QY := QY m)
    (hY := left_read m)
    (hQ := fun s h hs => ⟨sem_eq_zero hs fun c => (h c).2.2.1, fun c => ⟨(h c).2.2.2.1,
      ((h c).1 (0 : Fin 2)).trans ((dats m 0 c).arrAt_in (0 : Fin 2) rfl _),
      ((h c).1 (1 : Fin 2)).trans ((dats m 0 c).arrAt_in (1 : Fin 2) rfl _), (h c).2.2.2.2⟩⟩)

end Cert.Mlp

end
-- ==== Proof.Frames.lean ====
/-
# The frames

Kernel and ideal kernel are one text, so the run, written for any float values, is the run of either. The reference
runs on the host alone, its run read back operation by operation.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Mlp

open Idealize.ShloMosaic Idealize.SL.Sem
open Cert.KernelIdeal

variable {F : FTy → Type} [FloatOps F]

/-- Of a run: the arguments are unchanged and every counter is zero. -/
def Quiet (m : (ℓ : Loc nD τ sig) → Buf (Elt F) ℓ) (s : MemSt nD τ sig (Elt F)) : Prop :=
  (∀ c : Dev nD, s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2))
  ∧ s.sem = fun _ => 0

attribute [local instance] Cert.Kernel.Gen.facts Cert.KernelIdeal.Gen.facts Cert.ReferenceIdeal.Gen.facts

theorem run_quiet (m : (ℓ : Loc nD τ sig) → Buf (Elt F) ℓ) (ρ : Dev nD → PrngReg) :
    θ_run defs (onTc (τ := τ) (main (F := F))) ⟨m, fun _ => 0, ρ⟩ (fun r => Quiet m r.2) :=
  (θ_run defs _ _).mono (fun _ h => ⟨fun c => ⟨(h.2 c).1, (h.2 c).2.1, (h.2 c).2.2.1⟩, h.1⟩) (run_main m ρ)

/-- The frame of the ideal kernel. -/
theorem frame_kernelIdeal : Cert.quiescent_KernelIdeal := fun m ρ _ => run_quiet (F := Ideal) m ρ

/-- The two body tables are one: label by label, the bodies are the same text. -/
theorem defs0_eq : Cert.Kernel.defs₀ (F := F) = Cert.KernelIdeal.defs₀ := by
  unfold Cert.Kernel.defs₀ Cert.KernelIdeal.defs₀
  refine congrArg Defs.onTc ?_
  funext ℓ a
  obtain ⟨ℓ, h⟩ := ℓ
  match ℓ, h, a with
  | 0, _, (_, _) => rfl

theorem defs_eq : Cert.Kernel.defs (F := F) = Cert.KernelIdeal.defs := congrArg (Pipeline.defs Cert.KernelIdeal.pcfgs) defs0_eq

/-- The frame of the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The frame of the kernel. -/
theorem frame_kernel : Cert.quiescent_Kernel := fun m ρ _ =>
  (congrArg (fun D => θ_run D (onTc (τ := τ) (main (F := Bits))) ⟨m, fun _ => 0, ρ⟩ (fun r => Quiet m r.2)) defs_eq).mpr
    (run_quiet (F := Bits) m ρ)

end Cert.Mlp

end
-- ==== Proof.Sums.lean ====
/-
# The values over the reals

Over the extended reals a change of format is the identity and a product on the matrix unit is the plain sum of
products. So the device's own product is a sum over its 1024 columns of `x`, the finished sum is that summed over
the four devices, in whatever order the ring met them, and every block of the output, in each of the four ways
the kernel computes one, is the finished sum times `W2`: the first 512 hidden columns and the last 512.
-/
module

public import proofs.«01_k».proof.Proof.Vals
public import Idealize.ShloMosaic.Lib.MatmulPlain

@[expose] public section

noncomputable section

namespace Cert.Mlp

open Cert.KernelIdeal Cert.KernelIdeal.Gen
open Idealize.ShloMosaic
open scoped BigOperators

/-- A product into a zero accumulator is the sum of products. -/
theorem matmul_at {M K N : ℕ} [Full ⟨2, ![M, K]⟩] [Full ⟨2, ![K, N]⟩] {φ₁ φ₂ : FTy} (prec : Option ContractPrecision)
    (lhs : FVec Ideal ⟨2, ![M, K]⟩ φ₁) (rhs : FVec Ideal ⟨2, ![K, N]⟩ φ₂) (j : (⟨2, ![M, N]⟩ : Shape).Idx) :
    matmul (DotDims.plain M K N) prec lhs rhs (constant ⟨2, ![M, N]⟩ .f32 0x00000000#32) j
      = ∑ k : Fin K, lhs (at_ ⟨2, ![M, K]⟩ ![(j 0).val, k.val]) * rhs (at_ ⟨2, ![K, N]⟩ ![k.val, (j 1).val]) := by
  obtain ⟨x, y, rfl⟩ : ∃ (x : Fin M) (y : Fin N), j = ValueIdx.ix2 x y := ⟨j 0, j 1, ValueIdx.eq_ix2 j⟩
  refine (Ideal.matmul_plain_apply prec lhs rhs _ x y).trans ?_
  rw [show (constant (F := Ideal) ⟨2, ![M, N]⟩ .f32 0x00000000#32) (ValueIdx.ix2 x y) = 0 from Ideal.ofBits_zero_f32, zero_add]
  refine Finset.sum_congr rfl fun k _ => ?_
  rw [eq_at2 (ValueIdx.ix2 x k) x.val k.val rfl rfl, eq_at2 (ValueIdx.ix2 k y) k.val y.val rfl rfl]
  rfl

/-- A shape cast to the same shape changes nothing. -/
theorem cast_same {α : Type} {s : Shape} (v : s.Idx → α) (h : s.ShapeCasts s) : shapeCast s v h = v :=
  funext fun i => congrArg v (Shape.reshapeEquiv_self h i)

/-- A unit axis put in front and dropped again. -/
theorem cast_back {α : Type} {a b : ℕ} [Full ⟨2, ![a, b]⟩] [Full ⟨3, ![1, a, b]⟩] (x : (⟨2, ![a, b]⟩ : Shape).Idx → α) (h) (h') :
    shapeCast ⟨2, ![a, b]⟩ (shapeCast ⟨3, ![1, a, b]⟩ x h) h' = x := by
  funext j
  rw [cast_drop, cast_add]
  refine congrArg x (eq_at2 j _ _ ?_ ?_).symm
  · exact (at3_1 (lt0 j)).symm
  · exact (at3_2 (lt1 j)).symm

theorem dot1_plain : dot_S512x1024_S1024x1024_S512x1024_1_0_0_1_n_n = DotDims.plain 512 1024 1024 := rfl
theorem dot2_plain : dot_S1024x512_S512x1024_S1024x1024_1_0_0_1_n_n = DotDims.plain 1024 512 1024 := rfl
theorem dot3_plain : dot_S256x512_S512x1024_S256x1024_1_0_0_1_n_n = DotDims.plain 256 512 1024 := rfl

variable (I : Inp Ideal)

/-- The device's own product. -/
theorem hP_sum (c : Dev nD) (i : S4096x1024.Idx) :
    hP I c i = ∑ k : Fin 1024, I.X c (at_ S4096x1024 ![(i 0).val, k.val]) * I.W1 c (at_ S1024x1024 ![k.val, (i 1).val]) := by
  have h0 := lt0 i; have h1 := lt1 i
  unfold hP k0_pay1
  rw [cast_same, cast_same, dot1_plain]
  refine (matmul_at (φ₁ := .bf16) (φ₂ := .bf16) none (M := 512) (K := 1024) (N := 1024) _ _ _).trans (Finset.sum_congr rfl fun k _ => ?_)
  have e0 : ((at_ S512x1024 ![(i 0).val % 512, (i 1).val]) 0 : ℕ) = (i 0).val % 512 := at2_0 (by omega)
  have e1 : ((at_ S512x1024 ![(i 0).val % 512, (i 1).val]) 1 : ℕ) = (i 1).val := at2_1 h1
  rw [e0, e1]
  refine congrArg (· * _) ?_
  show I.X c _ = I.X c _
  refine congrArg (I.X c) (at2_congr ?_ ?_)
  · rw [show ((at_ S512x1024 ![(i 0).val % 512, k.val]) 0 : ℕ) = (i 0).val % 512 from at2_0 (by omega)]; omega
  · exact at2_1 k.isLt

/-- The devices behind one are all the devices. -/
theorem sum_ring {M : Type} [AddCommMonoid M] (d : Bool) (c : Dev nD) (f : Dev nD → M) :
    f (bk d 3 c) + f (bk d 2 c) + f (bk d 1 c) + f c = ∑ e, f e := by
  have hb : Function.Bijective (fun j : Fin 4 => bk d j c) :=
    (Finite.injective_iff_bijective).mp fun a b h => bk_inj d c a b h
  rw [← hb.sum_comp f, Fin.sum_univ_four]
  show _ = f c + f (bk d 1 c) + f (bk d 2 c) + f (bk d 3 c)
  ac_rfl

/-- The finished sum is the sum over the devices. -/
theorem hT_sum (i : S4096x1024.Idx) : hT I i = ∑ e : Dev nD, hP I e i := by
  have h0 := lt0 i; have h1 := lt1 i
  unfold hT
  generalize hd : decide ((i 1).val < 512) = d
  generalize hq : devOf ((i 0).val / 1024) = q
  have eq : bk d 3 (bk d 1 q) = q := bk_four d q
  have hv : q.val = (i 0).val / 1024 := by rw [← hq]; exact Nat.mod_eq_of_lt (by omega)
  have hb : ∀ e, hblk I d e q.val (at_ S1024x512 ![(i 0).val % 1024, (i 1).val % 512]) = hP I e i := fun e => by
    unfold hblk
    refine congrArg (hP I e) (eq_at2 i _ _ ?_ ?_).symm
    · rw [show ((at_ S1024x512 ![(i 0).val % 1024, (i 1).val % 512]) 0 : ℕ) = (i 0).val % 1024 from at2_0 (by omega), hv]; omega
    · rw [show ((at_ S1024x512 ![(i 0).val % 1024, (i 1).val % 512]) 1 : ℕ) = (i 1).val % 512 from at2_1 (by omega)]
      cases d <;> simp only [colo, if_true, if_false, Bool.false_eq_true, decide_eq_true_eq, decide_eq_false_iff_not] at hd ⊢ <;> omega
  rw [← sum_ring d (bk d 1 q) (fun e => hP I e i), ← hb, ← hb, ← hb, ← hb]
  generalize bk d 1 q = c at eq ⊢
  subst eq
  rfl

/-! ## The output -/

/-- The finished sum's row `r`, columns of direction `d`, with the rows of that direction and column `s` of `W2`. -/
def half (d : Bool) (c : Dev nD) (r s : ℕ) : EReal :=
  ∑ k : Fin 512, hT I (at_ S4096x1024 ![r, colo d + k.val]) * I.W2 c (at_ S1024x1024 ![colo d + k.val, s])

/-- The rows of `W2` that meet direction `d`, as the products take them. -/
def w2d (d : Bool) (c : Dev nD) : FVec Ideal S512x1024 .bf16 := if d then w2t I c else w2b I c

theorem w2d_at (d : Bool) (c : Dev nD) (k s : ℕ) (hk : k < 512) (hs : s < 1024) :
    w2d I d c (at_ S512x1024 ![k, s]) = I.W2 c (at_ S1024x1024 ![colo d + k, s]) := by
  have e0 : ((at_ S512x1024 ![k, s]) 0 : ℕ) = k := at2_0 hk
  have e1 : ((at_ S512x1024 ![k, s]) 1 : ℕ) = s := at2_1 hs
  cases d
  · unfold w2d w2b w2l k0_pay38; rw [cast_same]
    show I.W2 c _ = _
    rw [e0, e1]; rfl
  · unfold w2d w2t w2u k0_pay37; rw [cast_same]
    show I.W2 c _ = _
    rw [e0, e1]; exact congrArg (I.W2 c) (at2_congr (Nat.zero_add k).symm rfl)

/-- A product of 1024 rows of the finished sum. -/
theorem prod_half (d : Bool) (c : Dev nD) (r : ℕ) (l : FVec Ideal S1024x512 .bf16)
    (hl : ∀ a b, a < 1024 → b < 512 → l (at_ S1024x512 ![a, b]) = hT I (at_ S4096x1024 ![r + a, colo d + b]))
    (j : S1024x1024.Idx) :
    matmul dot_S1024x512_S512x1024_S1024x1024_1_0_0_1_n_n none l (w2d I d c) (constant S1024x1024 .f32 0x00000000#32) j
      = half I d c (r + (j 0).val) (j 1).val := by
  rw [dot2_plain]
  refine (matmul_at (φ₁ := .bf16) (φ₂ := .bf16) none (M := 1024) (K := 512) (N := 1024) _ _ _).trans (Finset.sum_congr rfl fun k _ => ?_)
  exact congrArg₂ (· * ·) (hl _ _ (lt0 j) k.isLt) (w2d_at I d c _ _ k.isLt (lt1 j))

/-- A product of 256 rows of the finished sum. -/
theorem prod_half_piece (d : Bool) (c : Dev nD) (r : ℕ) (l : FVec Ideal S256x512 .bf16)
    (hl : ∀ a b, a < 256 → b < 512 → l (at_ S256x512 ![a, b]) = hT I (at_ S4096x1024 ![r + a, colo d + b]))
    (j : S256x1024.Idx) :
    matmul dot_S256x512_S512x1024_S256x1024_1_0_0_1_n_n none l (w2d I d c) (constant S256x1024 .f32 0x00000000#32) j
      = half I d c (r + (j 0).val) (j 1).val := by
  rw [dot3_plain]
  refine (matmul_at (φ₁ := .bf16) (φ₂ := .bf16) none (M := 256) (K := 512) (N := 1024) _ _ _).trans (Finset.sum_congr rfl fun k _ => ?_)
  exact congrArg₂ (· * ·) (hl _ _ (lt0 j) k.isLt) (w2d_at I d c _ _ k.isLt (lt1 j))

theorem hcols_at (d : Bool) (q a b : ℕ) (ha : a < 1024) (hb : b < 512) :
    hcols I d q (at_ S1024x512 ![a, b]) = hT I (at_ S4096x1024 ![1024 * q + a, colo d + b]) := by
  unfold hcols
  rw [show ((at_ S1024x512 ![a, b]) 0 : ℕ) = a from at2_0 ha, show ((at_ S1024x512 ![a, b]) 1 : ℕ) = b from at2_1 hb]

theorem hpc_at (d : Bool) (q p a b : ℕ) (ha : a < 256) (hb : b < 512) :
    hpc I d q p (at_ S256x512 ![a, b]) = hT I (at_ S4096x1024 ![1024 * q + 256 * p + a, colo d + b]) := by
  unfold hpc
  rw [show ((at_ S256x512 ![a, b]) 0 : ℕ) = a from at2_0 ha, show ((at_ S256x512 ![a, b]) 1 : ℕ) = b from at2_1 hb]

/-- The last landing slot holds the finished sum of the chunk one ahead. -/
theorem rsl_at (d : Bool) (c : Dev nD) (h) (a b : ℕ) (ha : a < 1024) (hb : b < 512) :
    shapeCast S1024x512 (rsl I d c) h (at_ S1024x512 ![a, b]) = hT I (at_ S4096x1024 ![1024 * (nx d c).val + a, colo d + b]) := by
  refine (cast_drop (a := 1024) (b := 512) _ _ _).trans ?_
  rw [show ((at_ S1024x512 ![a, b]) 0 : ℕ) = a from at2_0 ha, show ((at_ S1024x512 ![a, b]) 1 : ℕ) = b from at2_1 hb]
  unfold rsl
  rw [show ((at_ S1x1024x512 ![0, a, b]) 1 : ℕ) = a from at3_1 ha, show ((at_ S1x1024x512 ![0, a, b]) 2 : ℕ) = b from at3_2 hb]
  have := hT_piece I d c (a / 256) (a % 256) b (by omega) (by omega) hb
  rw [show 256 * (a / 256) + a % 256 = a by omega, Nat.add_assoc, show 256 * (a / 256) + a % 256 = a by omega] at this
  exact this.symm

/-- What every entry of the output is to be. -/
def outAt (c : Dev nD) (r s : ℕ) : EReal := half I true c r s + half I false c r s

theorem vOwn_at (c : Dev nD) (a b : ℕ) (ha : a < 1024) (hb : b < 1024) :
    vOwn I c (at_ S1x1024x1024 ![0, a, b]) = outAt I c (1024 * c.val + a) b := by
  unfold vOwn k0_pay42 k0_pay41
  refine (cast_add (a := 1024) (b := 1024) _ _ _).trans ?_
  rw [show ((at_ S1x1024x1024 ![0, a, b]) 1 : ℕ) = a from at3_1 ha, show ((at_ S1x1024x1024 ![0, a, b]) 2 : ℕ) = b from at3_2 hb]
  have e0 : ((at_ S1024x1024 ![a, b]) 0 : ℕ) = a := at2_0 ha
  have e1 : ((at_ S1024x1024 ![a, b]) 1 : ℕ) = b := at2_1 hb
  have h1 := prod_half I true c (1024 * c.val) _ (hcols_at I true c.val) (at_ S1024x1024 ![a, b])
  have h2 := prod_half I false c (1024 * c.val) _ (hcols_at I false c.val) (at_ S1024x1024 ![a, b])
  rw [e0, e1] at h1 h2
  exact congrArg₂ (· + ·) h1 h2

theorem vUp_at (c : Dev nD) (a b : ℕ) (ha : a < 1024) (hb : b < 1024) :
    vUp I c (at_ S1x1024x1024 ![0, a, b]) = outAt I c (1024 * (bk true 3 c).val + a) b := by
  unfold vUp k0_pay46 k0_pay45 k0_pay39
  rw [cast_back (a := 1024) (b := 1024)]
  refine (cast_add (a := 1024) (b := 1024) _ _ _).trans ?_
  rw [show ((at_ S1x1024x1024 ![0, a, b]) 1 : ℕ) = a from at3_1 ha, show ((at_ S1x1024x1024 ![0, a, b]) 2 : ℕ) = b from at3_2 hb]
  have e0 : ((at_ S1024x1024 ![a, b]) 0 : ℕ) = a := at2_0 ha
  have e1 : ((at_ S1024x1024 ![a, b]) 1 : ℕ) = b := at2_1 hb
  have h1 := prod_half I true c (1024 * (nx true c).val) _ (rsl_at I true c shapeCasts_S1x1024x512_S1024x512) (at_ S1024x1024 ![a, b])
  have h2 := prod_half I false c (1024 * (bk true 3 c).val) _ (hcols_at I false (bk true 3 c).val) (at_ S1024x1024 ![a, b])
  rw [← bk_three] at h1
  rw [e0, e1] at h1 h2
  exact congrArg₂ (· + ·) h1 h2

theorem vDn_at (c : Dev nD) (a b : ℕ) (ha : a < 1024) (hb : b < 1024) :
    vDn I c (at_ S1x1024x1024 ![0, a, b]) = outAt I c (1024 * (bk true 1 c).val + a) b := by
  unfold vDn k0_pay44 k0_pay43 k0_pay40
  rw [cast_back (a := 1024) (b := 1024)]
  refine (cast_add (a := 1024) (b := 1024) _ _ _).trans ?_
  rw [show ((at_ S1x1024x1024 ![0, a, b]) 1 : ℕ) = a from at3_1 ha, show ((at_ S1x1024x1024 ![0, a, b]) 2 : ℕ) = b from at3_2 hb]
  have e0 : ((at_ S1024x1024 ![a, b]) 0 : ℕ) = a := at2_0 ha
  have e1 : ((at_ S1024x1024 ![a, b]) 1 : ℕ) = b := at2_1 hb
  have h1 := prod_half I false c (1024 * (nx false c).val) _ (rsl_at I false c shapeCasts_S1x1024x512_S1024x512) (at_ S1024x1024 ![a, b])
  have h2 := prod_half I true c (1024 * (bk true 1 c).val) _ (hcols_at I true (bk true 1 c).val) (at_ S1024x1024 ![a, b])
  rw [e0, e1] at h1 h2
  exact (congrArg₂ (· + ·) h1 h2).trans (add_comm _ _)

theorem vOpp_at (c : Dev nD) (p a b : ℕ) (ha : a < 256) (hb : b < 1024) :
    vOpp I c p (at_ S1x256x1024 ![0, a, b]) = outAt I c (1024 * (bk true 2 c).val + 256 * p + a) b := by
  unfold vOpp k0_pay47
  refine (cast_add (a := 256) (b := 1024) _ _ _).trans ?_
  rw [show ((at_ S1x256x1024 ![0, a, b]) 1 : ℕ) = a from at3_1 ha, show ((at_ S1x256x1024 ![0, a, b]) 2 : ℕ) = b from at3_2 hb]
  have e0 : ((at_ S256x1024 ![a, b]) 0 : ℕ) = a := at2_0 ha
  have e1 : ((at_ S256x1024 ![a, b]) 1 : ℕ) = b := at2_1 hb
  have h1 := prod_half_piece I true c (1024 * (bk true 2 c).val + 256 * p) _ (hpc_at I true (bk true 2 c).val p) (at_ S256x1024 ![a, b])
  have h2 := prod_half_piece I false c (1024 * (bk true 2 c).val + 256 * p) _ (hpc_at I false (bk true 2 c).val p) (at_ S256x1024 ![a, b])
  rw [e0, e1] at h1 h2
  exact congrArg₂ (· + ·) h1 h2

/-- Every entry of the output. -/
theorem outC_at (c : Dev nD) (i : S4096x1024.Idx) : outC I c i = outAt I c (i 0).val (i 1).val := by
  have h0 := lt0 i; have h1 := lt1 i
  unfold outC
  split
  next h =>
    rw [vOpp_at I c _ _ _ (by omega) h1]
    congr 1; omega
  next h2 =>
    unfold vChunk
    have hm : ∀ q : ℕ, (i 0).val / 1024 = q → 1024 * q + (i 0).val % 1024 = (i 0).val := fun q hq => by omega
    by_cases hc : (i 0).val / 1024 = c.val
    · rw [if_pos hc, if_pos rfl, vOwn_at I c _ _ (by omega) h1, hm _ hc]
    · rw [if_neg hc]
      by_cases hb : (i 0).val / 1024 = (bk true 1 c).val
      · rw [if_pos hb, if_neg (by decide), if_pos rfl, vDn_at I c _ _ (by omega) h1, hm _ hb]
      · rw [if_neg hb, if_neg (by decide), if_neg (by decide), vUp_at I c _ _ (by omega) h1, hm]
        obtain ⟨j, hj⟩ := bk_cover true c (devOf ((i 0).val / 1024))
        have hv : (devOf ((i 0).val / 1024)).val = (i 0).val / 1024 := Nat.mod_eq_of_lt (by omega)
        rw [← hj] at hv
        fin_cases j
        exacts [absurd hv.symm hc, absurd hv.symm hb, absurd hv.symm h2, hv.symm]

/-- Both halves are the whole hidden width. -/
theorem outAt_sum (c : Dev nD) (r s : ℕ) :
    outAt I c r s = ∑ k : Fin 1024, hT I (at_ S4096x1024 ![r, k.val]) * I.W2 c (at_ S1024x1024 ![k.val, s]) := by
  refine Eq.trans ?_ (Fin.sum_univ_add (a := 512) (b := 512)
    (fun k : Fin (512 + 512) => hT I (at_ S4096x1024 ![r, k.val]) * I.W2 c (at_ S1024x1024 ![k.val, s]))).symm
  refine congrArg₂ (· + ·) (Finset.sum_congr rfl fun k _ => ?_) (Finset.sum_congr rfl fun k _ => ?_)
  · rw [show colo true + k.val = k.val from Nat.zero_add _]; rfl
  · rfl

end Cert.Mlp

end
-- ==== Proof.Value.lean ====
/-
# The value claim

The reference's value (`whole`) read at an index is a double sum, over the hidden columns and the columns of `x`. The
columns of `x` are the four devices' columns one after another, so that sum is the kernel's sum over the devices; and
a device's columns of `W2` give its columns of the result.
-/
module

public import proofs.«01_k».proof.Proof.Sums
public import proofs.«01_k».proof.Proof.Frames
public import Idealize.ShloMosaic.Lib.StackMember
public import Idealize.ShloMosaic.Lib.Pipeline.ValueKit.Acc

@[expose] public section

noncomputable section

namespace Cert.Mlp

open Idealize.ShloMosaic Idealize.SL.Sem
open Cert.KernelIdeal
open scoped BigOperators

instance : Full ⟨2, ![4096, 4096]⟩ := ⟨by decide⟩
instance : Full ⟨2, ![1024, 4096]⟩ := ⟨by decide⟩

/-- A product on the host is the sum of products. -/
theorem dotGeneral_at {M K N : ℕ} [Full ⟨2, ![M, K]⟩] [Full ⟨2, ![K, N]⟩] {φ₁ φ₂ : FTy} (prec : Option ContractPrecision)
    (lhs : FVec Ideal ⟨2, ![M, K]⟩ φ₁) (rhs : FVec Ideal ⟨2, ![K, N]⟩ φ₂) (j : (⟨2, ![M, N]⟩ : Shape).Idx) :
    Host.dotGeneral (DotDims.plain M K N) prec lhs rhs j
      = ∑ k : Fin K, lhs (at_ ⟨2, ![M, K]⟩ ![(j 0).val, k.val]) * rhs (at_ ⟨2, ![K, N]⟩ ![k.val, (j 1).val]) := by
  obtain ⟨x, y, rfl⟩ : ∃ (x : Fin M) (y : Fin N), j = ValueIdx.ix2 x y := ⟨j 0, j 1, ValueIdx.eq_ix2 j⟩
  refine (StackMember.dotGeneral_plain_apply prec lhs rhs x y).trans (Finset.sum_congr rfl fun k _ => ?_)
  rw [eq_at2 (ValueIdx.ix2 x k) x.val k.val rfl rfl, eq_at2 (ValueIdx.ix2 k y) k.val y.val rfl rfl]
  rfl

section

open Cert.ReferenceIdeal.Gen

theorem dotA_plain : Cert.ReferenceIdeal.dot_S4096x4096_S4096x1024_S4096x1024_1_0_0_1_n_n = DotDims.plain 4096 4096 1024 := rfl
theorem dotB_plain : Cert.ReferenceIdeal.dot_S4096x1024_S1024x4096_S4096x4096_1_0_0_1_n_n = DotDims.plain 4096 1024 4096 := rfl

/-- The reference's value, of the whole arrays. -/
def whole (x : FVec Ideal ⟨2, ![4096, 4096]⟩ .f32) (w1 : FVec Ideal ⟨2, ![4096, 1024]⟩ .bf16) (w2 : FVec Ideal ⟨2, ![1024, 4096]⟩ .bf16) :
    FVec Ideal ⟨2, ![4096, 4096]⟩ .bf16 :=
  truncf .bf16 (Host.dotGeneral Cert.ReferenceIdeal.dot_S4096x1024_S1024x4096_S4096x4096_1_0_0_1_n_n none
    (Host.dotGeneral Cert.ReferenceIdeal.dot_S4096x4096_S4096x1024_S4096x1024_1_0_0_1_n_n none x (extf .f32 w1 bitsLt_bf16_f32))
    (extf .f32 w2 bitsLt_bf16_f32)) bitsLt_bf16_f32

/-- Its entry: the double sum. -/
theorem whole_at (x : FVec Ideal ⟨2, ![4096, 4096]⟩ .f32) (w1 : FVec Ideal ⟨2, ![4096, 1024]⟩ .bf16) (w2 : FVec Ideal ⟨2, ![1024, 4096]⟩ .bf16)
    (i : (⟨2, ![4096, 4096]⟩ : Shape).Idx) :
    whole x w1 w2 i = ∑ k : Fin 1024,
      (∑ l : Fin 4096, x (at_ ⟨2, ![4096, 4096]⟩ ![(i 0).val, l.val]) * w1 (at_ ⟨2, ![4096, 1024]⟩ ![l.val, k.val]))
        * w2 (at_ ⟨2, ![1024, 4096]⟩ ![k.val, (i 1).val]) := by
  unfold whole
  rw [dotA_plain, dotB_plain]
  refine (dotGeneral_at (φ₁ := .f32) (φ₂ := .f32) none (M := 4096) (K := 1024) (N := 4096) _ _ i).trans
    (Finset.sum_congr rfl fun k _ => congrArg (· * _) ?_)
  refine (dotGeneral_at (φ₁ := .f32) (φ₂ := .f32) none (M := 4096) (K := 4096) (N := 1024) _ _ _).trans
    (Finset.sum_congr rfl fun l _ => ?_)
  rw [show ((at_ ⟨2, ![4096, 1024]⟩ ![(i 0).val, k.val]) 0 : ℕ) = (i 0).val from at2_0 (lt0 i),
    show ((at_ ⟨2, ![4096, 1024]⟩ ![(i 0).val, k.val]) 1 : ℕ) = k.val from at2_1 k.isLt]
  rfl

end

/-- The devices' outputs are the blocks of the reference's value, when their arguments are the blocks of the whole
    arguments: `x` cut by columns, `W1` by rows, `W2` by columns. -/
theorem outC_block (I : Inp Ideal) (x : FVec Ideal ⟨2, ![4096, 4096]⟩ .f32) (w1 : FVec Ideal ⟨2, ![4096, 1024]⟩ .bf16)
    (w2 : FVec Ideal ⟨2, ![1024, 4096]⟩ .bf16)
    (hX : ∀ c : Dev nD, I.X c = Layout.block ⟨2, ![4096, 1024]⟩ ⟨2, ![4096, 4096]⟩ 1 4 c x)
    (hW1 : ∀ c : Dev nD, I.W1 c = Layout.block ⟨2, ![1024, 1024]⟩ ⟨2, ![4096, 1024]⟩ 0 4 c w1)
    (hW2 : ∀ c : Dev nD, I.W2 c = Layout.block ⟨2, ![1024, 1024]⟩ ⟨2, ![1024, 4096]⟩ 1 4 c w2) (c : Dev nD) :
    outC I c = Layout.block ⟨2, ![4096, 1024]⟩ ⟨2, ![4096, 4096]⟩ 1 4 c (whole x w1 w2) := by
  funext i
  have h0 := lt0 i; have h1 := lt1 i; have hc := dev_lt c
  rw [Layout.block_apply, outC_at, outAt_sum]
  refine Eq.trans ?_ (whole_at x w1 w2 _).symm
  refine Finset.sum_congr rfl fun k _ => congrArg₂ (· * ·) ?_ ?_
  · rw [hT_sum]
    refine Eq.trans ?_ (Fin.sum_univ_univ_mul_add 4 1024 fun l =>
      x (at_ ⟨2, ![4096, 4096]⟩ ![(i 0).val, l]) * w1 (at_ ⟨2, ![4096, 1024]⟩ ![l, k.val]))
    refine Finset.sum_congr rfl fun e _ => (hP_sum I e _).trans (Finset.sum_congr rfl fun l _ => ?_)
    rw [show ((at_ S4096x1024 ![(i 0).val, k.val]) 0 : ℕ) = (i 0).val from at2_0 h0,
      show ((at_ S4096x1024 ![(i 0).val, k.val]) 1 : ℕ) = k.val from at2_1 k.isLt, hX, hW1, Layout.block_apply, Layout.block_apply]
    refine congrArg₂ (· * ·) (congrArg x (eq_at2 _ _ _ ?_ ?_)) (congrArg w1 (eq_at2 _ _ _ ?_ ?_))
    · exact at2_0 h0
    · exact congrArg (e.val * 1024 + ·) (at2_1 l.isLt)
    · exact congrArg (e.val * 1024 + ·) (at2_0 l.isLt)
    · exact at2_1 k.isLt
  · rw [hW2, Layout.block_apply]
    refine congrArg w2 (eq_at2 _ _ _ ?_ ?_)
    · exact at2_0 k.isLt
    · exact congrArg (c.val * 1024 + ·) (at2_1 h1)

section

variable {F : FTy → Type} [FloatOps F] (m : (ℓ : Loc nD τ sig) → Buf (Elt F) ℓ)

/-- The staged weights are the arguments' whole arrays. -/
theorem inp_W1 (c : Dev nD) : (inp m).W1 c = m ((c.tc : Thread nD τ).loc main_arg1) := by
  funext j
  show m ((c.tc : Thread nD τ).loc main_arg1) ((win0_0.blk (0 : Fin 1)).view.emb j) = _
  refine congrArg (m _) (funext fun a => Fin.ext ?_)
  show 0 * _ + 1 * (j a).val = (j a).val
  rw [Nat.zero_mul, Nat.zero_add, Nat.one_mul]
theorem inp_W2 (c : Dev nD) : (inp m).W2 c = m ((c.tc : Thread nD τ).loc main_arg2) := by
  funext j
  show m ((c.tc : Thread nD τ).loc main_arg2) ((win0_1.blk (0 : Fin 1)).view.emb j) = _
  refine congrArg (m _) (funext fun a => Fin.ext ?_)
  show 0 * _ + 1 * (j a).val = (j a).val
  rw [Nat.zero_mul, Nat.zero_add, Nat.one_mul]

end

attribute [local instance] Cert.Kernel.Gen.facts Cert.KernelIdeal.Gen.facts Cert.ReferenceIdeal.Gen.facts

/-- Kernel and reference compute the same function over the extended reals. -/
theorem algebraic : Cert.algebraic_KernelIdeal_ReferenceIdeal := fun m g m' g' _ h =>
  ⟨whole _ _ _,
    (θ_run Cert.KernelIdeal.defs _ _).mono
      (fun _ f c => ⟨(f.2 c).2.2.2.trans (outC_block (inp m) _ _ _ (fun c => (h c).1) (fun c => (inp_W1 m c).trans (h c).2.1)
        (fun c => (inp_W2 m c).trans (h c).2.2) c), (f.2 c).1, (f.2 c).2.1, (f.2 c).2.2.1⟩)
      (run_main m g),
    (θ_run Cert.ReferenceIdeal.defs _ _).mono (fun _ f => f 0) (Cert.ReferenceIdeal.Value.run (F := Ideal) m' g')⟩

end Cert.Mlp

end
-- ==== Proof.lean ====
/-
# The certificate

The kernel is a product of two matrices with a weight in between, spread over four devices: each multiplies its columns
of `x` with its rows of `W1`, the products are summed round the ring, and each device multiplies the sum with its columns
of `W2`. Its run is in `Cert.Mlp`, from `Ring` (the ring of devices) over `Sched` (who pays which semaphore, and what for)
to `Launch` (`run_main`, the run from any memory). The frames are in `Frames`, the equation with the reference over the
reals in `Sums` and `Value`.
-/
module

public import proofs.«01_k».proof.Defs
public import proofs.«01_k».proof.Proof.Gen.ReferenceIdeal.Run
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts,
  Cert.Mlp.frame_kernel, Cert.Mlp.frame_kernelIdeal, Cert.Mlp.frame_reference, trivial, Cert.Mlp.algebraic⟩

end Cert.Proof

end
